-- ==== Defs.lean ====
def Pre_Rotate (m : (ℓ : Loc Cert.Rotate.nD Cert.Rotate.τ Cert.Rotate.sig) → Buf (Elt Bits) ℓ) : Prop :=
  True

def Pre_RotateIdeal (m : (ℓ : Loc Cert.RotateIdeal.nD Cert.RotateIdeal.τ Cert.RotateIdeal.sig) → Buf (Elt Ideal) ℓ) : Prop :=
  True

def Pre_RotateRefIdeal (m : (ℓ : Loc Cert.RotateRefIdeal.nD Cert.RotateRefIdeal.τ Cert.RotateRefIdeal.sig) → Buf (Elt Ideal) ℓ) : Prop :=
  True

def Pre_Power (m : (ℓ : Loc Cert.Power.nD Cert.Power.τ Cert.Power.sig) → Buf (Elt Bits) ℓ) : Prop :=
  True

def Pre_PowerIdeal (m : (ℓ : Loc Cert.PowerIdeal.nD Cert.PowerIdeal.τ Cert.PowerIdeal.sig) → Buf (Elt Ideal) ℓ) : Prop :=
  True

def Pre_PowerIdeal_finite_stat [hPre_finite_stat : Cert.Pre_finite_stat.Facts] (m : (ℓ : Loc Cert.PowerIdeal.nD Cert.PowerIdeal.τ Cert.PowerIdeal.sig) → Buf (Elt Ideal) ℓ) : Prop :=
  ∀ c : Dev Cert.PowerIdeal.nD,
    (Cert.Pre_finite_stat.fn (F := Ideal) (m ((c.tc : Thread Cert.PowerIdeal.nD Cert.PowerIdeal.τ).loc Cert.PowerIdeal.main_arg0)) (m ((c.tc : Thread Cert.PowerIdeal.nD Cert.PowerIdeal.τ).loc Cert.PowerIdeal.main_arg1))) = (fun _ => 1#1)

def Pre_PowerRefIdeal (m : (ℓ : Loc Cert.PowerRefIdeal.nD Cert.PowerRefIdeal.τ Cert.PowerRefIdeal.sig) → Buf (Elt Ideal) ℓ) : Prop :=
  True

def Pre_PowerRefIdeal_finite_stat [hPre_finite_stat : Cert.Pre_finite_stat.Facts] (m : (ℓ : Loc Cert.PowerRefIdeal.nD Cert.PowerRefIdeal.τ Cert.PowerRefIdeal.sig) → Buf (Elt Ideal) ℓ) : Prop :=
  ∀ c : Dev Cert.PowerRefIdeal.nD,
    (Cert.Pre_finite_stat.fn (F := Ideal) (m ((c.tc : Thread Cert.PowerRefIdeal.nD Cert.PowerRefIdeal.τ).loc Cert.PowerRefIdeal.main_arg0)) (m ((c.tc : Thread Cert.PowerRefIdeal.nD Cert.PowerRefIdeal.τ).loc Cert.PowerRefIdeal.main_arg1))) = (fun _ => 1#1)

def Pre_PowerRight (m : (ℓ : Loc Cert.PowerRight.nD Cert.PowerRight.τ Cert.PowerRight.sig) → Buf (Elt Bits) ℓ) : Prop :=
  True

def Pre_PowerRightIdeal (m : (ℓ : Loc Cert.PowerRightIdeal.nD Cert.PowerRightIdeal.τ Cert.PowerRightIdeal.sig) → Buf (Elt Ideal) ℓ) : Prop :=
  True

def Pre_PowerRightIdeal_finite_right [hPre_finite_right : Cert.Pre_finite_right.Facts] (m : (ℓ : Loc Cert.PowerRightIdeal.nD Cert.PowerRightIdeal.τ Cert.PowerRightIdeal.sig) → Buf (Elt Ideal) ℓ) : Prop :=
  ∀ c : Dev Cert.PowerRightIdeal.nD,
    (Cert.Pre_finite_right.fn (F := Ideal) (m ((c.tc : Thread Cert.PowerRightIdeal.nD Cert.PowerRightIdeal.τ).loc Cert.PowerRightIdeal.main_arg0)) (m ((c.tc : Thread Cert.PowerRightIdeal.nD Cert.PowerRightIdeal.τ).loc Cert.PowerRightIdeal.main_arg1))) = (fun _ => 1#1)

def Pre_PowerRightRefIdeal (m : (ℓ : Loc Cert.PowerRightRefIdeal.nD Cert.PowerRightRefIdeal.τ Cert.PowerRightRefIdeal.sig) → Buf (Elt Ideal) ℓ) : Prop :=
  True

def Pre_PowerRightRefIdeal_finite_right [hPre_finite_right : Cert.Pre_finite_right.Facts] (m : (ℓ : Loc Cert.PowerRightRefIdeal.nD Cert.PowerRightRefIdeal.τ Cert.PowerRightRefIdeal.sig) → Buf (Elt Ideal) ℓ) : Prop :=
  ∀ c : Dev Cert.PowerRightRefIdeal.nD,
    (Cert.Pre_finite_right.fn (F := Ideal) (m ((c.tc : Thread Cert.PowerRightRefIdeal.nD Cert.PowerRightRefIdeal.τ).loc Cert.PowerRightRefIdeal.main_arg0)) (m ((c.tc : Thread Cert.PowerRightRefIdeal.nD Cert.PowerRightRefIdeal.τ).loc Cert.PowerRightRefIdeal.main_arg1))) = (fun _ => 1#1)

def Pre_Solve (m : (ℓ : Loc Cert.Solve.nD Cert.Solve.τ Cert.Solve.sig) → Buf (Elt Bits) ℓ) : Prop :=
  True

def Pre_SolveIdeal (m : (ℓ : Loc Cert.SolveIdeal.nD Cert.SolveIdeal.τ Cert.SolveIdeal.sig) → Buf (Elt Ideal) ℓ) : Prop :=
  True

def Pre_SolveIdeal_finite_system [hPre_finite_system : Cert.Pre_finite_system.Facts] (m : (ℓ : Loc Cert.SolveIdeal.nD Cert.SolveIdeal.τ Cert.SolveIdeal.sig) → Buf (Elt Ideal) ℓ) : Prop :=
  ∀ c : Dev Cert.SolveIdeal.nD,
    (Cert.Pre_finite_system.fn (F := Ideal) (m ((c.tc : Thread Cert.SolveIdeal.nD Cert.SolveIdeal.τ).loc Cert.SolveIdeal.main_arg0)) (m ((c.tc : Thread Cert.SolveIdeal.nD Cert.SolveIdeal.τ).loc Cert.SolveIdeal.main_arg1)) (m ((c.tc : Thread Cert.SolveIdeal.nD Cert.SolveIdeal.τ).loc Cert.SolveIdeal.main_arg2)) (m ((c.tc : Thread Cert.SolveIdeal.nD Cert.SolveIdeal.τ).loc Cert.SolveIdeal.main_arg3)) (m ((c.tc : Thread Cert.SolveIdeal.nD Cert.SolveIdeal.τ).loc Cert.SolveIdeal.main_arg4)) (m ((c.tc : Thread Cert.SolveIdeal.nD Cert.SolveIdeal.τ).loc Cert.SolveIdeal.main_arg5)) (m ((c.tc : Thread Cert.SolveIdeal.nD Cert.SolveIdeal.τ).loc Cert.SolveIdeal.main_arg6)) (m ((c.tc : Thread Cert.SolveIdeal.nD Cert.SolveIdeal.τ).loc Cert.SolveIdeal.main_arg7)) (m ((c.tc : Thread Cert.SolveIdeal.nD Cert.SolveIdeal.τ).loc Cert.SolveIdeal.main_arg8)) (m ((c.tc : Thread Cert.SolveIdeal.nD Cert.SolveIdeal.τ).loc Cert.SolveIdeal.main_arg9)) (m ((c.tc : Thread Cert.SolveIdeal.nD Cert.SolveIdeal.τ).loc Cert.SolveIdeal.main_arg10)) (m ((c.tc : Thread Cert.SolveIdeal.nD Cert.SolveIdeal.τ).loc Cert.SolveIdeal.main_arg11)) (m ((c.tc : Thread Cert.SolveIdeal.nD Cert.SolveIdeal.τ).loc Cert.SolveIdeal.main_arg12)) (m ((c.tc : Thread Cert.SolveIdeal.nD Cert.SolveIdeal.τ).loc Cert.SolveIdeal.main_arg13)) (m ((c.tc : Thread Cert.SolveIdeal.nD Cert.SolveIdeal.τ).loc Cert.SolveIdeal.main_arg14)) (m ((c.tc : Thread Cert.SolveIdeal.nD Cert.SolveIdeal.τ).loc Cert.SolveIdeal.main_arg15)) (m ((c.tc : Thread Cert.SolveIdeal.nD Cert.SolveIdeal.τ).loc Cert.SolveIdeal.main_arg16)) (m ((c.tc : Thread Cert.SolveIdeal.nD Cert.SolveIdeal.τ).loc Cert.SolveIdeal.main_arg17)) (m ((c.tc : Thread Cert.SolveIdeal.nD Cert.SolveIdeal.τ).loc Cert.SolveIdeal.main_arg18)) (m ((c.tc : Thread Cert.SolveIdeal.nD Cert.SolveIdeal.τ).loc Cert.SolveIdeal.main_arg19)) (m ((c.tc : Thread Cert.SolveIdeal.nD Cert.SolveIdeal.τ).loc Cert.SolveIdeal.main_arg20)) (m ((c.tc : Thread Cert.SolveIdeal.nD Cert.SolveIdeal.τ).loc Cert.SolveIdeal.main_arg21)) (m ((c.tc : Thread Cert.SolveIdeal.nD Cert.SolveIdeal.τ).loc Cert.SolveIdeal.main_arg22)) (m ((c.tc : Thread Cert.SolveIdeal.nD Cert.SolveIdeal.τ).loc Cert.SolveIdeal.main_arg23))) = (fun _ => 1#1)

def Pre_SolveRefIdeal (m : (ℓ : Loc Cert.SolveRefIdeal.nD Cert.SolveRefIdeal.τ Cert.SolveRefIdeal.sig) → Buf (Elt Ideal) ℓ) : Prop :=
  True

def Pre_SolveRefIdeal_finite_system [hPre_finite_system : Cert.Pre_finite_system.Facts] (m : (ℓ : Loc Cert.SolveRefIdeal.nD Cert.SolveRefIdeal.τ Cert.SolveRefIdeal.sig) → Buf (Elt Ideal) ℓ) : Prop :=
  ∀ c : Dev Cert.SolveRefIdeal.nD,
    (Cert.Pre_finite_system.fn (F := Ideal) (m ((c.tc : Thread Cert.SolveRefIdeal.nD Cert.SolveRefIdeal.τ).loc Cert.SolveRefIdeal.main_arg0)) (m ((c.tc : Thread Cert.SolveRefIdeal.nD Cert.SolveRefIdeal.τ).loc Cert.SolveRefIdeal.main_arg1)) (m ((c.tc : Thread Cert.SolveRefIdeal.nD Cert.SolveRefIdeal.τ).loc Cert.SolveRefIdeal.main_arg2)) (m ((c.tc : Thread Cert.SolveRefIdeal.nD Cert.SolveRefIdeal.τ).loc Cert.SolveRefIdeal.main_arg3)) (m ((c.tc : Thread Cert.SolveRefIdeal.nD Cert.SolveRefIdeal.τ).loc Cert.SolveRefIdeal.main_arg4)) (m ((c.tc : Thread Cert.SolveRefIdeal.nD Cert.SolveRefIdeal.τ).loc Cert.SolveRefIdeal.main_arg5)) (m ((c.tc : Thread Cert.SolveRefIdeal.nD Cert.SolveRefIdeal.τ).loc Cert.SolveRefIdeal.main_arg6)) (m ((c.tc : Thread Cert.SolveRefIdeal.nD Cert.SolveRefIdeal.τ).loc Cert.SolveRefIdeal.main_arg7)) (m ((c.tc : Thread Cert.SolveRefIdeal.nD Cert.SolveRefIdeal.τ).loc Cert.SolveRefIdeal.main_arg8)) (m ((c.tc : Thread Cert.SolveRefIdeal.nD Cert.SolveRefIdeal.τ).loc Cert.SolveRefIdeal.main_arg9)) (m ((c.tc : Thread Cert.SolveRefIdeal.nD Cert.SolveRefIdeal.τ).loc Cert.SolveRefIdeal.main_arg10)) (m ((c.tc : Thread Cert.SolveRefIdeal.nD Cert.SolveRefIdeal.τ).loc Cert.SolveRefIdeal.main_arg11)) (m ((c.tc : Thread Cert.SolveRefIdeal.nD Cert.SolveRefIdeal.τ).loc Cert.SolveRefIdeal.main_arg12)) (m ((c.tc : Thread Cert.SolveRefIdeal.nD Cert.SolveRefIdeal.τ).loc Cert.SolveRefIdeal.main_arg13)) (m ((c.tc : Thread Cert.SolveRefIdeal.nD Cert.SolveRefIdeal.τ).loc Cert.SolveRefIdeal.main_arg14)) (m ((c.tc : Thread Cert.SolveRefIdeal.nD Cert.SolveRefIdeal.τ).loc Cert.SolveRefIdeal.main_arg15)) (m ((c.tc : Thread Cert.SolveRefIdeal.nD Cert.SolveRefIdeal.τ).loc Cert.SolveRefIdeal.main_arg16)) (m ((c.tc : Thread Cert.SolveRefIdeal.nD Cert.SolveRefIdeal.τ).loc Cert.SolveRefIdeal.main_arg17)) (m ((c.tc : Thread Cert.SolveRefIdeal.nD Cert.SolveRefIdeal.τ).loc Cert.SolveRefIdeal.main_arg18)) (m ((c.tc : Thread Cert.SolveRefIdeal.nD Cert.SolveRefIdeal.τ).loc Cert.SolveRefIdeal.main_arg19)) (m ((c.tc : Thread Cert.SolveRefIdeal.nD Cert.SolveRefIdeal.τ).loc Cert.SolveRefIdeal.main_arg20)) (m ((c.tc : Thread Cert.SolveRefIdeal.nD Cert.SolveRefIdeal.τ).loc Cert.SolveRefIdeal.main_arg21)) (m ((c.tc : Thread Cert.SolveRefIdeal.nD Cert.SolveRefIdeal.τ).loc Cert.SolveRefIdeal.main_arg22)) (m ((c.tc : Thread Cert.SolveRefIdeal.nD Cert.SolveRefIdeal.τ).loc Cert.SolveRefIdeal.main_arg23))) = (fun _ => 1#1)

def quiescent_Rotate [hRotate : Cert.Rotate.Facts] : Prop :=
  ∀ (m : (ℓ : Loc Cert.Rotate.nD Cert.Rotate.τ Cert.Rotate.sig) → Buf (Elt Bits) ℓ) (g : Dev Cert.Rotate.nD → PrngReg), Pre_Rotate m →
    θ_run (Cert.Rotate.defs (F := Bits)) (onTc (τ := Cert.Rotate.τ) (Cert.Rotate.main (F := Bits))) ⟨m, fun _ => 0, g⟩ (fun r => (∀ c : Dev Cert.Rotate.nD,
      r.2.mem ((c.tc : Thread Cert.Rotate.nD Cert.Rotate.τ).loc Cert.Rotate.main_arg0) = m ((c.tc : Thread Cert.Rotate.nD Cert.Rotate.τ).loc Cert.Rotate.main_arg0)
      ∧ r.2.mem ((c.tc : Thread Cert.Rotate.nD Cert.Rotate.τ).loc Cert.Rotate.main_arg1) = m ((c.tc : Thread Cert.Rotate.nD Cert.Rotate.τ).loc Cert.Rotate.main_arg1)
      ∧ r.2.mem ((c.tc : Thread Cert.Rotate.nD Cert.Rotate.τ).loc Cert.Rotate.main_arg2) = m ((c.tc : Thread Cert.Rotate.nD Cert.Rotate.τ).loc Cert.Rotate.main_arg2)
      ∧ r.2.mem ((c.tc : Thread Cert.Rotate.nD Cert.Rotate.τ).loc Cert.Rotate.main_arg3) = m ((c.tc : Thread Cert.Rotate.nD Cert.Rotate.τ).loc Cert.Rotate.main_arg3)
      ∧ r.2.mem ((c.tc : Thread Cert.Rotate.nD Cert.Rotate.τ).loc Cert.Rotate.main_arg4) = m ((c.tc : Thread Cert.Rotate.nD Cert.Rotate.τ).loc Cert.Rotate.main_arg4)
      ∧ r.2.mem ((c.tc : Thread Cert.Rotate.nD Cert.Rotate.τ).loc Cert.Rotate.main_arg5) = m ((c.tc : Thread Cert.Rotate.nD Cert.Rotate.τ).loc Cert.Rotate.main_arg5))
      ∧ r.2.sem = fun _ => 0)

def quiescent_RotateIdeal [hRotateIdeal : Cert.RotateIdeal.Facts] : Prop :=
  ∀ (m : (ℓ : Loc Cert.RotateIdeal.nD Cert.RotateIdeal.τ Cert.RotateIdeal.sig) → Buf (Elt Ideal) ℓ) (g : Dev Cert.RotateIdeal.nD → PrngReg), Pre_RotateIdeal m →
    θ_run (Cert.RotateIdeal.defs (F := Ideal)) (onTc (τ := Cert.RotateIdeal.τ) (Cert.RotateIdeal.main (F := Ideal))) ⟨m, fun _ => 0, g⟩ (fun r => (∀ c : Dev Cert.RotateIdeal.nD,
      r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
      ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1)
      ∧ r.2.mem ((c.tc : Thread Cert.RotateIdeal.nD Cert.RotateIdeal.τ).loc Cert.RotateIdeal.main_arg2) = m ((c.tc : Thread Cert.RotateIdeal.nD Cert.RotateIdeal.τ).loc Cert.RotateIdeal.main_arg2)
      ∧ r.2.mem ((c.tc : Thread Cert.RotateIdeal.nD Cert.RotateIdeal.τ).loc Cert.RotateIdeal.main_arg3) = m ((c.tc : Thread Cert.RotateIdeal.nD Cert.RotateIdeal.τ).loc Cert.RotateIdeal.main_arg3)
      ∧ r.2.mem ((c.tc : Thread Cert.RotateIdeal.nD Cert.RotateIdeal.τ).loc Cert.RotateIdeal.main_arg4) = m ((c.tc : Thread Cert.RotateIdeal.nD Cert.RotateIdeal.τ).loc Cert.RotateIdeal.main_arg4)
      ∧ r.2.mem ((c.tc : Thread Cert.RotateIdeal.nD Cert.RotateIdeal.τ).loc Cert.RotateIdeal.main_arg5) = m ((c.tc : Thread Cert.RotateIdeal.nD Cert.RotateIdeal.τ).loc Cert.RotateIdeal.main_arg5))
      ∧ r.2.sem = fun _ => 0)

def quiescent_RotateRefIdeal [hRotateRefIdeal : Cert.RotateRefIdeal.Facts] : Prop :=
  ∀ (m : (ℓ : Loc Cert.RotateRefIdeal.nD Cert.RotateRefIdeal.τ Cert.RotateRefIdeal.sig) → Buf (Elt Ideal) ℓ) (g : Dev Cert.RotateRefIdeal.nD → PrngReg), Pre_RotateRefIdeal m →
    θ_run (Cert.RotateRefIdeal.defs (F := Ideal)) (onTc (τ := Cert.RotateRefIdeal.τ) (Cert.RotateRefIdeal.main (F := Ideal))) ⟨m, fun _ => 0, g⟩ (fun r => (∀ c : Dev Cert.RotateRefIdeal.nD,
      r.2.mem ((c.tc : Thread Cert.RotateRefIdeal.nD Cert.RotateRefIdeal.τ).loc Cert.RotateRefIdeal.main_arg0) = m ((c.tc : Thread Cert.RotateRefIdeal.nD Cert.RotateRefIdeal.τ).loc Cert.RotateRefIdeal.main_arg0)
      ∧ r.2.mem ((c.tc : Thread Cert.RotateRefIdeal.nD Cert.RotateRefIdeal.τ).loc Cert.RotateRefIdeal.main_arg1) = m ((c.tc : Thread Cert.RotateRefIdeal.nD Cert.RotateRefIdeal.τ).loc Cert.RotateRefIdeal.main_arg1)
      ∧ r.2.mem ((c.tc : Thread Cert.RotateRefIdeal.nD Cert.RotateRefIdeal.τ).loc Cert.RotateRefIdeal.main_arg2) = m ((c.tc : Thread Cert.RotateRefIdeal.nD Cert.RotateRefIdeal.τ).loc Cert.RotateRefIdeal.main_arg2)
      ∧ r.2.mem ((c.tc : Thread Cert.RotateRefIdeal.nD Cert.RotateRefIdeal.τ).loc Cert.RotateRefIdeal.main_arg3) = m ((c.tc : Thread Cert.RotateRefIdeal.nD Cert.RotateRefIdeal.τ).loc Cert.RotateRefIdeal.main_arg3)
      ∧ r.2.mem ((c.tc : Thread Cert.RotateRefIdeal.nD Cert.RotateRefIdeal.τ).loc Cert.RotateRefIdeal.main_arg4) = m ((c.tc : Thread Cert.RotateRefIdeal.nD Cert.RotateRefIdeal.τ).loc Cert.RotateRefIdeal.main_arg4)
      ∧ r.2.mem ((c.tc : Thread Cert.RotateRefIdeal.nD Cert.RotateRefIdeal.τ).loc Cert.RotateRefIdeal.main_arg5) = m ((c.tc : Thread Cert.RotateRefIdeal.nD Cert.RotateRefIdeal.τ).loc Cert.RotateRefIdeal.main_arg5))
      ∧ r.2.sem = fun _ => 0)

def quiescent_Power [hPower : Cert.Power.Facts] : Prop :=
  ∀ (m : (ℓ : Loc Cert.Power.nD Cert.Power.τ Cert.Power.sig) → Buf (Elt Bits) ℓ) (g : Dev Cert.Power.nD → PrngReg), Pre_Power m →
    θ_run (Cert.Power.defs (F := Bits)) (onTc (τ := Cert.Power.τ) (Cert.Power.main (F := Bits))) ⟨m, fun _ => 0, g⟩ (fun r => (∀ c : Dev Cert.Power.nD,
      r.2.mem ((c.tc : Thread Cert.Power.nD Cert.Power.τ).loc Cert.Power.main_arg0) = m ((c.tc : Thread Cert.Power.nD Cert.Power.τ).loc Cert.Power.main_arg0)
      ∧ r.2.mem ((c.tc : Thread Cert.Power.nD Cert.Power.τ).loc Cert.Power.main_arg1) = m ((c.tc : Thread Cert.Power.nD Cert.Power.τ).loc Cert.Power.main_arg1))
      ∧ r.2.sem = fun _ => 0)

def quiescent_PowerIdeal [hPowerIdeal : Cert.PowerIdeal.Facts] : Prop :=
  ∀ (m : (ℓ : Loc Cert.PowerIdeal.nD Cert.PowerIdeal.τ Cert.PowerIdeal.sig) → Buf (Elt Ideal) ℓ) (g : Dev Cert.PowerIdeal.nD → PrngReg), Pre_PowerIdeal m →
    θ_run (Cert.PowerIdeal.defs (F := Ideal)) (onTc (τ := Cert.PowerIdeal.τ) (Cert.PowerIdeal.main (F := Ideal))) ⟨m, fun _ => 0, g⟩ (fun r => (∀ c : Dev Cert.PowerIdeal.nD,
      r.2.mem ((c.tc : Thread Cert.PowerIdeal.nD Cert.PowerIdeal.τ).loc Cert.PowerIdeal.main_arg0) = m ((c.tc : Thread Cert.PowerIdeal.nD Cert.PowerIdeal.τ).loc Cert.PowerIdeal.main_arg0)
      ∧ r.2.mem ((c.tc : Thread Cert.PowerIdeal.nD Cert.PowerIdeal.τ).loc Cert.PowerIdeal.main_arg1) = m ((c.tc : Thread Cert.PowerIdeal.nD Cert.PowerIdeal.τ).loc Cert.PowerIdeal.main_arg1))
      ∧ r.2.sem = fun _ => 0)

def quiescent_PowerIdeal_pre_finite_stat [hPowerIdeal : Cert.PowerIdeal.Facts] [hPre_finite_stat : Cert.Pre_finite_stat.Facts] : Prop :=
  ∀ (m : (ℓ : Loc Cert.PowerIdeal.nD Cert.PowerIdeal.τ Cert.PowerIdeal.sig) → Buf (Elt Ideal) ℓ) (g : Dev Cert.PowerIdeal.nD → PrngReg), Pre_PowerIdeal_finite_stat m →
    θ_run (Cert.PowerIdeal.defs (F := Ideal)) (onTc (τ := Cert.PowerIdeal.τ) (Cert.PowerIdeal.main (F := Ideal))) ⟨m, fun _ => 0, g⟩ (fun r => (∀ c : Dev Cert.PowerIdeal.nD,
      r.2.mem ((c.tc : Thread Cert.PowerIdeal.nD Cert.PowerIdeal.τ).loc Cert.PowerIdeal.main_arg0) = m ((c.tc : Thread Cert.PowerIdeal.nD Cert.PowerIdeal.τ).loc Cert.PowerIdeal.main_arg0)
      ∧ r.2.mem ((c.tc : Thread Cert.PowerIdeal.nD Cert.PowerIdeal.τ).loc Cert.PowerIdeal.main_arg1) = m ((c.tc : Thread Cert.PowerIdeal.nD Cert.PowerIdeal.τ).loc Cert.PowerIdeal.main_arg1))
      ∧ r.2.sem = fun _ => 0)

def quiescent_PowerRefIdeal [hPowerRefIdeal : Cert.PowerRefIdeal.Facts] : Prop :=
  ∀ (m : (ℓ : Loc Cert.PowerRefIdeal.nD Cert.PowerRefIdeal.τ Cert.PowerRefIdeal.sig) → Buf (Elt Ideal) ℓ) (g : Dev Cert.PowerRefIdeal.nD → PrngReg), Pre_PowerRefIdeal m →
    θ_run (Cert.PowerRefIdeal.defs (F := Ideal)) (onTc (τ := Cert.PowerRefIdeal.τ) (Cert.PowerRefIdeal.main (F := Ideal))) ⟨m, fun _ => 0, g⟩ (fun r => (∀ c : Dev Cert.PowerRefIdeal.nD,
      r.2.mem ((c.tc : Thread Cert.PowerRefIdeal.nD Cert.PowerRefIdeal.τ).loc Cert.PowerRefIdeal.main_arg0) = m ((c.tc : Thread Cert.PowerRefIdeal.nD Cert.PowerRefIdeal.τ).loc Cert.PowerRefIdeal.main_arg0)
      ∧ r.2.mem ((c.tc : Thread Cert.PowerRefIdeal.nD Cert.PowerRefIdeal.τ).loc Cert.PowerRefIdeal.main_arg1) = m ((c.tc : Thread Cert.PowerRefIdeal.nD Cert.PowerRefIdeal.τ).loc Cert.PowerRefIdeal.main_arg1))
      ∧ r.2.sem = fun _ => 0)

def quiescent_PowerRefIdeal_pre_finite_stat [hPowerRefIdeal : Cert.PowerRefIdeal.Facts] [hPre_finite_stat : Cert.Pre_finite_stat.Facts] : Prop :=
  ∀ (m : (ℓ : Loc Cert.PowerRefIdeal.nD Cert.PowerRefIdeal.τ Cert.PowerRefIdeal.sig) → Buf (Elt Ideal) ℓ) (g : Dev Cert.PowerRefIdeal.nD → PrngReg), Pre_PowerRefIdeal_finite_stat m →
    θ_run (Cert.PowerRefIdeal.defs (F := Ideal)) (onTc (τ := Cert.PowerRefIdeal.τ) (Cert.PowerRefIdeal.main (F := Ideal))) ⟨m, fun _ => 0, g⟩ (fun r => (∀ c : Dev Cert.PowerRefIdeal.nD,
      r.2.mem ((c.tc : Thread Cert.PowerRefIdeal.nD Cert.PowerRefIdeal.τ).loc Cert.PowerRefIdeal.main_arg0) = m ((c.tc : Thread Cert.PowerRefIdeal.nD Cert.PowerRefIdeal.τ).loc Cert.PowerRefIdeal.main_arg0)
      ∧ r.2.mem ((c.tc : Thread Cert.PowerRefIdeal.nD Cert.PowerRefIdeal.τ).loc Cert.PowerRefIdeal.main_arg1) = m ((c.tc : Thread Cert.PowerRefIdeal.nD Cert.PowerRefIdeal.τ).loc Cert.PowerRefIdeal.main_arg1))
      ∧ r.2.sem = fun _ => 0)

def quiescent_PowerRight [hPowerRight : Cert.PowerRight.Facts] : Prop :=
  ∀ (m : (ℓ : Loc Cert.PowerRight.nD Cert.PowerRight.τ Cert.PowerRight.sig) → Buf (Elt Bits) ℓ) (g : Dev Cert.PowerRight.nD → PrngReg), Pre_PowerRight m →
    θ_run (Cert.PowerRight.defs (F := Bits)) (onTc (τ := Cert.PowerRight.τ) (Cert.PowerRight.main (F := Bits))) ⟨m, fun _ => 0, g⟩ (fun r => (∀ c : Dev Cert.PowerRight.nD,
      r.2.mem ((c.tc : Thread Cert.PowerRight.nD Cert.PowerRight.τ).loc Cert.PowerRight.main_arg0) = m ((c.tc : Thread Cert.PowerRight.nD Cert.PowerRight.τ).loc Cert.PowerRight.main_arg0)
      ∧ r.2.mem ((c.tc : Thread Cert.PowerRight.nD Cert.PowerRight.τ).loc Cert.PowerRight.main_arg1) = m ((c.tc : Thread Cert.PowerRight.nD Cert.PowerRight.τ).loc Cert.PowerRight.main_arg1))
      ∧ r.2.sem = fun _ => 0)

def quiescent_PowerRightIdeal [hPowerRightIdeal : Cert.PowerRightIdeal.Facts] : Prop :=
  ∀ (m : (ℓ : Loc Cert.PowerRightIdeal.nD Cert.PowerRightIdeal.τ Cert.PowerRightIdeal.sig) → Buf (Elt Ideal) ℓ) (g : Dev Cert.PowerRightIdeal.nD → PrngReg), Pre_PowerRightIdeal m →
    θ_run (Cert.PowerRightIdeal.defs (F := Ideal)) (onTc (τ := Cert.PowerRightIdeal.τ) (Cert.PowerRightIdeal.main (F := Ideal))) ⟨m, fun _ => 0, g⟩ (fun r => (∀ c : Dev Cert.PowerRightIdeal.nD,
      r.2.mem ((c.tc : Thread Cert.PowerRightIdeal.nD Cert.PowerRightIdeal.τ).loc Cert.PowerRightIdeal.main_arg0) = m ((c.tc : Thread Cert.PowerRightIdeal.nD Cert.PowerRightIdeal.τ).loc Cert.PowerRightIdeal.main_arg0)
      ∧ r.2.mem ((c.tc : Thread Cert.PowerRightIdeal.nD Cert.PowerRightIdeal.τ).loc Cert.PowerRightIdeal.main_arg1) = m ((c.tc : Thread Cert.PowerRightIdeal.nD Cert.PowerRightIdeal.τ).loc Cert.PowerRightIdeal.main_arg1))
      ∧ r.2.sem = fun _ => 0)

def quiescent_PowerRightIdeal_pre_finite_right [hPowerRightIdeal : Cert.PowerRightIdeal.Facts] [hPre_finite_right : Cert.Pre_finite_right.Facts] : Prop :=
  ∀ (m : (ℓ : Loc Cert.PowerRightIdeal.nD Cert.PowerRightIdeal.τ Cert.PowerRightIdeal.sig) → Buf (Elt Ideal) ℓ) (g : Dev Cert.PowerRightIdeal.nD → PrngReg), Pre_PowerRightIdeal_finite_right m →
    θ_run (Cert.PowerRightIdeal.defs (F := Ideal)) (onTc (τ := Cert.PowerRightIdeal.τ) (Cert.PowerRightIdeal.main (F := Ideal))) ⟨m, fun _ => 0, g⟩ (fun r => (∀ c : Dev Cert.PowerRightIdeal.nD,
      r.2.mem ((c.tc : Thread Cert.PowerRightIdeal.nD Cert.PowerRightIdeal.τ).loc Cert.PowerRightIdeal.main_arg0) = m ((c.tc : Thread Cert.PowerRightIdeal.nD Cert.PowerRightIdeal.τ).loc Cert.PowerRightIdeal.main_arg0)
      ∧ r.2.mem ((c.tc : Thread Cert.PowerRightIdeal.nD Cert.PowerRightIdeal.τ).loc Cert.PowerRightIdeal.main_arg1) = m ((c.tc : Thread Cert.PowerRightIdeal.nD Cert.PowerRightIdeal.τ).loc Cert.PowerRightIdeal.main_arg1))
      ∧ r.2.sem = fun _ => 0)

def quiescent_PowerRightRefIdeal [hPowerRightRefIdeal : Cert.PowerRightRefIdeal.Facts] : Prop :=
  ∀ (m : (ℓ : Loc Cert.PowerRightRefIdeal.nD Cert.PowerRightRefIdeal.τ Cert.PowerRightRefIdeal.sig) → Buf (Elt Ideal) ℓ) (g : Dev Cert.PowerRightRefIdeal.nD → PrngReg), Pre_PowerRightRefIdeal m →
    θ_run (Cert.PowerRightRefIdeal.defs (F := Ideal)) (onTc (τ := Cert.PowerRightRefIdeal.τ) (Cert.PowerRightRefIdeal.main (F := Ideal))) ⟨m, fun _ => 0, g⟩ (fun r => (∀ c : Dev Cert.PowerRightRefIdeal.nD,
      r.2.mem ((c.tc : Thread Cert.PowerRightRefIdeal.nD Cert.PowerRightRefIdeal.τ).loc Cert.PowerRightRefIdeal.main_arg0) = m ((c.tc : Thread Cert.PowerRightRefIdeal.nD Cert.PowerRightRefIdeal.τ).loc Cert.PowerRightRefIdeal.main_arg0)
      ∧ r.2.mem ((c.tc : Thread Cert.PowerRightRefIdeal.nD Cert.PowerRightRefIdeal.τ).loc Cert.PowerRightRefIdeal.main_arg1) = m ((c.tc : Thread Cert.PowerRightRefIdeal.nD Cert.PowerRightRefIdeal.τ).loc Cert.PowerRightRefIdeal.main_arg1))
      ∧ r.2.sem = fun _ => 0)

def quiescent_PowerRightRefIdeal_pre_finite_right [hPowerRightRefIdeal : Cert.PowerRightRefIdeal.Facts] [hPre_finite_right : Cert.Pre_finite_right.Facts] : Prop :=
  ∀ (m : (ℓ : Loc Cert.PowerRightRefIdeal.nD Cert.PowerRightRefIdeal.τ Cert.PowerRightRefIdeal.sig) → Buf (Elt Ideal) ℓ) (g : Dev Cert.PowerRightRefIdeal.nD → PrngReg), Pre_PowerRightRefIdeal_finite_right m →
    θ_run (Cert.PowerRightRefIdeal.defs (F := Ideal)) (onTc (τ := Cert.PowerRightRefIdeal.τ) (Cert.PowerRightRefIdeal.main (F := Ideal))) ⟨m, fun _ => 0, g⟩ (fun r => (∀ c : Dev Cert.PowerRightRefIdeal.nD,
      r.2.mem ((c.tc : Thread Cert.PowerRightRefIdeal.nD Cert.PowerRightRefIdeal.τ).loc Cert.PowerRightRefIdeal.main_arg0) = m ((c.tc : Thread Cert.PowerRightRefIdeal.nD Cert.PowerRightRefIdeal.τ).loc Cert.PowerRightRefIdeal.main_arg0)
      ∧ r.2.mem ((c.tc : Thread Cert.PowerRightRefIdeal.nD Cert.PowerRightRefIdeal.τ).loc Cert.PowerRightRefIdeal.main_arg1) = m ((c.tc : Thread Cert.PowerRightRefIdeal.nD Cert.PowerRightRefIdeal.τ).loc Cert.PowerRightRefIdeal.main_arg1))
      ∧ r.2.sem = fun _ => 0)

def quiescent_Solve [hSolve : Cert.Solve.Facts] : Prop :=
  ∀ (m : (ℓ : Loc Cert.Solve.nD Cert.Solve.τ Cert.Solve.sig) → Buf (Elt Bits) ℓ) (g : Dev Cert.Solve.nD → PrngReg), Pre_Solve m →
    θ_run (Cert.Solve.defs (F := Bits)) (onTc (τ := Cert.Solve.τ) (Cert.Solve.main (F := Bits))) ⟨m, fun _ => 0, g⟩ (fun r => (∀ c : Dev Cert.Solve.nD,
      r.2.mem ((c.tc : Thread Cert.Solve.nD Cert.Solve.τ).loc Cert.Solve.main_arg0) = m ((c.tc : Thread Cert.Solve.nD Cert.Solve.τ).loc Cert.Solve.main_arg0)
      ∧ r.2.mem ((c.tc : Thread Cert.Solve.nD Cert.Solve.τ).loc Cert.Solve.main_arg1) = m ((c.tc : Thread Cert.Solve.nD Cert.Solve.τ).loc Cert.Solve.main_arg1)
      ∧ r.2.mem ((c.tc : Thread Cert.Solve.nD Cert.Solve.τ).loc Cert.Solve.main_arg2) = m ((c.tc : Thread Cert.Solve.nD Cert.Solve.τ).loc Cert.Solve.main_arg2)
      ∧ r.2.mem ((c.tc : Thread Cert.Solve.nD Cert.Solve.τ).loc Cert.Solve.main_arg3) = m ((c.tc : Thread Cert.Solve.nD Cert.Solve.τ).loc Cert.Solve.main_arg3)
      ∧ r.2.mem ((c.tc : Thread Cert.Solve.nD Cert.Solve.τ).loc Cert.Solve.main_arg4) = m ((c.tc : Thread Cert.Solve.nD Cert.Solve.τ).loc Cert.Solve.main_arg4)
      ∧ r.2.mem ((c.tc : Thread Cert.Solve.nD Cert.Solve.τ).loc Cert.Solve.main_arg5) = m ((c.tc : Thread Cert.Solve.nD Cert.Solve.τ).loc Cert.Solve.main_arg5)
      ∧ r.2.mem ((c.tc : Thread Cert.Solve.nD Cert.Solve.τ).loc Cert.Solve.main_arg6) = m ((c.tc : Thread Cert.Solve.nD Cert.Solve.τ).loc Cert.Solve.main_arg6)
      ∧ r.2.mem ((c.tc : Thread Cert.Solve.nD Cert.Solve.τ).loc Cert.Solve.main_arg7) = m ((c.tc : Thread Cert.Solve.nD Cert.Solve.τ).loc Cert.Solve.main_arg7)
      ∧ r.2.mem ((c.tc : Thread Cert.Solve.nD Cert.Solve.τ).loc Cert.Solve.main_arg8) = m ((c.tc : Thread Cert.Solve.nD Cert.Solve.τ).loc Cert.Solve.main_arg8)
      ∧ r.2.mem ((c.tc : Thread Cert.Solve.nD Cert.Solve.τ).loc Cert.Solve.main_arg9) = m ((c.tc : Thread Cert.Solve.nD Cert.Solve.τ).loc Cert.Solve.main_arg9)
      ∧ r.2.mem ((c.tc : Thread Cert.Solve.nD Cert.Solve.τ).loc Cert.Solve.main_arg10) = m ((c.tc : Thread Cert.Solve.nD Cert.Solve.τ).loc Cert.Solve.main_arg10)
      ∧ r.2.mem ((c.tc : Thread Cert.Solve.nD Cert.Solve.τ).loc Cert.Solve.main_arg11) = m ((c.tc : Thread Cert.Solve.nD Cert.Solve.τ).loc Cert.Solve.main_arg11)
      ∧ r.2.mem ((c.tc : Thread Cert.Solve.nD Cert.Solve.τ).loc Cert.Solve.main_arg12) = m ((c.tc : Thread Cert.Solve.nD Cert.Solve.τ).loc Cert.Solve.main_arg12)
      ∧ r.2.mem ((c.tc : Thread Cert.Solve.nD Cert.Solve.τ).loc Cert.Solve.main_arg13) = m ((c.tc : Thread Cert.Solve.nD Cert.Solve.τ).loc Cert.Solve.main_arg13)
      ∧ r.2.mem ((c.tc : Thread Cert.Solve.nD Cert.Solve.τ).loc Cert.Solve.main_arg14) = m ((c.tc : Thread Cert.Solve.nD Cert.Solve.τ).loc Cert.Solve.main_arg14)
      ∧ r.2.mem ((c.tc : Thread Cert.Solve.nD Cert.Solve.τ).loc Cert.Solve.main_arg15) = m ((c.tc : Thread Cert.Solve.nD Cert.Solve.τ).loc Cert.Solve.main_arg15)
      ∧ r.2.mem ((c.tc : Thread Cert.Solve.nD Cert.Solve.τ).loc Cert.Solve.main_arg16) = m ((c.tc : Thread Cert.Solve.nD Cert.Solve.τ).loc Cert.Solve.main_arg16)
      ∧ r.2.mem ((c.tc : Thread Cert.Solve.nD Cert.Solve.τ).loc Cert.Solve.main_arg17) = m ((c.tc : Thread Cert.Solve.nD Cert.Solve.τ).loc Cert.Solve.main_arg17)
      ∧ r.2.mem ((c.tc : Thread Cert.Solve.nD Cert.Solve.τ).loc Cert.Solve.main_arg18) = m ((c.tc : Thread Cert.Solve.nD Cert.Solve.τ).loc Cert.Solve.main_arg18)
      ∧ r.2.mem ((c.tc : Thread Cert.Solve.nD Cert.Solve.τ).loc Cert.Solve.main_arg19) = m ((c.tc : Thread Cert.Solve.nD Cert.Solve.τ).loc Cert.Solve.main_arg19)
      ∧ r.2.mem ((c.tc : Thread Cert.Solve.nD Cert.Solve.τ).loc Cert.Solve.main_arg20) = m ((c.tc : Thread Cert.Solve.nD Cert.Solve.τ).loc Cert.Solve.main_arg20)
      ∧ r.2.mem ((c.tc : Thread Cert.Solve.nD Cert.Solve.τ).loc Cert.Solve.main_arg21) = m ((c.tc : Thread Cert.Solve.nD Cert.Solve.τ).loc Cert.Solve.main_arg21)
      ∧ r.2.mem ((c.tc : Thread Cert.Solve.nD Cert.Solve.τ).loc Cert.Solve.main_arg22) = m ((c.tc : Thread Cert.Solve.nD Cert.Solve.τ).loc Cert.Solve.main_arg22)
      ∧ r.2.mem ((c.tc : Thread Cert.Solve.nD Cert.Solve.τ).loc Cert.Solve.main_arg23) = m ((c.tc : Thread Cert.Solve.nD Cert.Solve.τ).loc Cert.Solve.main_arg23))
      ∧ r.2.sem = fun _ => 0)

def quiescent_SolveIdeal [hSolveIdeal : Cert.SolveIdeal.Facts] : Prop :=
  ∀ (m : (ℓ : Loc Cert.SolveIdeal.nD Cert.SolveIdeal.τ Cert.SolveIdeal.sig) → Buf (Elt Ideal) ℓ) (g : Dev Cert.SolveIdeal.nD → PrngReg), Pre_SolveIdeal m →
    θ_run (Cert.SolveIdeal.defs (F := Ideal)) (onTc (τ := Cert.SolveIdeal.τ) (Cert.SolveIdeal.main (F := Ideal))) ⟨m, fun _ => 0, g⟩ (fun r => (∀ c : Dev Cert.SolveIdeal.nD,
      r.2.mem ((c.tc : Thread Cert.SolveIdeal.nD Cert.SolveIdeal.τ).loc Cert.SolveIdeal.main_arg0) = m ((c.tc : Thread Cert.SolveIdeal.nD Cert.SolveIdeal.τ).loc Cert.SolveIdeal.main_arg0)
      ∧ r.2.mem ((c.tc : Thread Cert.SolveIdeal.nD Cert.SolveIdeal.τ).loc Cert.SolveIdeal.main_arg1) = m ((c.tc : Thread Cert.SolveIdeal.nD Cert.SolveIdeal.τ).loc Cert.SolveIdeal.main_arg1)
      ∧ r.2.mem ((c.tc : Thread Cert.SolveIdeal.nD Cert.SolveIdeal.τ).loc Cert.SolveIdeal.main_arg2) = m ((c.tc : Thread Cert.SolveIdeal.nD Cert.SolveIdeal.τ).loc Cert.SolveIdeal.main_arg2)
      ∧ r.2.mem ((c.tc : Thread Cert.SolveIdeal.nD Cert.SolveIdeal.τ).loc Cert.SolveIdeal.main_arg3) = m ((c.tc : Thread Cert.SolveIdeal.nD Cert.SolveIdeal.τ).loc Cert.SolveIdeal.main_arg3)
      ∧ r.2.mem ((c.tc : Thread Cert.SolveIdeal.nD Cert.SolveIdeal.τ).loc Cert.SolveIdeal.main_arg4) = m ((c.tc : Thread Cert.SolveIdeal.nD Cert.SolveIdeal.τ).loc Cert.SolveIdeal.main_arg4)
      ∧ r.2.mem ((c.tc : Thread Cert.SolveIdeal.nD Cert.SolveIdeal.τ).loc Cert.SolveIdeal.main_arg5) = m ((c.tc : Thread Cert.SolveIdeal.nD Cert.SolveIdeal.τ).loc Cert.SolveIdeal.main_arg5)
      ∧ r.2.mem ((c.tc : Thread Cert.SolveIdeal.nD Cert.SolveIdeal.τ).loc Cert.SolveIdeal.main_arg6) = m ((c.tc : Thread Cert.SolveIdeal.nD Cert.SolveIdeal.τ).loc Cert.SolveIdeal.main_arg6)
      ∧ r.2.mem ((c.tc : Thread Cert.SolveIdeal.nD Cert.SolveIdeal.τ).loc Cert.SolveIdeal.main_arg7) = m ((c.tc : Thread Cert.SolveIdeal.nD Cert.SolveIdeal.τ).loc Cert.SolveIdeal.main_arg7)
      ∧ r.2.mem ((c.tc : Thread Cert.SolveIdeal.nD Cert.SolveIdeal.τ).loc Cert.SolveIdeal.main_arg8) = m ((c.tc : Thread Cert.SolveIdeal.nD Cert.SolveIdeal.τ).loc Cert.SolveIdeal.main_arg8)
      ∧ r.2.mem ((c.tc : Thread Cert.SolveIdeal.nD Cert.SolveIdeal.τ).loc Cert.SolveIdeal.main_arg9) = m ((c.tc : Thread Cert.SolveIdeal.nD Cert.SolveIdeal.τ).loc Cert.SolveIdeal.main_arg9)
      ∧ r.2.mem ((c.tc : Thread Cert.SolveIdeal.nD Cert.SolveIdeal.τ).loc Cert.SolveIdeal.main_arg10) = m ((c.tc : Thread Cert.SolveIdeal.nD Cert.SolveIdeal.τ).loc Cert.SolveIdeal.main_arg10)
      ∧ r.2.mem ((c.tc : Thread Cert.SolveIdeal.nD Cert.SolveIdeal.τ).loc Cert.SolveIdeal.main_arg11) = m ((c.tc : Thread Cert.SolveIdeal.nD Cert.SolveIdeal.τ).loc Cert.SolveIdeal.main_arg11)
      ∧ r.2.mem ((c.tc : Thread Cert.SolveIdeal.nD Cert.SolveIdeal.τ).loc Cert.SolveIdeal.main_arg12) = m ((c.tc : Thread Cert.SolveIdeal.nD Cert.SolveIdeal.τ).loc Cert.SolveIdeal.main_arg12)
      ∧ r.2.mem ((c.tc : Thread Cert.SolveIdeal.nD Cert.SolveIdeal.τ).loc Cert.SolveIdeal.main_arg13) = m ((c.tc : Thread Cert.SolveIdeal.nD Cert.SolveIdeal.τ).loc Cert.SolveIdeal.main_arg13)
      ∧ r.2.mem ((c.tc : Thread Cert.SolveIdeal.nD Cert.SolveIdeal.τ).loc Cert.SolveIdeal.main_arg14) = m ((c.tc : Thread Cert.SolveIdeal.nD Cert.SolveIdeal.τ).loc Cert.SolveIdeal.main_arg14)
      ∧ r.2.mem ((c.tc : Thread Cert.SolveIdeal.nD Cert.SolveIdeal.τ).loc Cert.SolveIdeal.main_arg15) = m ((c.tc : Thread Cert.SolveIdeal.nD Cert.SolveIdeal.τ).loc Cert.SolveIdeal.main_arg15)
      ∧ r.2.mem ((c.tc : Thread Cert.SolveIdeal.nD Cert.SolveIdeal.τ).loc Cert.SolveIdeal.main_arg16) = m ((c.tc : Thread Cert.SolveIdeal.nD Cert.SolveIdeal.τ).loc Cert.SolveIdeal.main_arg16)
      ∧ r.2.mem ((c.tc : Thread Cert.SolveIdeal.nD Cert.SolveIdeal.τ).loc Cert.SolveIdeal.main_arg17) = m ((c.tc : Thread Cert.SolveIdeal.nD Cert.SolveIdeal.τ).loc Cert.SolveIdeal.main_arg17)
      ∧ r.2.mem ((c.tc : Thread Cert.SolveIdeal.nD Cert.SolveIdeal.τ).loc Cert.SolveIdeal.main_arg18) = m ((c.tc : Thread Cert.SolveIdeal.nD Cert.SolveIdeal.τ).loc Cert.SolveIdeal.main_arg18)
      ∧ r.2.mem ((c.tc : Thread Cert.SolveIdeal.nD Cert.SolveIdeal.τ).loc Cert.SolveIdeal.main_arg19) = m ((c.tc : Thread Cert.SolveIdeal.nD Cert.SolveIdeal.τ).loc Cert.SolveIdeal.main_arg19)
      ∧ r.2.mem ((c.tc : Thread Cert.SolveIdeal.nD Cert.SolveIdeal.τ).loc Cert.SolveIdeal.main_arg20) = m ((c.tc : Thread Cert.SolveIdeal.nD Cert.SolveIdeal.τ).loc Cert.SolveIdeal.main_arg20)
      ∧ r.2.mem ((c.tc : Thread Cert.SolveIdeal.nD Cert.SolveIdeal.τ).loc Cert.SolveIdeal.main_arg21) = m ((c.tc : Thread Cert.SolveIdeal.nD Cert.SolveIdeal.τ).loc Cert.SolveIdeal.main_arg21)
      ∧ r.2.mem ((c.tc : Thread Cert.SolveIdeal.nD Cert.SolveIdeal.τ).loc Cert.SolveIdeal.main_arg22) = m ((c.tc : Thread Cert.SolveIdeal.nD Cert.SolveIdeal.τ).loc Cert.SolveIdeal.main_arg22)
      ∧ r.2.mem ((c.tc : Thread Cert.SolveIdeal.nD Cert.SolveIdeal.τ).loc Cert.SolveIdeal.main_arg23) = m ((c.tc : Thread Cert.SolveIdeal.nD Cert.SolveIdeal.τ).loc Cert.SolveIdeal.main_arg23))
      ∧ r.2.sem = fun _ => 0)

def quiescent_SolveIdeal_pre_finite_system [hSolveIdeal : Cert.SolveIdeal.Facts] [hPre_finite_system : Cert.Pre_finite_system.Facts] : Prop :=
  ∀ (m : (ℓ : Loc Cert.SolveIdeal.nD Cert.SolveIdeal.τ Cert.SolveIdeal.sig) → Buf (Elt Ideal) ℓ) (g : Dev Cert.SolveIdeal.nD → PrngReg), Pre_SolveIdeal_finite_system m →
    θ_run (Cert.SolveIdeal.defs (F := Ideal)) (onTc (τ := Cert.SolveIdeal.τ) (Cert.SolveIdeal.main (F := Ideal))) ⟨m, fun _ => 0, g⟩ (fun r => (∀ c : Dev Cert.SolveIdeal.nD,
      r.2.mem ((c.tc : Thread Cert.SolveIdeal.nD Cert.SolveIdeal.τ).loc Cert.SolveIdeal.main_arg0) = m ((c.tc : Thread Cert.SolveIdeal.nD Cert.SolveIdeal.τ).loc Cert.SolveIdeal.main_arg0)
      ∧ r.2.mem ((c.tc : Thread Cert.SolveIdeal.nD Cert.SolveIdeal.τ).loc Cert.SolveIdeal.main_arg1) = m ((c.tc : Thread Cert.SolveIdeal.nD Cert.SolveIdeal.τ).loc Cert.SolveIdeal.main_arg1)
      ∧ r.2.mem ((c.tc : Thread Cert.SolveIdeal.nD Cert.SolveIdeal.τ).loc Cert.SolveIdeal.main_arg2) = m ((c.tc : Thread Cert.SolveIdeal.nD Cert.SolveIdeal.τ).loc Cert.SolveIdeal.main_arg2)
      ∧ r.2.mem ((c.tc : Thread Cert.SolveIdeal.nD Cert.SolveIdeal.τ).loc Cert.SolveIdeal.main_arg3) = m ((c.tc : Thread Cert.SolveIdeal.nD Cert.SolveIdeal.τ).loc Cert.SolveIdeal.main_arg3)
      ∧ r.2.mem ((c.tc : Thread Cert.SolveIdeal.nD Cert.SolveIdeal.τ).loc Cert.SolveIdeal.main_arg4) = m ((c.tc : Thread Cert.SolveIdeal.nD Cert.SolveIdeal.τ).loc Cert.SolveIdeal.main_arg4)
      ∧ r.2.mem ((c.tc : Thread Cert.SolveIdeal.nD Cert.SolveIdeal.τ).loc Cert.SolveIdeal.main_arg5) = m ((c.tc : Thread Cert.SolveIdeal.nD Cert.SolveIdeal.τ).loc Cert.SolveIdeal.main_arg5)
      ∧ r.2.mem ((c.tc : Thread Cert.SolveIdeal.nD Cert.SolveIdeal.τ).loc Cert.SolveIdeal.main_arg6) = m ((c.tc : Thread Cert.SolveIdeal.nD Cert.SolveIdeal.τ).loc Cert.SolveIdeal.main_arg6)
      ∧ r.2.mem ((c.tc : Thread Cert.SolveIdeal.nD Cert.SolveIdeal.τ).loc Cert.SolveIdeal.main_arg7) = m ((c.tc : Thread Cert.SolveIdeal.nD Cert.SolveIdeal.τ).loc Cert.SolveIdeal.main_arg7)
      ∧ r.2.mem ((c.tc : Thread Cert.SolveIdeal.nD Cert.SolveIdeal.τ).loc Cert.SolveIdeal.main_arg8) = m ((c.tc : Thread Cert.SolveIdeal.nD Cert.SolveIdeal.τ).loc Cert.SolveIdeal.main_arg8)
      ∧ r.2.mem ((c.tc : Thread Cert.SolveIdeal.nD Cert.SolveIdeal.τ).loc Cert.SolveIdeal.main_arg9) = m ((c.tc : Thread Cert.SolveIdeal.nD Cert.SolveIdeal.τ).loc Cert.SolveIdeal.main_arg9)
      ∧ r.2.mem ((c.tc : Thread Cert.SolveIdeal.nD Cert.SolveIdeal.τ).loc Cert.SolveIdeal.main_arg10) = m ((c.tc : Thread Cert.SolveIdeal.nD Cert.SolveIdeal.τ).loc Cert.SolveIdeal.main_arg10)
      ∧ r.2.mem ((c.tc : Thread Cert.SolveIdeal.nD Cert.SolveIdeal.τ).loc Cert.SolveIdeal.main_arg11) = m ((c.tc : Thread Cert.SolveIdeal.nD Cert.SolveIdeal.τ).loc Cert.SolveIdeal.main_arg11)
      ∧ r.2.mem ((c.tc : Thread Cert.SolveIdeal.nD Cert.SolveIdeal.τ).loc Cert.SolveIdeal.main_arg12) = m ((c.tc : Thread Cert.SolveIdeal.nD Cert.SolveIdeal.τ).loc Cert.SolveIdeal.main_arg12)
      ∧ r.2.mem ((c.tc : Thread Cert.SolveIdeal.nD Cert.SolveIdeal.τ).loc Cert.SolveIdeal.main_arg13) = m ((c.tc : Thread Cert.SolveIdeal.nD Cert.SolveIdeal.τ).loc Cert.SolveIdeal.main_arg13)
      ∧ r.2.mem ((c.tc : Thread Cert.SolveIdeal.nD Cert.SolveIdeal.τ).loc Cert.SolveIdeal.main_arg14) = m ((c.tc : Thread Cert.SolveIdeal.nD Cert.SolveIdeal.τ).loc Cert.SolveIdeal.main_arg14)
      ∧ r.2.mem ((c.tc : Thread Cert.SolveIdeal.nD Cert.SolveIdeal.τ).loc Cert.SolveIdeal.main_arg15) = m ((c.tc : Thread Cert.SolveIdeal.nD Cert.SolveIdeal.τ).loc Cert.SolveIdeal.main_arg15)
      ∧ r.2.mem ((c.tc : Thread Cert.SolveIdeal.nD Cert.SolveIdeal.τ).loc Cert.SolveIdeal.main_arg16) = m ((c.tc : Thread Cert.SolveIdeal.nD Cert.SolveIdeal.τ).loc Cert.SolveIdeal.main_arg16)
      ∧ r.2.mem ((c.tc : Thread Cert.SolveIdeal.nD Cert.SolveIdeal.τ).loc Cert.SolveIdeal.main_arg17) = m ((c.tc : Thread Cert.SolveIdeal.nD Cert.SolveIdeal.τ).loc Cert.SolveIdeal.main_arg17)
      ∧ r.2.mem ((c.tc : Thread Cert.SolveIdeal.nD Cert.SolveIdeal.τ).loc Cert.SolveIdeal.main_arg18) = m ((c.tc : Thread Cert.SolveIdeal.nD Cert.SolveIdeal.τ).loc Cert.SolveIdeal.main_arg18)
      ∧ r.2.mem ((c.tc : Thread Cert.SolveIdeal.nD Cert.SolveIdeal.τ).loc Cert.SolveIdeal.main_arg19) = m ((c.tc : Thread Cert.SolveIdeal.nD Cert.SolveIdeal.τ).loc Cert.SolveIdeal.main_arg19)
      ∧ r.2.mem ((c.tc : Thread Cert.SolveIdeal.nD Cert.SolveIdeal.τ).loc Cert.SolveIdeal.main_arg20) = m ((c.tc : Thread Cert.SolveIdeal.nD Cert.SolveIdeal.τ).loc Cert.SolveIdeal.main_arg20)
      ∧ r.2.mem ((c.tc : Thread Cert.SolveIdeal.nD Cert.SolveIdeal.τ).loc Cert.SolveIdeal.main_arg21) = m ((c.tc : Thread Cert.SolveIdeal.nD Cert.SolveIdeal.τ).loc Cert.SolveIdeal.main_arg21)
      ∧ r.2.mem ((c.tc : Thread Cert.SolveIdeal.nD Cert.SolveIdeal.τ).loc Cert.SolveIdeal.main_arg22) = m ((c.tc : Thread Cert.SolveIdeal.nD Cert.SolveIdeal.τ).loc Cert.SolveIdeal.main_arg22)
      ∧ r.2.mem ((c.tc : Thread Cert.SolveIdeal.nD Cert.SolveIdeal.τ).loc Cert.SolveIdeal.main_arg23) = m ((c.tc : Thread Cert.SolveIdeal.nD Cert.SolveIdeal.τ).loc Cert.SolveIdeal.main_arg23))
      ∧ r.2.sem = fun _ => 0)

def quiescent_SolveRefIdeal [hSolveRefIdeal : Cert.SolveRefIdeal.Facts] : Prop :=
  ∀ (m : (ℓ : Loc Cert.SolveRefIdeal.nD Cert.SolveRefIdeal.τ Cert.SolveRefIdeal.sig) → Buf (Elt Ideal) ℓ) (g : Dev Cert.SolveRefIdeal.nD → PrngReg), Pre_SolveRefIdeal m →
    θ_run (Cert.SolveRefIdeal.defs (F := Ideal)) (onTc (τ := Cert.SolveRefIdeal.τ) (Cert.SolveRefIdeal.main (F := Ideal))) ⟨m, fun _ => 0, g⟩ (fun r => (∀ c : Dev Cert.SolveRefIdeal.nD,
      r.2.mem ((c.tc : Thread Cert.SolveRefIdeal.nD Cert.SolveRefIdeal.τ).loc Cert.SolveRefIdeal.main_arg0) = m ((c.tc : Thread Cert.SolveRefIdeal.nD Cert.SolveRefIdeal.τ).loc Cert.SolveRefIdeal.main_arg0)
      ∧ r.2.mem ((c.tc : Thread Cert.SolveRefIdeal.nD Cert.SolveRefIdeal.τ).loc Cert.SolveRefIdeal.main_arg1) = m ((c.tc : Thread Cert.SolveRefIdeal.nD Cert.SolveRefIdeal.τ).loc Cert.SolveRefIdeal.main_arg1)
      ∧ r.2.mem ((c.tc : Thread Cert.SolveRefIdeal.nD Cert.SolveRefIdeal.τ).loc Cert.SolveRefIdeal.main_arg2) = m ((c.tc : Thread Cert.SolveRefIdeal.nD Cert.SolveRefIdeal.τ).loc Cert.SolveRefIdeal.main_arg2)
      ∧ r.2.mem ((c.tc : Thread Cert.SolveRefIdeal.nD Cert.SolveRefIdeal.τ).loc Cert.SolveRefIdeal.main_arg3) = m ((c.tc : Thread Cert.SolveRefIdeal.nD Cert.SolveRefIdeal.τ).loc Cert.SolveRefIdeal.main_arg3)
      ∧ r.2.mem ((c.tc : Thread Cert.SolveRefIdeal.nD Cert.SolveRefIdeal.τ).loc Cert.SolveRefIdeal.main_arg4) = m ((c.tc : Thread Cert.SolveRefIdeal.nD Cert.SolveRefIdeal.τ).loc Cert.SolveRefIdeal.main_arg4)
      ∧ r.2.mem ((c.tc : Thread Cert.SolveRefIdeal.nD Cert.SolveRefIdeal.τ).loc Cert.SolveRefIdeal.main_arg5) = m ((c.tc : Thread Cert.SolveRefIdeal.nD Cert.SolveRefIdeal.τ).loc Cert.SolveRefIdeal.main_arg5)
      ∧ r.2.mem ((c.tc : Thread Cert.SolveRefIdeal.nD Cert.SolveRefIdeal.τ).loc Cert.SolveRefIdeal.main_arg6) = m ((c.tc : Thread Cert.SolveRefIdeal.nD Cert.SolveRefIdeal.τ).loc Cert.SolveRefIdeal.main_arg6)
      ∧ r.2.mem ((c.tc : Thread Cert.SolveRefIdeal.nD Cert.SolveRefIdeal.τ).loc Cert.SolveRefIdeal.main_arg7) = m ((c.tc : Thread Cert.SolveRefIdeal.nD Cert.SolveRefIdeal.τ).loc Cert.SolveRefIdeal.main_arg7)
      ∧ r.2.mem ((c.tc : Thread Cert.SolveRefIdeal.nD Cert.SolveRefIdeal.τ).loc Cert.SolveRefIdeal.main_arg8) = m ((c.tc : Thread Cert.SolveRefIdeal.nD Cert.SolveRefIdeal.τ).loc Cert.SolveRefIdeal.main_arg8)
      ∧ r.2.mem ((c.tc : Thread Cert.SolveRefIdeal.nD Cert.SolveRefIdeal.τ).loc Cert.SolveRefIdeal.main_arg9) = m ((c.tc : Thread Cert.SolveRefIdeal.nD Cert.SolveRefIdeal.τ).loc Cert.SolveRefIdeal.main_arg9)
      ∧ r.2.mem ((c.tc : Thread Cert.SolveRefIdeal.nD Cert.SolveRefIdeal.τ).loc Cert.SolveRefIdeal.main_arg10) = m ((c.tc : Thread Cert.SolveRefIdeal.nD Cert.SolveRefIdeal.τ).loc Cert.SolveRefIdeal.main_arg10)
      ∧ r.2.mem ((c.tc : Thread Cert.SolveRefIdeal.nD Cert.SolveRefIdeal.τ).loc Cert.SolveRefIdeal.main_arg11) = m ((c.tc : Thread Cert.SolveRefIdeal.nD Cert.SolveRefIdeal.τ).loc Cert.SolveRefIdeal.main_arg11)
      ∧ r.2.mem ((c.tc : Thread Cert.SolveRefIdeal.nD Cert.SolveRefIdeal.τ).loc Cert.SolveRefIdeal.main_arg12) = m ((c.tc : Thread Cert.SolveRefIdeal.nD Cert.SolveRefIdeal.τ).loc Cert.SolveRefIdeal.main_arg12)
      ∧ r.2.mem ((c.tc : Thread Cert.SolveRefIdeal.nD Cert.SolveRefIdeal.τ).loc Cert.SolveRefIdeal.main_arg13) = m ((c.tc : Thread Cert.SolveRefIdeal.nD Cert.SolveRefIdeal.τ).loc Cert.SolveRefIdeal.main_arg13)
      ∧ r.2.mem ((c.tc : Thread Cert.SolveRefIdeal.nD Cert.SolveRefIdeal.τ).loc Cert.SolveRefIdeal.main_arg14) = m ((c.tc : Thread Cert.SolveRefIdeal.nD Cert.SolveRefIdeal.τ).loc Cert.SolveRefIdeal.main_arg14)
      ∧ r.2.mem ((c.tc : Thread Cert.SolveRefIdeal.nD Cert.SolveRefIdeal.τ).loc Cert.SolveRefIdeal.main_arg15) = m ((c.tc : Thread Cert.SolveRefIdeal.nD Cert.SolveRefIdeal.τ).loc Cert.SolveRefIdeal.main_arg15)
      ∧ r.2.mem ((c.tc : Thread Cert.SolveRefIdeal.nD Cert.SolveRefIdeal.τ).loc Cert.SolveRefIdeal.main_arg16) = m ((c.tc : Thread Cert.SolveRefIdeal.nD Cert.SolveRefIdeal.τ).loc Cert.SolveRefIdeal.main_arg16)
      ∧ r.2.mem ((c.tc : Thread Cert.SolveRefIdeal.nD Cert.SolveRefIdeal.τ).loc Cert.SolveRefIdeal.main_arg17) = m ((c.tc : Thread Cert.SolveRefIdeal.nD Cert.SolveRefIdeal.τ).loc Cert.SolveRefIdeal.main_arg17)
      ∧ r.2.mem ((c.tc : Thread Cert.SolveRefIdeal.nD Cert.SolveRefIdeal.τ).loc Cert.SolveRefIdeal.main_arg18) = m ((c.tc : Thread Cert.SolveRefIdeal.nD Cert.SolveRefIdeal.τ).loc Cert.SolveRefIdeal.main_arg18)
      ∧ r.2.mem ((c.tc : Thread Cert.SolveRefIdeal.nD Cert.SolveRefIdeal.τ).loc Cert.SolveRefIdeal.main_arg19) = m ((c.tc : Thread Cert.SolveRefIdeal.nD Cert.SolveRefIdeal.τ).loc Cert.SolveRefIdeal.main_arg19)
      ∧ r.2.mem ((c.tc : Thread Cert.SolveRefIdeal.nD Cert.SolveRefIdeal.τ).loc Cert.SolveRefIdeal.main_arg20) = m ((c.tc : Thread Cert.SolveRefIdeal.nD Cert.SolveRefIdeal.τ).loc Cert.SolveRefIdeal.main_arg20)
      ∧ r.2.mem ((c.tc : Thread Cert.SolveRefIdeal.nD Cert.SolveRefIdeal.τ).loc Cert.SolveRefIdeal.main_arg21) = m ((c.tc : Thread Cert.SolveRefIdeal.nD Cert.SolveRefIdeal.τ).loc Cert.SolveRefIdeal.main_arg21)
      ∧ r.2.mem ((c.tc : Thread Cert.SolveRefIdeal.nD Cert.SolveRefIdeal.τ).loc Cert.SolveRefIdeal.main_arg22) = m ((c.tc : Thread Cert.SolveRefIdeal.nD Cert.SolveRefIdeal.τ).loc Cert.SolveRefIdeal.main_arg22)
      ∧ r.2.mem ((c.tc : Thread Cert.SolveRefIdeal.nD Cert.SolveRefIdeal.τ).loc Cert.SolveRefIdeal.main_arg23) = m ((c.tc : Thread Cert.SolveRefIdeal.nD Cert.SolveRefIdeal.τ).loc Cert.SolveRefIdeal.main_arg23))
      ∧ r.2.sem = fun _ => 0)

def quiescent_SolveRefIdeal_pre_finite_system [hSolveRefIdeal : Cert.SolveRefIdeal.Facts] [hPre_finite_system : Cert.Pre_finite_system.Facts] : Prop :=
  ∀ (m : (ℓ : Loc Cert.SolveRefIdeal.nD Cert.SolveRefIdeal.τ Cert.SolveRefIdeal.sig) → Buf (Elt Ideal) ℓ) (g : Dev Cert.SolveRefIdeal.nD → PrngReg), Pre_SolveRefIdeal_finite_system m →
    θ_run (Cert.SolveRefIdeal.defs (F := Ideal)) (onTc (τ := Cert.SolveRefIdeal.τ) (Cert.SolveRefIdeal.main (F := Ideal))) ⟨m, fun _ => 0, g⟩ (fun r => (∀ c : Dev Cert.SolveRefIdeal.nD,
      r.2.mem ((c.tc : Thread Cert.SolveRefIdeal.nD Cert.SolveRefIdeal.τ).loc Cert.SolveRefIdeal.main_arg0) = m ((c.tc : Thread Cert.SolveRefIdeal.nD Cert.SolveRefIdeal.τ).loc Cert.SolveRefIdeal.main_arg0)
      ∧ r.2.mem ((c.tc : Thread Cert.SolveRefIdeal.nD Cert.SolveRefIdeal.τ).loc Cert.SolveRefIdeal.main_arg1) = m ((c.tc : Thread Cert.SolveRefIdeal.nD Cert.SolveRefIdeal.τ).loc Cert.SolveRefIdeal.main_arg1)
      ∧ r.2.mem ((c.tc : Thread Cert.SolveRefIdeal.nD Cert.SolveRefIdeal.τ).loc Cert.SolveRefIdeal.main_arg2) = m ((c.tc : Thread Cert.SolveRefIdeal.nD Cert.SolveRefIdeal.τ).loc Cert.SolveRefIdeal.main_arg2)
      ∧ r.2.mem ((c.tc : Thread Cert.SolveRefIdeal.nD Cert.SolveRefIdeal.τ).loc Cert.SolveRefIdeal.main_arg3) = m ((c.tc : Thread Cert.SolveRefIdeal.nD Cert.SolveRefIdeal.τ).loc Cert.SolveRefIdeal.main_arg3)
      ∧ r.2.mem ((c.tc : Thread Cert.SolveRefIdeal.nD Cert.SolveRefIdeal.τ).loc Cert.SolveRefIdeal.main_arg4) = m ((c.tc : Thread Cert.SolveRefIdeal.nD Cert.SolveRefIdeal.τ).loc Cert.SolveRefIdeal.main_arg4)
      ∧ r.2.mem ((c.tc : Thread Cert.SolveRefIdeal.nD Cert.SolveRefIdeal.τ).loc Cert.SolveRefIdeal.main_arg5) = m ((c.tc : Thread Cert.SolveRefIdeal.nD Cert.SolveRefIdeal.τ).loc Cert.SolveRefIdeal.main_arg5)
      ∧ r.2.mem ((c.tc : Thread Cert.SolveRefIdeal.nD Cert.SolveRefIdeal.τ).loc Cert.SolveRefIdeal.main_arg6) = m ((c.tc : Thread Cert.SolveRefIdeal.nD Cert.SolveRefIdeal.τ).loc Cert.SolveRefIdeal.main_arg6)
      ∧ r.2.mem ((c.tc : Thread Cert.SolveRefIdeal.nD Cert.SolveRefIdeal.τ).loc Cert.SolveRefIdeal.main_arg7) = m ((c.tc : Thread Cert.SolveRefIdeal.nD Cert.SolveRefIdeal.τ).loc Cert.SolveRefIdeal.main_arg7)
      ∧ r.2.mem ((c.tc : Thread Cert.SolveRefIdeal.nD Cert.SolveRefIdeal.τ).loc Cert.SolveRefIdeal.main_arg8) = m ((c.tc : Thread Cert.SolveRefIdeal.nD Cert.SolveRefIdeal.τ).loc Cert.SolveRefIdeal.main_arg8)
      ∧ r.2.mem ((c.tc : Thread Cert.SolveRefIdeal.nD Cert.SolveRefIdeal.τ).loc Cert.SolveRefIdeal.main_arg9) = m ((c.tc : Thread Cert.SolveRefIdeal.nD Cert.SolveRefIdeal.τ).loc Cert.SolveRefIdeal.main_arg9)
      ∧ r.2.mem ((c.tc : Thread Cert.SolveRefIdeal.nD Cert.SolveRefIdeal.τ).loc Cert.SolveRefIdeal.main_arg10) = m ((c.tc : Thread Cert.SolveRefIdeal.nD Cert.SolveRefIdeal.τ).loc Cert.SolveRefIdeal.main_arg10)
      ∧ r.2.mem ((c.tc : Thread Cert.SolveRefIdeal.nD Cert.SolveRefIdeal.τ).loc Cert.SolveRefIdeal.main_arg11) = m ((c.tc : Thread Cert.SolveRefIdeal.nD Cert.SolveRefIdeal.τ).loc Cert.SolveRefIdeal.main_arg11)
      ∧ r.2.mem ((c.tc : Thread Cert.SolveRefIdeal.nD Cert.SolveRefIdeal.τ).loc Cert.SolveRefIdeal.main_arg12) = m ((c.tc : Thread Cert.SolveRefIdeal.nD Cert.SolveRefIdeal.τ).loc Cert.SolveRefIdeal.main_arg12)
      ∧ r.2.mem ((c.tc : Thread Cert.SolveRefIdeal.nD Cert.SolveRefIdeal.τ).loc Cert.SolveRefIdeal.main_arg13) = m ((c.tc : Thread Cert.SolveRefIdeal.nD Cert.SolveRefIdeal.τ).loc Cert.SolveRefIdeal.main_arg13)
      ∧ r.2.mem ((c.tc : Thread Cert.SolveRefIdeal.nD Cert.SolveRefIdeal.τ).loc Cert.SolveRefIdeal.main_arg14) = m ((c.tc : Thread Cert.SolveRefIdeal.nD Cert.SolveRefIdeal.τ).loc Cert.SolveRefIdeal.main_arg14)
      ∧ r.2.mem ((c.tc : Thread Cert.SolveRefIdeal.nD Cert.SolveRefIdeal.τ).loc Cert.SolveRefIdeal.main_arg15) = m ((c.tc : Thread Cert.SolveRefIdeal.nD Cert.SolveRefIdeal.τ).loc Cert.SolveRefIdeal.main_arg15)
      ∧ r.2.mem ((c.tc : Thread Cert.SolveRefIdeal.nD Cert.SolveRefIdeal.τ).loc Cert.SolveRefIdeal.main_arg16) = m ((c.tc : Thread Cert.SolveRefIdeal.nD Cert.SolveRefIdeal.τ).loc Cert.SolveRefIdeal.main_arg16)
      ∧ r.2.mem ((c.tc : Thread Cert.SolveRefIdeal.nD Cert.SolveRefIdeal.τ).loc Cert.SolveRefIdeal.main_arg17) = m ((c.tc : Thread Cert.SolveRefIdeal.nD Cert.SolveRefIdeal.τ).loc Cert.SolveRefIdeal.main_arg17)
      ∧ r.2.mem ((c.tc : Thread Cert.SolveRefIdeal.nD Cert.SolveRefIdeal.τ).loc Cert.SolveRefIdeal.main_arg18) = m ((c.tc : Thread Cert.SolveRefIdeal.nD Cert.SolveRefIdeal.τ).loc Cert.SolveRefIdeal.main_arg18)
      ∧ r.2.mem ((c.tc : Thread Cert.SolveRefIdeal.nD Cert.SolveRefIdeal.τ).loc Cert.SolveRefIdeal.main_arg19) = m ((c.tc : Thread Cert.SolveRefIdeal.nD Cert.SolveRefIdeal.τ).loc Cert.SolveRefIdeal.main_arg19)
      ∧ r.2.mem ((c.tc : Thread Cert.SolveRefIdeal.nD Cert.SolveRefIdeal.τ).loc Cert.SolveRefIdeal.main_arg20) = m ((c.tc : Thread Cert.SolveRefIdeal.nD Cert.SolveRefIdeal.τ).loc Cert.SolveRefIdeal.main_arg20)
      ∧ r.2.mem ((c.tc : Thread Cert.SolveRefIdeal.nD Cert.SolveRefIdeal.τ).loc Cert.SolveRefIdeal.main_arg21) = m ((c.tc : Thread Cert.SolveRefIdeal.nD Cert.SolveRefIdeal.τ).loc Cert.SolveRefIdeal.main_arg21)
      ∧ r.2.mem ((c.tc : Thread Cert.SolveRefIdeal.nD Cert.SolveRefIdeal.τ).loc Cert.SolveRefIdeal.main_arg22) = m ((c.tc : Thread Cert.SolveRefIdeal.nD Cert.SolveRefIdeal.τ).loc Cert.SolveRefIdeal.main_arg22)
      ∧ r.2.mem ((c.tc : Thread Cert.SolveRefIdeal.nD Cert.SolveRefIdeal.τ).loc Cert.SolveRefIdeal.main_arg23) = m ((c.tc : Thread Cert.SolveRefIdeal.nD Cert.SolveRefIdeal.τ).loc Cert.SolveRefIdeal.main_arg23))
      ∧ r.2.sem = fun _ => 0)

def preserves_Rotate_RotateIdeal : Prop :=
  True

def algebraic_RotateIdeal_RotateRefIdeal [hRotateIdeal : Cert.RotateIdeal.Facts] [hRotateRefIdeal : Cert.RotateRefIdeal.Facts] : Prop :=
  ∀ (m : (ℓ : Loc Cert.RotateIdeal.nD Cert.RotateIdeal.τ Cert.RotateIdeal.sig) → Buf (Elt Ideal) ℓ) (g : Dev Cert.RotateIdeal.nD → PrngReg)
    (m' : (ℓ : Loc Cert.RotateRefIdeal.nD Cert.RotateRefIdeal.τ Cert.RotateRefIdeal.sig) → Buf (Elt Ideal) ℓ) (g' : Dev Cert.RotateRefIdeal.nD → PrngReg), Pre_RotateIdeal m →
    (∀ c : Dev Cert.RotateIdeal.nD,
      m' ((c.tc : Thread Cert.RotateRefIdeal.nD Cert.RotateRefIdeal.τ).loc Cert.RotateRefIdeal.main_arg0) = m ((c.tc : Thread Cert.RotateIdeal.nD Cert.RotateIdeal.τ).loc Cert.RotateIdeal.main_arg0)
      ∧ m' ((c.tc : Thread Cert.RotateRefIdeal.nD Cert.RotateRefIdeal.τ).loc Cert.RotateRefIdeal.main_arg1) = m ((c.tc : Thread Cert.RotateIdeal.nD Cert.RotateIdeal.τ).loc Cert.RotateIdeal.main_arg1)
      ∧ m' ((c.tc : Thread Cert.RotateRefIdeal.nD Cert.RotateRefIdeal.τ).loc Cert.RotateRefIdeal.main_arg2) = m ((c.tc : Thread Cert.RotateIdeal.nD Cert.RotateIdeal.τ).loc Cert.RotateIdeal.main_arg2)
      ∧ m' ((c.tc : Thread Cert.RotateRefIdeal.nD Cert.RotateRefIdeal.τ).loc Cert.RotateRefIdeal.main_arg3) = m ((c.tc : Thread Cert.RotateIdeal.nD Cert.RotateIdeal.τ).loc Cert.RotateIdeal.main_arg3)
      ∧ m' ((c.tc : Thread Cert.RotateRefIdeal.nD Cert.RotateRefIdeal.τ).loc Cert.RotateRefIdeal.main_arg4) = m ((c.tc : Thread Cert.RotateIdeal.nD Cert.RotateIdeal.τ).loc Cert.RotateIdeal.main_arg4)
      ∧ m' ((c.tc : Thread Cert.RotateRefIdeal.nD Cert.RotateRefIdeal.τ).loc Cert.RotateRefIdeal.main_arg5) = m ((c.tc : Thread Cert.RotateIdeal.nD Cert.RotateIdeal.τ).loc Cert.RotateIdeal.main_arg5)) →
    ∃ (v0 : (c : Dev Cert.RotateIdeal.nD) → Buf (Elt Ideal) ((c.tc : Thread Cert.RotateIdeal.nD Cert.RotateIdeal.τ).loc Cert.RotateIdeal.main_v0_0)) (v1 : (c : Dev Cert.RotateIdeal.nD) → Buf (Elt Ideal) ((c.tc : Thread Cert.RotateIdeal.nD Cert.RotateIdeal.τ).loc Cert.RotateIdeal.main_v0_1)) (v2 : (c : Dev Cert.RotateIdeal.nD) → Buf (Elt Ideal) ((c.tc : Thread Cert.RotateIdeal.nD Cert.RotateIdeal.τ).loc Cert.RotateIdeal.main_v0_2)) (v3 : (c : Dev Cert.RotateIdeal.nD) → Buf (Elt Ideal) ((c.tc : Thread Cert.RotateIdeal.nD Cert.RotateIdeal.τ).loc Cert.RotateIdeal.main_v0_3)),
      θ_run (Cert.RotateIdeal.defs (F := Ideal)) (onTc (τ := Cert.RotateIdeal.τ) (Cert.RotateIdeal.main (F := Ideal))) ⟨m, fun _ => 0, g⟩ (fun r => ∀ c : Dev Cert.RotateIdeal.nD,
          r.2.mem ((c.tc : Thread Cert.RotateIdeal.nD Cert.RotateIdeal.τ).loc Cert.RotateIdeal.main_v0_0) = v0 c
          ∧ r.2.mem ((c.tc : Thread Cert.RotateIdeal.nD Cert.RotateIdeal.τ).loc Cert.RotateIdeal.main_v0_1) = v1 c
          ∧ r.2.mem ((c.tc : Thread Cert.RotateIdeal.nD Cert.RotateIdeal.τ).loc Cert.RotateIdeal.main_v0_2) = v2 c
          ∧ r.2.mem ((c.tc : Thread Cert.RotateIdeal.nD Cert.RotateIdeal.τ).loc Cert.RotateIdeal.main_v0_3) = v3 c
          ∧ r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
          ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1)
          ∧ r.2.mem ((c.tc : Thread Cert.RotateIdeal.nD Cert.RotateIdeal.τ).loc Cert.RotateIdeal.main_arg2) = m ((c.tc : Thread Cert.RotateIdeal.nD Cert.RotateIdeal.τ).loc Cert.RotateIdeal.main_arg2)
          ∧ r.2.mem ((c.tc : Thread Cert.RotateIdeal.nD Cert.RotateIdeal.τ).loc Cert.RotateIdeal.main_arg3) = m ((c.tc : Thread Cert.RotateIdeal.nD Cert.RotateIdeal.τ).loc Cert.RotateIdeal.main_arg3)
          ∧ r.2.mem ((c.tc : Thread Cert.RotateIdeal.nD Cert.RotateIdeal.τ).loc Cert.RotateIdeal.main_arg4) = m ((c.tc : Thread Cert.RotateIdeal.nD Cert.RotateIdeal.τ).loc Cert.RotateIdeal.main_arg4)
          ∧ r.2.mem ((c.tc : Thread Cert.RotateIdeal.nD Cert.RotateIdeal.τ).loc Cert.RotateIdeal.main_arg5) = m ((c.tc : Thread Cert.RotateIdeal.nD Cert.RotateIdeal.τ).loc Cert.RotateIdeal.main_arg5))
      ∧ θ_run (Cert.RotateRefIdeal.defs (F := Ideal)) (onTc (τ := Cert.RotateRefIdeal.τ) (Cert.RotateRefIdeal.main (F := Ideal))) ⟨m', fun _ => 0, g'⟩ (fun r => ∀ c : Dev Cert.RotateRefIdeal.nD,
          r.2.mem ((c.tc : Thread Cert.RotateRefIdeal.nD Cert.RotateRefIdeal.τ).loc Cert.RotateRefIdeal.main_v0_0) = v0 c
          ∧ r.2.mem ((c.tc : Thread Cert.RotateRefIdeal.nD Cert.RotateRefIdeal.τ).loc Cert.RotateRefIdeal.main_v0_1) = v1 c
          ∧ r.2.mem ((c.tc : Thread Cert.RotateRefIdeal.nD Cert.RotateRefIdeal.τ).loc Cert.RotateRefIdeal.main_v0_2) = v2 c
          ∧ r.2.mem ((c.tc : Thread Cert.RotateRefIdeal.nD Cert.RotateRefIdeal.τ).loc Cert.RotateRefIdeal.main_v0_3) = v3 c
          ∧ r.2.mem ((c.tc : Thread Cert.RotateRefIdeal.nD Cert.RotateRefIdeal.τ).loc Cert.RotateRefIdeal.main_arg0) = m' ((c.tc : Thread Cert.RotateRefIdeal.nD Cert.RotateRefIdeal.τ).loc Cert.RotateRefIdeal.main_arg0)
          ∧ r.2.mem ((c.tc : Thread Cert.RotateRefIdeal.nD Cert.RotateRefIdeal.τ).loc Cert.RotateRefIdeal.main_arg1) = m' ((c.tc : Thread Cert.RotateRefIdeal.nD Cert.RotateRefIdeal.τ).loc Cert.RotateRefIdeal.main_arg1)
          ∧ r.2.mem ((c.tc : Thread Cert.RotateRefIdeal.nD Cert.RotateRefIdeal.τ).loc Cert.RotateRefIdeal.main_arg2) = m' ((c.tc : Thread Cert.RotateRefIdeal.nD Cert.RotateRefIdeal.τ).loc Cert.RotateRefIdeal.main_arg2)
          ∧ r.2.mem ((c.tc : Thread Cert.RotateRefIdeal.nD Cert.RotateRefIdeal.τ).loc Cert.RotateRefIdeal.main_arg3) = m' ((c.tc : Thread Cert.RotateRefIdeal.nD Cert.RotateRefIdeal.τ).loc Cert.RotateRefIdeal.main_arg3)
          ∧ r.2.mem ((c.tc : Thread Cert.RotateRefIdeal.nD Cert.RotateRefIdeal.τ).loc Cert.RotateRefIdeal.main_arg4) = m' ((c.tc : Thread Cert.RotateRefIdeal.nD Cert.RotateRefIdeal.τ).loc Cert.RotateRefIdeal.main_arg4)
          ∧ r.2.mem ((c.tc : Thread Cert.RotateRefIdeal.nD Cert.RotateRefIdeal.τ).loc Cert.RotateRefIdeal.main_arg5) = m' ((c.tc : Thread Cert.RotateRefIdeal.nD Cert.RotateRefIdeal.τ).loc Cert.RotateRefIdeal.main_arg5))

def preserves_Power_PowerIdeal : Prop :=
  IdealRules.bf16_pack.Statement Cert.PowerIdeal.S256x1536

def algebraic_PowerIdeal_PowerRefIdeal_pre_finite_stat [hPowerIdeal : Cert.PowerIdeal.Facts] [hPowerRefIdeal : Cert.PowerRefIdeal.Facts] [hPre_finite_stat : Cert.Pre_finite_stat.Facts] : Prop :=
  ∀ (m : (ℓ : Loc Cert.PowerIdeal.nD Cert.PowerIdeal.τ Cert.PowerIdeal.sig) → Buf (Elt Ideal) ℓ) (g : Dev Cert.PowerIdeal.nD → PrngReg)
    (m' : (ℓ : Loc Cert.PowerRefIdeal.nD Cert.PowerRefIdeal.τ Cert.PowerRefIdeal.sig) → Buf (Elt Ideal) ℓ) (g' : Dev Cert.PowerRefIdeal.nD → PrngReg), Pre_PowerIdeal_finite_stat m →
    (∀ c : Dev Cert.PowerIdeal.nD,
      m' ((c.tc : Thread Cert.PowerRefIdeal.nD Cert.PowerRefIdeal.τ).loc Cert.PowerRefIdeal.main_arg0) = m ((c.tc : Thread Cert.PowerIdeal.nD Cert.PowerIdeal.τ).loc Cert.PowerIdeal.main_arg0)
      ∧ m' ((c.tc : Thread Cert.PowerRefIdeal.nD Cert.PowerRefIdeal.τ).loc Cert.PowerRefIdeal.main_arg1) = m ((c.tc : Thread Cert.PowerIdeal.nD Cert.PowerIdeal.τ).loc Cert.PowerIdeal.main_arg1)) →
    ∃ (v0 : (c : Dev Cert.PowerIdeal.nD) → Buf (Elt Ideal) ((c.tc : Thread Cert.PowerIdeal.nD Cert.PowerIdeal.τ).loc Cert.PowerIdeal.main_v0)),
      θ_run (Cert.PowerIdeal.defs (F := Ideal)) (onTc (τ := Cert.PowerIdeal.τ) (Cert.PowerIdeal.main (F := Ideal))) ⟨m, fun _ => 0, g⟩ (fun r => ∀ c : Dev Cert.PowerIdeal.nD,
          r.2.mem ((c.tc : Thread Cert.PowerIdeal.nD Cert.PowerIdeal.τ).loc Cert.PowerIdeal.main_v0) = v0 c
          ∧ r.2.mem ((c.tc : Thread Cert.PowerIdeal.nD Cert.PowerIdeal.τ).loc Cert.PowerIdeal.main_arg0) = m ((c.tc : Thread Cert.PowerIdeal.nD Cert.PowerIdeal.τ).loc Cert.PowerIdeal.main_arg0)
          ∧ r.2.mem ((c.tc : Thread Cert.PowerIdeal.nD Cert.PowerIdeal.τ).loc Cert.PowerIdeal.main_arg1) = m ((c.tc : Thread Cert.PowerIdeal.nD Cert.PowerIdeal.τ).loc Cert.PowerIdeal.main_arg1))
      ∧ θ_run (Cert.PowerRefIdeal.defs (F := Ideal)) (onTc (τ := Cert.PowerRefIdeal.τ) (Cert.PowerRefIdeal.main (F := Ideal))) ⟨m', fun _ => 0, g'⟩ (fun r => ∀ c : Dev Cert.PowerRefIdeal.nD,
          r.2.mem ((c.tc : Thread Cert.PowerRefIdeal.nD Cert.PowerRefIdeal.τ).loc Cert.PowerRefIdeal.main_v0) = v0 c
          ∧ r.2.mem ((c.tc : Thread Cert.PowerRefIdeal.nD Cert.PowerRefIdeal.τ).loc Cert.PowerRefIdeal.main_arg0) = m' ((c.tc : Thread Cert.PowerRefIdeal.nD Cert.PowerRefIdeal.τ).loc Cert.PowerRefIdeal.main_arg0)
          ∧ r.2.mem ((c.tc : Thread Cert.PowerRefIdeal.nD Cert.PowerRefIdeal.τ).loc Cert.PowerRefIdeal.main_arg1) = m' ((c.tc : Thread Cert.PowerRefIdeal.nD Cert.PowerRefIdeal.τ).loc Cert.PowerRefIdeal.main_arg1))

def preserves_PowerRight_PowerRightIdeal : Prop :=
  IdealRules.bf16_pack.Statement Cert.PowerRightIdeal.S256x1024

def algebraic_PowerRightIdeal_PowerRightRefIdeal_pre_finite_right [hPowerRightIdeal : Cert.PowerRightIdeal.Facts] [hPowerRightRefIdeal : Cert.PowerRightRefIdeal.Facts] [hPre_finite_right : Cert.Pre_finite_right.Facts] : Prop :=
  ∀ (m : (ℓ : Loc Cert.PowerRightIdeal.nD Cert.PowerRightIdeal.τ Cert.PowerRightIdeal.sig) → Buf (Elt Ideal) ℓ) (g : Dev Cert.PowerRightIdeal.nD → PrngReg)
    (m' : (ℓ : Loc Cert.PowerRightRefIdeal.nD Cert.PowerRightRefIdeal.τ Cert.PowerRightRefIdeal.sig) → Buf (Elt Ideal) ℓ) (g' : Dev Cert.PowerRightRefIdeal.nD → PrngReg), Pre_PowerRightIdeal_finite_right m →
    (∀ c : Dev Cert.PowerRightIdeal.nD,
      m' ((c.tc : Thread Cert.PowerRightRefIdeal.nD Cert.PowerRightRefIdeal.τ).loc Cert.PowerRightRefIdeal.main_arg0) = m ((c.tc : Thread Cert.PowerRightIdeal.nD Cert.PowerRightIdeal.τ).loc Cert.PowerRightIdeal.main_arg0)
      ∧ m' ((c.tc : Thread Cert.PowerRightRefIdeal.nD Cert.PowerRightRefIdeal.τ).loc Cert.PowerRightRefIdeal.main_arg1) = m ((c.tc : Thread Cert.PowerRightIdeal.nD Cert.PowerRightIdeal.τ).loc Cert.PowerRightIdeal.main_arg1)) →
    ∃ (v0 : (c : Dev Cert.PowerRightIdeal.nD) → Buf (Elt Ideal) ((c.tc : Thread Cert.PowerRightIdeal.nD Cert.PowerRightIdeal.τ).loc Cert.PowerRightIdeal.main_v0)),
      θ_run (Cert.PowerRightIdeal.defs (F := Ideal)) (onTc (τ := Cert.PowerRightIdeal.τ) (Cert.PowerRightIdeal.main (F := Ideal))) ⟨m, fun _ => 0, g⟩ (fun r => ∀ c : Dev Cert.PowerRightIdeal.nD,
          r.2.mem ((c.tc : Thread Cert.PowerRightIdeal.nD Cert.PowerRightIdeal.τ).loc Cert.PowerRightIdeal.main_v0) = v0 c
          ∧ r.2.mem ((c.tc : Thread Cert.PowerRightIdeal.nD Cert.PowerRightIdeal.τ).loc Cert.PowerRightIdeal.main_arg0) = m ((c.tc : Thread Cert.PowerRightIdeal.nD Cert.PowerRightIdeal.τ).loc Cert.PowerRightIdeal.main_arg0)
          ∧ r.2.mem ((c.tc : Thread Cert.PowerRightIdeal.nD Cert.PowerRightIdeal.τ).loc Cert.PowerRightIdeal.main_arg1) = m ((c.tc : Thread Cert.PowerRightIdeal.nD Cert.PowerRightIdeal.τ).loc Cert.PowerRightIdeal.main_arg1))
      ∧ θ_run (Cert.PowerRightRefIdeal.defs (F := Ideal)) (onTc (τ := Cert.PowerRightRefIdeal.τ) (Cert.PowerRightRefIdeal.main (F := Ideal))) ⟨m', fun _ => 0, g'⟩ (fun r => ∀ c : Dev Cert.PowerRightRefIdeal.nD,
          r.2.mem ((c.tc : Thread Cert.PowerRightRefIdeal.nD Cert.PowerRightRefIdeal.τ).loc Cert.PowerRightRefIdeal.main_v0) = v0 c
          ∧ r.2.mem ((c.tc : Thread Cert.PowerRightRefIdeal.nD Cert.PowerRightRefIdeal.τ).loc Cert.PowerRightRefIdeal.main_arg0) = m' ((c.tc : Thread Cert.PowerRightRefIdeal.nD Cert.PowerRightRefIdeal.τ).loc Cert.PowerRightRefIdeal.main_arg0)
          ∧ r.2.mem ((c.tc : Thread Cert.PowerRightRefIdeal.nD Cert.PowerRightRefIdeal.τ).loc Cert.PowerRightRefIdeal.main_arg1) = m' ((c.tc : Thread Cert.PowerRightRefIdeal.nD Cert.PowerRightRefIdeal.τ).loc Cert.PowerRightRefIdeal.main_arg1))

def preserves_Solve_SolveIdeal : Prop :=
  IdealRules.bf16_pack.Statement Cert.SolveIdeal.S128x128
  ∧ IdealRules.bf16_pack.Statement Cert.SolveIdeal.S128x1536
  ∧ IdealRules.bf16_pack.Statement Cert.SolveIdeal.S128x256
  ∧ IdealRules.bf16_pack.Statement Cert.SolveIdeal.S128x384
  ∧ IdealRules.bf16_pack.Statement Cert.SolveIdeal.S128x512
  ∧ IdealRules.bf16_pack.Statement Cert.SolveIdeal.S128x640
  ∧ IdealRules.bf16_pack.Statement Cert.SolveIdeal.S128x768
  ∧ IdealRules.bf16_pack.Statement Cert.SolveIdeal.S128x896
  ∧ IdealRules.bf16_pack.Statement Cert.SolveIdeal.S128x1024
  ∧ IdealRules.bf16_pack.Statement Cert.SolveIdeal.S128x1152
  ∧ IdealRules.bf16_pack.Statement Cert.SolveIdeal.S128x1280
  ∧ IdealRules.bf16_pack.Statement Cert.SolveIdeal.S128x1408

def algebraic_SolveIdeal_SolveRefIdeal_pre_finite_system [hSolveIdeal : Cert.SolveIdeal.Facts] [hSolveRefIdeal : Cert.SolveRefIdeal.Facts] [hPre_finite_system : Cert.Pre_finite_system.Facts] : Prop :=
  ∀ (m : (ℓ : Loc Cert.SolveIdeal.nD Cert.SolveIdeal.τ Cert.SolveIdeal.sig) → Buf (Elt Ideal) ℓ) (g : Dev Cert.SolveIdeal.nD → PrngReg)
    (m' : (ℓ : Loc Cert.SolveRefIdeal.nD Cert.SolveRefIdeal.τ Cert.SolveRefIdeal.sig) → Buf (Elt Ideal) ℓ) (g' : Dev Cert.SolveRefIdeal.nD → PrngReg), Pre_SolveIdeal_finite_system m →
    (∀ c : Dev Cert.SolveIdeal.nD,
      m' ((c.tc : Thread Cert.SolveRefIdeal.nD Cert.SolveRefIdeal.τ).loc Cert.SolveRefIdeal.main_arg0) = m ((c.tc : Thread Cert.SolveIdeal.nD Cert.SolveIdeal.τ).loc Cert.SolveIdeal.main_arg0)
      ∧ m' ((c.tc : Thread Cert.SolveRefIdeal.nD Cert.SolveRefIdeal.τ).loc Cert.SolveRefIdeal.main_arg1) = m ((c.tc : Thread Cert.SolveIdeal.nD Cert.SolveIdeal.τ).loc Cert.SolveIdeal.main_arg1)
      ∧ m' ((c.tc : Thread Cert.SolveRefIdeal.nD Cert.SolveRefIdeal.τ).loc Cert.SolveRefIdeal.main_arg2) = m ((c.tc : Thread Cert.SolveIdeal.nD Cert.SolveIdeal.τ).loc Cert.SolveIdeal.main_arg2)
      ∧ m' ((c.tc : Thread Cert.SolveRefIdeal.nD Cert.SolveRefIdeal.τ).loc Cert.SolveRefIdeal.main_arg3) = m ((c.tc : Thread Cert.SolveIdeal.nD Cert.SolveIdeal.τ).loc Cert.SolveIdeal.main_arg3)
      ∧ m' ((c.tc : Thread Cert.SolveRefIdeal.nD Cert.SolveRefIdeal.τ).loc Cert.SolveRefIdeal.main_arg4) = m ((c.tc : Thread Cert.SolveIdeal.nD Cert.SolveIdeal.τ).loc Cert.SolveIdeal.main_arg4)
      ∧ m' ((c.tc : Thread Cert.SolveRefIdeal.nD Cert.SolveRefIdeal.τ).loc Cert.SolveRefIdeal.main_arg5) = m ((c.tc : Thread Cert.SolveIdeal.nD Cert.SolveIdeal.τ).loc Cert.SolveIdeal.main_arg5)
      ∧ m' ((c.tc : Thread Cert.SolveRefIdeal.nD Cert.SolveRefIdeal.τ).loc Cert.SolveRefIdeal.main_arg6) = m ((c.tc : Thread Cert.SolveIdeal.nD Cert.SolveIdeal.τ).loc Cert.SolveIdeal.main_arg6)
      ∧ m' ((c.tc : Thread Cert.SolveRefIdeal.nD Cert.SolveRefIdeal.τ).loc Cert.SolveRefIdeal.main_arg7) = m ((c.tc : Thread Cert.SolveIdeal.nD Cert.SolveIdeal.τ).loc Cert.SolveIdeal.main_arg7)
      ∧ m' ((c.tc : Thread Cert.SolveRefIdeal.nD Cert.SolveRefIdeal.τ).loc Cert.SolveRefIdeal.main_arg8) = m ((c.tc : Thread Cert.SolveIdeal.nD Cert.SolveIdeal.τ).loc Cert.SolveIdeal.main_arg8)
      ∧ m' ((c.tc : Thread Cert.SolveRefIdeal.nD Cert.SolveRefIdeal.τ).loc Cert.SolveRefIdeal.main_arg9) = m ((c.tc : Thread Cert.SolveIdeal.nD Cert.SolveIdeal.τ).loc Cert.SolveIdeal.main_arg9)
      ∧ m' ((c.tc : Thread Cert.SolveRefIdeal.nD Cert.SolveRefIdeal.τ).loc Cert.SolveRefIdeal.main_arg10) = m ((c.tc : Thread Cert.SolveIdeal.nD Cert.SolveIdeal.τ).loc Cert.SolveIdeal.main_arg10)
      ∧ m' ((c.tc : Thread Cert.SolveRefIdeal.nD Cert.SolveRefIdeal.τ).loc Cert.SolveRefIdeal.main_arg11) = m ((c.tc : Thread Cert.SolveIdeal.nD Cert.SolveIdeal.τ).loc Cert.SolveIdeal.main_arg11)
      ∧ m' ((c.tc : Thread Cert.SolveRefIdeal.nD Cert.SolveRefIdeal.τ).loc Cert.SolveRefIdeal.main_arg12) = m ((c.tc : Thread Cert.SolveIdeal.nD Cert.SolveIdeal.τ).loc Cert.SolveIdeal.main_arg12)
      ∧ m' ((c.tc : Thread Cert.SolveRefIdeal.nD Cert.SolveRefIdeal.τ).loc Cert.SolveRefIdeal.main_arg13) = m ((c.tc : Thread Cert.SolveIdeal.nD Cert.SolveIdeal.τ).loc Cert.SolveIdeal.main_arg13)
      ∧ m' ((c.tc : Thread Cert.SolveRefIdeal.nD Cert.SolveRefIdeal.τ).loc Cert.SolveRefIdeal.main_arg14) = m ((c.tc : Thread Cert.SolveIdeal.nD Cert.SolveIdeal.τ).loc Cert.SolveIdeal.main_arg14)
      ∧ m' ((c.tc : Thread Cert.SolveRefIdeal.nD Cert.SolveRefIdeal.τ).loc Cert.SolveRefIdeal.main_arg15) = m ((c.tc : Thread Cert.SolveIdeal.nD Cert.SolveIdeal.τ).loc Cert.SolveIdeal.main_arg15)
      ∧ m' ((c.tc : Thread Cert.SolveRefIdeal.nD Cert.SolveRefIdeal.τ).loc Cert.SolveRefIdeal.main_arg16) = m ((c.tc : Thread Cert.SolveIdeal.nD Cert.SolveIdeal.τ).loc Cert.SolveIdeal.main_arg16)
      ∧ m' ((c.tc : Thread Cert.SolveRefIdeal.nD Cert.SolveRefIdeal.τ).loc Cert.SolveRefIdeal.main_arg17) = m ((c.tc : Thread Cert.SolveIdeal.nD Cert.SolveIdeal.τ).loc Cert.SolveIdeal.main_arg17)
      ∧ m' ((c.tc : Thread Cert.SolveRefIdeal.nD Cert.SolveRefIdeal.τ).loc Cert.SolveRefIdeal.main_arg18) = m ((c.tc : Thread Cert.SolveIdeal.nD Cert.SolveIdeal.τ).loc Cert.SolveIdeal.main_arg18)
      ∧ m' ((c.tc : Thread Cert.SolveRefIdeal.nD Cert.SolveRefIdeal.τ).loc Cert.SolveRefIdeal.main_arg19) = m ((c.tc : Thread Cert.SolveIdeal.nD Cert.SolveIdeal.τ).loc Cert.SolveIdeal.main_arg19)
      ∧ m' ((c.tc : Thread Cert.SolveRefIdeal.nD Cert.SolveRefIdeal.τ).loc Cert.SolveRefIdeal.main_arg20) = m ((c.tc : Thread Cert.SolveIdeal.nD Cert.SolveIdeal.τ).loc Cert.SolveIdeal.main_arg20)
      ∧ m' ((c.tc : Thread Cert.SolveRefIdeal.nD Cert.SolveRefIdeal.τ).loc Cert.SolveRefIdeal.main_arg21) = m ((c.tc : Thread Cert.SolveIdeal.nD Cert.SolveIdeal.τ).loc Cert.SolveIdeal.main_arg21)
      ∧ m' ((c.tc : Thread Cert.SolveRefIdeal.nD Cert.SolveRefIdeal.τ).loc Cert.SolveRefIdeal.main_arg22) = m ((c.tc : Thread Cert.SolveIdeal.nD Cert.SolveIdeal.τ).loc Cert.SolveIdeal.main_arg22)
      ∧ m' ((c.tc : Thread Cert.SolveRefIdeal.nD Cert.SolveRefIdeal.τ).loc Cert.SolveRefIdeal.main_arg23) = m ((c.tc : Thread Cert.SolveIdeal.nD Cert.SolveIdeal.τ).loc Cert.SolveIdeal.main_arg23)) →
    ∃ (v0 : (c : Dev Cert.SolveIdeal.nD) → Buf (Elt Ideal) ((c.tc : Thread Cert.SolveIdeal.nD Cert.SolveIdeal.τ).loc Cert.SolveIdeal.main_v0)),
      θ_run (Cert.SolveIdeal.defs (F := Ideal)) (onTc (τ := Cert.SolveIdeal.τ) (Cert.SolveIdeal.main (F := Ideal))) ⟨m, fun _ => 0, g⟩ (fun r => ∀ c : Dev Cert.SolveIdeal.nD,
          r.2.mem ((c.tc : Thread Cert.SolveIdeal.nD Cert.SolveIdeal.τ).loc Cert.SolveIdeal.main_v0) = v0 c
          ∧ r.2.mem ((c.tc : Thread Cert.SolveIdeal.nD Cert.SolveIdeal.τ).loc Cert.SolveIdeal.main_arg0) = m ((c.tc : Thread Cert.SolveIdeal.nD Cert.SolveIdeal.τ).loc Cert.SolveIdeal.main_arg0)
          ∧ r.2.mem ((c.tc : Thread Cert.SolveIdeal.nD Cert.SolveIdeal.τ).loc Cert.SolveIdeal.main_arg1) = m ((c.tc : Thread Cert.SolveIdeal.nD Cert.SolveIdeal.τ).loc Cert.SolveIdeal.main_arg1)
          ∧ r.2.mem ((c.tc : Thread Cert.SolveIdeal.nD Cert.SolveIdeal.τ).loc Cert.SolveIdeal.main_arg2) = m ((c.tc : Thread Cert.SolveIdeal.nD Cert.SolveIdeal.τ).loc Cert.SolveIdeal.main_arg2)
          ∧ r.2.mem ((c.tc : Thread Cert.SolveIdeal.nD Cert.SolveIdeal.τ).loc Cert.SolveIdeal.main_arg3) = m ((c.tc : Thread Cert.SolveIdeal.nD Cert.SolveIdeal.τ).loc Cert.SolveIdeal.main_arg3)
          ∧ r.2.mem ((c.tc : Thread Cert.SolveIdeal.nD Cert.SolveIdeal.τ).loc Cert.SolveIdeal.main_arg4) = m ((c.tc : Thread Cert.SolveIdeal.nD Cert.SolveIdeal.τ).loc Cert.SolveIdeal.main_arg4)
          ∧ r.2.mem ((c.tc : Thread Cert.SolveIdeal.nD Cert.SolveIdeal.τ).loc Cert.SolveIdeal.main_arg5) = m ((c.tc : Thread Cert.SolveIdeal.nD Cert.SolveIdeal.τ).loc Cert.SolveIdeal.main_arg5)
          ∧ r.2.mem ((c.tc : Thread Cert.SolveIdeal.nD Cert.SolveIdeal.τ).loc Cert.SolveIdeal.main_arg6) = m ((c.tc : Thread Cert.SolveIdeal.nD Cert.SolveIdeal.τ).loc Cert.SolveIdeal.main_arg6)
          ∧ r.2.mem ((c.tc : Thread Cert.SolveIdeal.nD Cert.SolveIdeal.τ).loc Cert.SolveIdeal.main_arg7) = m ((c.tc : Thread Cert.SolveIdeal.nD Cert.SolveIdeal.τ).loc Cert.SolveIdeal.main_arg7)
          ∧ r.2.mem ((c.tc : Thread Cert.SolveIdeal.nD Cert.SolveIdeal.τ).loc Cert.SolveIdeal.main_arg8) = m ((c.tc : Thread Cert.SolveIdeal.nD Cert.SolveIdeal.τ).loc Cert.SolveIdeal.main_arg8)
          ∧ r.2.mem ((c.tc : Thread Cert.SolveIdeal.nD Cert.SolveIdeal.τ).loc Cert.SolveIdeal.main_arg9) = m ((c.tc : Thread Cert.SolveIdeal.nD Cert.SolveIdeal.τ).loc Cert.SolveIdeal.main_arg9)
          ∧ r.2.mem ((c.tc : Thread Cert.SolveIdeal.nD Cert.SolveIdeal.τ).loc Cert.SolveIdeal.main_arg10) = m ((c.tc : Thread Cert.SolveIdeal.nD Cert.SolveIdeal.τ).loc Cert.SolveIdeal.main_arg10)
          ∧ r.2.mem ((c.tc : Thread Cert.SolveIdeal.nD Cert.SolveIdeal.τ).loc Cert.SolveIdeal.main_arg11) = m ((c.tc : Thread Cert.SolveIdeal.nD Cert.SolveIdeal.τ).loc Cert.SolveIdeal.main_arg11)
          ∧ r.2.mem ((c.tc : Thread Cert.SolveIdeal.nD Cert.SolveIdeal.τ).loc Cert.SolveIdeal.main_arg12) = m ((c.tc : Thread Cert.SolveIdeal.nD Cert.SolveIdeal.τ).loc Cert.SolveIdeal.main_arg12)
          ∧ r.2.mem ((c.tc : Thread Cert.SolveIdeal.nD Cert.SolveIdeal.τ).loc Cert.SolveIdeal.main_arg13) = m ((c.tc : Thread Cert.SolveIdeal.nD Cert.SolveIdeal.τ).loc Cert.SolveIdeal.main_arg13)
          ∧ r.2.mem ((c.tc : Thread Cert.SolveIdeal.nD Cert.SolveIdeal.τ).loc Cert.SolveIdeal.main_arg14) = m ((c.tc : Thread Cert.SolveIdeal.nD Cert.SolveIdeal.τ).loc Cert.SolveIdeal.main_arg14)
          ∧ r.2.mem ((c.tc : Thread Cert.SolveIdeal.nD Cert.SolveIdeal.τ).loc Cert.SolveIdeal.main_arg15) = m ((c.tc : Thread Cert.SolveIdeal.nD Cert.SolveIdeal.τ).loc Cert.SolveIdeal.main_arg15)
          ∧ r.2.mem ((c.tc : Thread Cert.SolveIdeal.nD Cert.SolveIdeal.τ).loc Cert.SolveIdeal.main_arg16) = m ((c.tc : Thread Cert.SolveIdeal.nD Cert.SolveIdeal.τ).loc Cert.SolveIdeal.main_arg16)
          ∧ r.2.mem ((c.tc : Thread Cert.SolveIdeal.nD Cert.SolveIdeal.τ).loc Cert.SolveIdeal.main_arg17) = m ((c.tc : Thread Cert.SolveIdeal.nD Cert.SolveIdeal.τ).loc Cert.SolveIdeal.main_arg17)
          ∧ r.2.mem ((c.tc : Thread Cert.SolveIdeal.nD Cert.SolveIdeal.τ).loc Cert.SolveIdeal.main_arg18) = m ((c.tc : Thread Cert.SolveIdeal.nD Cert.SolveIdeal.τ).loc Cert.SolveIdeal.main_arg18)
          ∧ r.2.mem ((c.tc : Thread Cert.SolveIdeal.nD Cert.SolveIdeal.τ).loc Cert.SolveIdeal.main_arg19) = m ((c.tc : Thread Cert.SolveIdeal.nD Cert.SolveIdeal.τ).loc Cert.SolveIdeal.main_arg19)
          ∧ r.2.mem ((c.tc : Thread Cert.SolveIdeal.nD Cert.SolveIdeal.τ).loc Cert.SolveIdeal.main_arg20) = m ((c.tc : Thread Cert.SolveIdeal.nD Cert.SolveIdeal.τ).loc Cert.SolveIdeal.main_arg20)
          ∧ r.2.mem ((c.tc : Thread Cert.SolveIdeal.nD Cert.SolveIdeal.τ).loc Cert.SolveIdeal.main_arg21) = m ((c.tc : Thread Cert.SolveIdeal.nD Cert.SolveIdeal.τ).loc Cert.SolveIdeal.main_arg21)
          ∧ r.2.mem ((c.tc : Thread Cert.SolveIdeal.nD Cert.SolveIdeal.τ).loc Cert.SolveIdeal.main_arg22) = m ((c.tc : Thread Cert.SolveIdeal.nD Cert.SolveIdeal.τ).loc Cert.SolveIdeal.main_arg22)
          ∧ r.2.mem ((c.tc : Thread Cert.SolveIdeal.nD Cert.SolveIdeal.τ).loc Cert.SolveIdeal.main_arg23) = m ((c.tc : Thread Cert.SolveIdeal.nD Cert.SolveIdeal.τ).loc Cert.SolveIdeal.main_arg23))
      ∧ θ_run (Cert.SolveRefIdeal.defs (F := Ideal)) (onTc (τ := Cert.SolveRefIdeal.τ) (Cert.SolveRefIdeal.main (F := Ideal))) ⟨m', fun _ => 0, g'⟩ (fun r => ∀ c : Dev Cert.SolveRefIdeal.nD,
          r.2.mem ((c.tc : Thread Cert.SolveRefIdeal.nD Cert.SolveRefIdeal.τ).loc Cert.SolveRefIdeal.main_v0) = v0 c
          ∧ r.2.mem ((c.tc : Thread Cert.SolveRefIdeal.nD Cert.SolveRefIdeal.τ).loc Cert.SolveRefIdeal.main_arg0) = m' ((c.tc : Thread Cert.SolveRefIdeal.nD Cert.SolveRefIdeal.τ).loc Cert.SolveRefIdeal.main_arg0)
          ∧ r.2.mem ((c.tc : Thread Cert.SolveRefIdeal.nD Cert.SolveRefIdeal.τ).loc Cert.SolveRefIdeal.main_arg1) = m' ((c.tc : Thread Cert.SolveRefIdeal.nD Cert.SolveRefIdeal.τ).loc Cert.SolveRefIdeal.main_arg1)
          ∧ r.2.mem ((c.tc : Thread Cert.SolveRefIdeal.nD Cert.SolveRefIdeal.τ).loc Cert.SolveRefIdeal.main_arg2) = m' ((c.tc : Thread Cert.SolveRefIdeal.nD Cert.SolveRefIdeal.τ).loc Cert.SolveRefIdeal.main_arg2)
          ∧ r.2.mem ((c.tc : Thread Cert.SolveRefIdeal.nD Cert.SolveRefIdeal.τ).loc Cert.SolveRefIdeal.main_arg3) = m' ((c.tc : Thread Cert.SolveRefIdeal.nD Cert.SolveRefIdeal.τ).loc Cert.SolveRefIdeal.main_arg3)
          ∧ r.2.mem ((c.tc : Thread Cert.SolveRefIdeal.nD Cert.SolveRefIdeal.τ).loc Cert.SolveRefIdeal.main_arg4) = m' ((c.tc : Thread Cert.SolveRefIdeal.nD Cert.SolveRefIdeal.τ).loc Cert.SolveRefIdeal.main_arg4)
          ∧ r.2.mem ((c.tc : Thread Cert.SolveRefIdeal.nD Cert.SolveRefIdeal.τ).loc Cert.SolveRefIdeal.main_arg5) = m' ((c.tc : Thread Cert.SolveRefIdeal.nD Cert.SolveRefIdeal.τ).loc Cert.SolveRefIdeal.main_arg5)
          ∧ r.2.mem ((c.tc : Thread Cert.SolveRefIdeal.nD Cert.SolveRefIdeal.τ).loc Cert.SolveRefIdeal.main_arg6) = m' ((c.tc : Thread Cert.SolveRefIdeal.nD Cert.SolveRefIdeal.τ).loc Cert.SolveRefIdeal.main_arg6)
          ∧ r.2.mem ((c.tc : Thread Cert.SolveRefIdeal.nD Cert.SolveRefIdeal.τ).loc Cert.SolveRefIdeal.main_arg7) = m' ((c.tc : Thread Cert.SolveRefIdeal.nD Cert.SolveRefIdeal.τ).loc Cert.SolveRefIdeal.main_arg7)
          ∧ r.2.mem ((c.tc : Thread Cert.SolveRefIdeal.nD Cert.SolveRefIdeal.τ).loc Cert.SolveRefIdeal.main_arg8) = m' ((c.tc : Thread Cert.SolveRefIdeal.nD Cert.SolveRefIdeal.τ).loc Cert.SolveRefIdeal.main_arg8)
          ∧ r.2.mem ((c.tc : Thread Cert.SolveRefIdeal.nD Cert.SolveRefIdeal.τ).loc Cert.SolveRefIdeal.main_arg9) = m' ((c.tc : Thread Cert.SolveRefIdeal.nD Cert.SolveRefIdeal.τ).loc Cert.SolveRefIdeal.main_arg9)
          ∧ r.2.mem ((c.tc : Thread Cert.SolveRefIdeal.nD Cert.SolveRefIdeal.τ).loc Cert.SolveRefIdeal.main_arg10) = m' ((c.tc : Thread Cert.SolveRefIdeal.nD Cert.SolveRefIdeal.τ).loc Cert.SolveRefIdeal.main_arg10)
          ∧ r.2.mem ((c.tc : Thread Cert.SolveRefIdeal.nD Cert.SolveRefIdeal.τ).loc Cert.SolveRefIdeal.main_arg11) = m' ((c.tc : Thread Cert.SolveRefIdeal.nD Cert.SolveRefIdeal.τ).loc Cert.SolveRefIdeal.main_arg11)
          ∧ r.2.mem ((c.tc : Thread Cert.SolveRefIdeal.nD Cert.SolveRefIdeal.τ).loc Cert.SolveRefIdeal.main_arg12) = m' ((c.tc : Thread Cert.SolveRefIdeal.nD Cert.SolveRefIdeal.τ).loc Cert.SolveRefIdeal.main_arg12)
          ∧ r.2.mem ((c.tc : Thread Cert.SolveRefIdeal.nD Cert.SolveRefIdeal.τ).loc Cert.SolveRefIdeal.main_arg13) = m' ((c.tc : Thread Cert.SolveRefIdeal.nD Cert.SolveRefIdeal.τ).loc Cert.SolveRefIdeal.main_arg13)
          ∧ r.2.mem ((c.tc : Thread Cert.SolveRefIdeal.nD Cert.SolveRefIdeal.τ).loc Cert.SolveRefIdeal.main_arg14) = m' ((c.tc : Thread Cert.SolveRefIdeal.nD Cert.SolveRefIdeal.τ).loc Cert.SolveRefIdeal.main_arg14)
          ∧ r.2.mem ((c.tc : Thread Cert.SolveRefIdeal.nD Cert.SolveRefIdeal.τ).loc Cert.SolveRefIdeal.main_arg15) = m' ((c.tc : Thread Cert.SolveRefIdeal.nD Cert.SolveRefIdeal.τ).loc Cert.SolveRefIdeal.main_arg15)
          ∧ r.2.mem ((c.tc : Thread Cert.SolveRefIdeal.nD Cert.SolveRefIdeal.τ).loc Cert.SolveRefIdeal.main_arg16) = m' ((c.tc : Thread Cert.SolveRefIdeal.nD Cert.SolveRefIdeal.τ).loc Cert.SolveRefIdeal.main_arg16)
          ∧ r.2.mem ((c.tc : Thread Cert.SolveRefIdeal.nD Cert.SolveRefIdeal.τ).loc Cert.SolveRefIdeal.main_arg17) = m' ((c.tc : Thread Cert.SolveRefIdeal.nD Cert.SolveRefIdeal.τ).loc Cert.SolveRefIdeal.main_arg17)
          ∧ r.2.mem ((c.tc : Thread Cert.SolveRefIdeal.nD Cert.SolveRefIdeal.τ).loc Cert.SolveRefIdeal.main_arg18) = m' ((c.tc : Thread Cert.SolveRefIdeal.nD Cert.SolveRefIdeal.τ).loc Cert.SolveRefIdeal.main_arg18)
          ∧ r.2.mem ((c.tc : Thread Cert.SolveRefIdeal.nD Cert.SolveRefIdeal.τ).loc Cert.SolveRefIdeal.main_arg19) = m' ((c.tc : Thread Cert.SolveRefIdeal.nD Cert.SolveRefIdeal.τ).loc Cert.SolveRefIdeal.main_arg19)
          ∧ r.2.mem ((c.tc : Thread Cert.SolveRefIdeal.nD Cert.SolveRefIdeal.τ).loc Cert.SolveRefIdeal.main_arg20) = m' ((c.tc : Thread Cert.SolveRefIdeal.nD Cert.SolveRefIdeal.τ).loc Cert.SolveRefIdeal.main_arg20)
          ∧ r.2.mem ((c.tc : Thread Cert.SolveRefIdeal.nD Cert.SolveRefIdeal.τ).loc Cert.SolveRefIdeal.main_arg21) = m' ((c.tc : Thread Cert.SolveRefIdeal.nD Cert.SolveRefIdeal.τ).loc Cert.SolveRefIdeal.main_arg21)
          ∧ r.2.mem ((c.tc : Thread Cert.SolveRefIdeal.nD Cert.SolveRefIdeal.τ).loc Cert.SolveRefIdeal.main_arg22) = m' ((c.tc : Thread Cert.SolveRefIdeal.nD Cert.SolveRefIdeal.τ).loc Cert.SolveRefIdeal.main_arg22)
          ∧ r.2.mem ((c.tc : Thread Cert.SolveRefIdeal.nD Cert.SolveRefIdeal.τ).loc Cert.SolveRefIdeal.main_arg23) = m' ((c.tc : Thread Cert.SolveRefIdeal.nD Cert.SolveRefIdeal.τ).loc Cert.SolveRefIdeal.main_arg23))

def Claim : Prop :=
  ∃ (hRotate : Cert.Rotate.Facts) (hRotateIdeal : Cert.RotateIdeal.Facts) (hRotateRefIdeal : Cert.RotateRefIdeal.Facts) (hPower : Cert.Power.Facts) (hPowerIdeal : Cert.PowerIdeal.Facts) (hPowerRefIdeal : Cert.PowerRefIdeal.Facts) (hPowerRight : Cert.PowerRight.Facts) (hPowerRightIdeal : Cert.PowerRightIdeal.Facts) (hPowerRightRefIdeal : Cert.PowerRightRefIdeal.Facts) (hSolve : Cert.Solve.Facts) (hSolveIdeal : Cert.SolveIdeal.Facts) (hSolveRefIdeal : Cert.SolveRefIdeal.Facts) (hPre_finite_stat : Cert.Pre_finite_stat.Facts) (hPre_finite_right : Cert.Pre_finite_right.Facts) (hPre_finite_system : Cert.Pre_finite_system.Facts),
    quiescent_Rotate (hRotate := hRotate)
    ∧ quiescent_RotateIdeal (hRotateIdeal := hRotateIdeal)
    ∧ quiescent_RotateRefIdeal (hRotateRefIdeal := hRotateRefIdeal)
    ∧ quiescent_Power (hPower := hPower)
    ∧ quiescent_PowerIdeal (hPowerIdeal := hPowerIdeal)
    ∧ quiescent_PowerIdeal_pre_finite_stat (hPowerIdeal := hPowerIdeal) (hPre_finite_stat := hPre_finite_stat)
    ∧ quiescent_PowerRefIdeal (hPowerRefIdeal := hPowerRefIdeal)
    ∧ quiescent_PowerRefIdeal_pre_finite_stat (hPowerRefIdeal := hPowerRefIdeal) (hPre_finite_stat := hPre_finite_stat)
    ∧ quiescent_PowerRight (hPowerRight := hPowerRight)
    ∧ quiescent_PowerRightIdeal (hPowerRightIdeal := hPowerRightIdeal)
    ∧ quiescent_PowerRightIdeal_pre_finite_right (hPowerRightIdeal := hPowerRightIdeal) (hPre_finite_right := hPre_finite_right)
    ∧ quiescent_PowerRightRefIdeal (hPowerRightRefIdeal := hPowerRightRefIdeal)
    ∧ quiescent_PowerRightRefIdeal_pre_finite_right (hPowerRightRefIdeal := hPowerRightRefIdeal) (hPre_finite_right := hPre_finite_right)
    ∧ quiescent_Solve (hSolve := hSolve)
    ∧ quiescent_SolveIdeal (hSolveIdeal := hSolveIdeal)
    ∧ quiescent_SolveIdeal_pre_finite_system (hSolveIdeal := hSolveIdeal) (hPre_finite_system := hPre_finite_system)
    ∧ quiescent_SolveRefIdeal (hSolveRefIdeal := hSolveRefIdeal)
    ∧ quiescent_SolveRefIdeal_pre_finite_system (hSolveRefIdeal := hSolveRefIdeal) (hPre_finite_system := hPre_finite_system)
    ∧ preserves_Rotate_RotateIdeal
    ∧ algebraic_RotateIdeal_RotateRefIdeal (hRotateIdeal := hRotateIdeal) (hRotateRefIdeal := hRotateRefIdeal)
    ∧ preserves_Power_PowerIdeal
    ∧ algebraic_PowerIdeal_PowerRefIdeal_pre_finite_stat (hPowerIdeal := hPowerIdeal) (hPowerRefIdeal := hPowerRefIdeal) (hPre_finite_stat := hPre_finite_stat)
    ∧ preserves_PowerRight_PowerRightIdeal
    ∧ algebraic_PowerRightIdeal_PowerRightRefIdeal_pre_finite_right (hPowerRightIdeal := hPowerRightIdeal) (hPowerRightRefIdeal := hPowerRightRefIdeal) (hPre_finite_right := hPre_finite_right)
    ∧ preserves_Solve_SolveIdeal
    ∧ algebraic_SolveIdeal_SolveRefIdeal_pre_finite_system (hSolveIdeal := hSolveIdeal) (hSolveRefIdeal := hSolveRefIdeal) (hPre_finite_system := hPre_finite_system)
-- ==== Pre_finite_right.lean ====
abbrev S6x1024x1024 : Shape := ⟨3, ![6, 1024, 1024]⟩
abbrev S_ : Shape := ⟨0, ![]⟩

class Facts : Prop where
  bcast_S_S6x1024x1024 : S_.BroadcastsInDim S6x1024x1024 (![] : Fin 0 → Fin S6x1024x1024.rank)
  reducesTo_S6x1024x1024_S_d0_1_2 : S6x1024x1024.ReducesTo [0, 1, 2] S_
  h_S_ : 0 < S_.numel

variable [Facts]

def fn {F : FTy → Type} [FloatOps F] (main_arg0 : FVec F S6x1024x1024 .f32) (main_arg1 : FVec F S6x1024x1024 .bf16) : IVec S_ 1 :=
  let main_v0 : FVec F S6x1024x1024 .f32 := Host.absf main_arg0
  let main_cst : FVec F S_ .f32 := constant S_ .f32 0x7F800000#32
  let main_v1 : FVec F S6x1024x1024 .f32 := broadcastInDim S6x1024x1024 ![] bcast_S_S6x1024x1024 main_cst
  let main_v2 : IVec S6x1024x1024 1 := cmpf .olt main_v0 main_v1
  let main_c : IVec S_ 1 := constantI S_ 1 1#1
  let main_v3 : IVec S_ 1 := (fun x v => Host.reduce IntOp.andi x v reducesTo_S6x1024x1024_S_d0_1_2 h_S_) main_v2 main_c
  main_v3
-- ==== Pre_finite_stat.lean ====
abbrev S6x1536x1536 : Shape := ⟨3, ![6, 1536, 1536]⟩
abbrev S_ : Shape := ⟨0, ![]⟩

class Facts : Prop where
  bcast_S_S6x1536x1536 : S_.BroadcastsInDim S6x1536x1536 (![] : Fin 0 → Fin S6x1536x1536.rank)
  reducesTo_S6x1536x1536_S_d0_1_2 : S6x1536x1536.ReducesTo [0, 1, 2] S_
  h_S_ : 0 < S_.numel

variable [Facts]

def fn {F : FTy → Type} [FloatOps F] (main_arg0 : FVec F S6x1536x1536 .f32) (main_arg1 : FVec F S6x1536x1536 .bf16) : IVec S_ 1 :=
  let main_v0 : FVec F S6x1536x1536 .f32 := Host.absf main_arg0
  let main_cst : FVec F S_ .f32 := constant S_ .f32 0x7F800000#32
  let main_v1 : FVec F S6x1536x1536 .f32 := broadcastInDim S6x1536x1536 ![] bcast_S_S6x1536x1536 main_cst
  let main_v2 : IVec S6x1536x1536 1 := cmpf .olt main_v0 main_v1
  let main_c : IVec S_ 1 := constantI S_ 1 1#1
  let main_v3 : IVec S_ 1 := (fun x v => Host.reduce IntOp.andi x v reducesTo_S6x1536x1536_S_d0_1_2 h_S_) main_v2 main_c
  main_v3
-- ==== Pre_finite_system.lean ====
abbrev S6x1536x1536 : Shape := ⟨3, ![6, 1536, 1536]⟩
abbrev S6x128x128 : Shape := ⟨3, ![6, 128, 128]⟩
abbrev S6x1408x128 : Shape := ⟨3, ![6, 1408, 128]⟩
abbrev S6x1280x128 : Shape := ⟨3, ![6, 1280, 128]⟩
abbrev S6x1152x128 : Shape := ⟨3, ![6, 1152, 128]⟩
abbrev S6x1024x128 : Shape := ⟨3, ![6, 1024, 128]⟩
abbrev S6x896x128 : Shape := ⟨3, ![6, 896, 128]⟩
abbrev S6x768x128 : Shape := ⟨3, ![6, 768, 128]⟩
abbrev S6x640x128 : Shape := ⟨3, ![6, 640, 128]⟩
abbrev S6x512x128 : Shape := ⟨3, ![6, 512, 128]⟩
abbrev S6x384x128 : Shape := ⟨3, ![6, 384, 128]⟩
abbrev S6x256x128 : Shape := ⟨3, ![6, 256, 128]⟩
abbrev S_ : Shape := ⟨0, ![]⟩

class Facts : Prop where
  bcast_S_S6x1536x1536 : S_.BroadcastsInDim S6x1536x1536 (![] : Fin 0 → Fin S6x1536x1536.rank)
  reducesTo_S6x1536x1536_S_d0_1_2 : S6x1536x1536.ReducesTo [0, 1, 2] S_
  h_S_ : 0 < S_.numel
  bcast_S_S6x128x128 : S_.BroadcastsInDim S6x128x128 (![] : Fin 0 → Fin S6x128x128.rank)
  reducesTo_S6x128x128_S_d0_1_2 : S6x128x128.ReducesTo [0, 1, 2] S_
  bcast_S_S6x1408x128 : S_.BroadcastsInDim S6x1408x128 (![] : Fin 0 → Fin S6x1408x128.rank)
  reducesTo_S6x1408x128_S_d0_1_2 : S6x1408x128.ReducesTo [0, 1, 2] S_
  bcast_S_S6x1280x128 : S_.BroadcastsInDim S6x1280x128 (![] : Fin 0 → Fin S6x1280x128.rank)
  reducesTo_S6x1280x128_S_d0_1_2 : S6x1280x128.ReducesTo [0, 1, 2] S_
  bcast_S_S6x1152x128 : S_.BroadcastsInDim S6x1152x128 (![] : Fin 0 → Fin S6x1152x128.rank)
  reducesTo_S6x1152x128_S_d0_1_2 : S6x1152x128.ReducesTo [0, 1, 2] S_
  bcast_S_S6x1024x128 : S_.BroadcastsInDim S6x1024x128 (![] : Fin 0 → Fin S6x1024x128.rank)
  reducesTo_S6x1024x128_S_d0_1_2 : S6x1024x128.ReducesTo [0, 1, 2] S_
  bcast_S_S6x896x128 : S_.BroadcastsInDim S6x896x128 (![] : Fin 0 → Fin S6x896x128.rank)
  reducesTo_S6x896x128_S_d0_1_2 : S6x896x128.ReducesTo [0, 1, 2] S_
  bcast_S_S6x768x128 : S_.BroadcastsInDim S6x768x128 (![] : Fin 0 → Fin S6x768x128.rank)
  reducesTo_S6x768x128_S_d0_1_2 : S6x768x128.ReducesTo [0, 1, 2] S_
  bcast_S_S6x640x128 : S_.BroadcastsInDim S6x640x128 (![] : Fin 0 → Fin S6x640x128.rank)
  reducesTo_S6x640x128_S_d0_1_2 : S6x640x128.ReducesTo [0, 1, 2] S_
  bcast_S_S6x512x128 : S_.BroadcastsInDim S6x512x128 (![] : Fin 0 → Fin S6x512x128.rank)
  reducesTo_S6x512x128_S_d0_1_2 : S6x512x128.ReducesTo [0, 1, 2] S_
  bcast_S_S6x384x128 : S_.BroadcastsInDim S6x384x128 (![] : Fin 0 → Fin S6x384x128.rank)
  reducesTo_S6x384x128_S_d0_1_2 : S6x384x128.ReducesTo [0, 1, 2] S_
  bcast_S_S6x256x128 : S_.BroadcastsInDim S6x256x128 (![] : Fin 0 → Fin S6x256x128.rank)
  reducesTo_S6x256x128_S_d0_1_2 : S6x256x128.ReducesTo [0, 1, 2] S_

variable [Facts]

def fn_part6 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) (main_v51 : IVec S_ 1) (main_v55 : IVec S_ 1) (main_v59 : IVec S_ 1) (main_v63 : IVec S_ 1) (main_v67 : IVec S_ 1) (main_v71 : IVec S_ 1) (main_v75 : IVec S_ 1) (main_v79 : IVec S_ 1) (main_v83 : IVec S_ 1) (main_v87 : IVec S_ 1) (main_v91 : IVec S_ 1) (main_v95 : IVec S_ 1) : IVec S_ 1 :=
  let main_v96 : IVec S_ 1 := andi main_v3 main_v7
  let main_v97 : IVec S_ 1 := andi main_v96 main_v11
  let main_v98 : IVec S_ 1 := andi main_v97 main_v15
  let main_v99 : IVec S_ 1 := andi main_v98 main_v19
  let main_v100 : IVec S_ 1 := andi main_v99 main_v23
  let main_v101 : IVec S_ 1 := andi main_v100 main_v27
  let main_v102 : IVec S_ 1 := andi main_v101 main_v31
  let main_v103 : IVec S_ 1 := andi main_v102 main_v35
  let main_v104 : IVec S_ 1 := andi main_v103 main_v39
  let main_v105 : IVec S_ 1 := andi main_v104 main_v43
  let main_v106 : IVec S_ 1 := andi main_v105 main_v47
  let main_v107 : IVec S_ 1 := andi main_v106 main_v51
  let main_v108 : IVec S_ 1 := andi main_v107 main_v55
  let main_v109 : IVec S_ 1 := andi main_v108 main_v59
  let main_v110 : IVec S_ 1 := andi main_v109 main_v63
  let main_v111 : IVec S_ 1 := andi main_v110 main_v67
  let main_v112 : IVec S_ 1 := andi main_v111 main_v71
  let main_v113 : IVec S_ 1 := andi main_v112 main_v75
  let main_v114 : IVec S_ 1 := andi main_v113 main_v79
  let main_v115 : IVec S_ 1 := andi main_v114 main_v83
  let main_v116 : IVec S_ 1 := andi main_v115 main_v87
  let main_v117 : IVec S_ 1 := andi main_v116 main_v91
  let main_v118 : IVec S_ 1 := andi main_v117 main_v95
  main_v118

def fn_part5 {F : FTy → Type} [FloatOps F] (main_arg20 : FVec F S6x512x128 .f32) (main_arg21 : FVec F S6x384x128 .f32) (main_arg22 : FVec F S6x256x128 .f32) (main_arg23 : FVec F S6x128x128 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) (main_v51 : IVec S_ 1) (main_v55 : IVec S_ 1) (main_v59 : IVec S_ 1) (main_v63 : IVec S_ 1) (main_v67 : IVec S_ 1) (main_v71 : IVec S_ 1) (main_v75 : IVec S_ 1) (main_v79 : IVec S_ 1) : IVec S_ 1 :=
  let main_v80 : FVec F S6x512x128 .f32 := Host.absf main_arg20
  let main_cst_38 : FVec F S_ .f32 := constant S_ .f32 0x7F800000#32
  let main_v81 : FVec F S6x512x128 .f32 := broadcastInDim S6x512x128 ![] bcast_S_S6x512x128 main_cst_38
  let main_v82 : IVec S6x512x128 1 := cmpf .olt main_v80 main_v81
  let main_c_39 : IVec S_ 1 := constantI S_ 1 1#1
  let main_v83 : IVec S_ 1 := (fun x v => Host.reduce IntOp.andi x v reducesTo_S6x512x128_S_d0_1_2 h_S_) main_v82 main_c_39
  let main_v84 : FVec F S6x384x128 .f32 := Host.absf main_arg21
  let main_cst_40 : FVec F S_ .f32 := constant S_ .f32 0x7F800000#32
  let main_v85 : FVec F S6x384x128 .f32 := broadcastInDim S6x384x128 ![] bcast_S_S6x384x128 main_cst_40
  let main_v86 : IVec S6x384x128 1 := cmpf .olt main_v84 main_v85
  let main_c_41 : IVec S_ 1 := constantI S_ 1 1#1
  let main_v87 : IVec S_ 1 := (fun x v => Host.reduce IntOp.andi x v reducesTo_S6x384x128_S_d0_1_2 h_S_) main_v86 main_c_41
  let main_v88 : FVec F S6x256x128 .f32 := Host.absf main_arg22
  let main_cst_42 : FVec F S_ .f32 := constant S_ .f32 0x7F800000#32
  let main_v89 : FVec F S6x256x128 .f32 := broadcastInDim S6x256x128 ![] bcast_S_S6x256x128 main_cst_42
  let main_v90 : IVec S6x256x128 1 := cmpf .olt main_v88 main_v89
  let main_c_43 : IVec S_ 1 := constantI S_ 1 1#1
  let main_v91 : IVec S_ 1 := (fun x v => Host.reduce IntOp.andi x v reducesTo_S6x256x128_S_d0_1_2 h_S_) main_v90 main_c_43
  let main_v92 : FVec F S6x128x128 .f32 := Host.absf main_arg23
  let main_cst_44 : FVec F S_ .f32 := constant S_ .f32 0x7F800000#32
  let main_v93 : FVec F S6x128x128 .f32 := broadcastInDim S6x128x128 ![] bcast_S_S6x128x128 main_cst_44
  let main_v94 : IVec S6x128x128 1 := cmpf .olt main_v92 main_v93
  let main_c_45 : IVec S_ 1 := constantI S_ 1 1#1
  let main_v95 : IVec S_ 1 := (fun x v => Host.reduce IntOp.andi x v reducesTo_S6x128x128_S_d0_1_2 h_S_) main_v94 main_c_45
  fn_part6 (F := F) main_v3 main_v7 main_v11 main_v15 main_v19 main_v23 main_v27 main_v31 main_v35 main_v39 main_v43 main_v47 main_v51 main_v55 main_v59 main_v63 main_v67 main_v71 main_v75 main_v79 main_v83 main_v87 main_v91 main_v95

def fn_part4 {F : FTy → Type} [FloatOps F] (main_arg16 : FVec F S6x1024x128 .f32) (main_arg17 : FVec F S6x896x128 .f32) (main_arg18 : FVec F S6x768x128 .f32) (main_arg19 : FVec F S6x640x128 .f32) (main_arg20 : FVec F S6x512x128 .f32) (main_arg21 : FVec F S6x384x128 .f32) (main_arg22 : FVec F S6x256x128 .f32) (main_arg23 : FVec F S6x128x128 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) (main_v51 : IVec S_ 1) (main_v55 : IVec S_ 1) (main_v59 : IVec S_ 1) (main_v63 : IVec S_ 1) : IVec S_ 1 :=
  let main_v64 : FVec F S6x1024x128 .f32 := Host.absf main_arg16
  let main_cst_30 : FVec F S_ .f32 := constant S_ .f32 0x7F800000#32
  let main_v65 : FVec F S6x1024x128 .f32 := broadcastInDim S6x1024x128 ![] bcast_S_S6x1024x128 main_cst_30
  let main_v66 : IVec S6x1024x128 1 := cmpf .olt main_v64 main_v65
  let main_c_31 : IVec S_ 1 := constantI S_ 1 1#1
  let main_v67 : IVec S_ 1 := (fun x v => Host.reduce IntOp.andi x v reducesTo_S6x1024x128_S_d0_1_2 h_S_) main_v66 main_c_31
  let main_v68 : FVec F S6x896x128 .f32 := Host.absf main_arg17
  let main_cst_32 : FVec F S_ .f32 := constant S_ .f32 0x7F800000#32
  let main_v69 : FVec F S6x896x128 .f32 := broadcastInDim S6x896x128 ![] bcast_S_S6x896x128 main_cst_32
  let main_v70 : IVec S6x896x128 1 := cmpf .olt main_v68 main_v69
  let main_c_33 : IVec S_ 1 := constantI S_ 1 1#1
  let main_v71 : IVec S_ 1 := (fun x v => Host.reduce IntOp.andi x v reducesTo_S6x896x128_S_d0_1_2 h_S_) main_v70 main_c_33
  let main_v72 : FVec F S6x768x128 .f32 := Host.absf main_arg18
  let main_cst_34 : FVec F S_ .f32 := constant S_ .f32 0x7F800000#32
  let main_v73 : FVec F S6x768x128 .f32 := broadcastInDim S6x768x128 ![] bcast_S_S6x768x128 main_cst_34
  let main_v74 : IVec S6x768x128 1 := cmpf .olt main_v72 main_v73
  let main_c_35 : IVec S_ 1 := constantI S_ 1 1#1
  let main_v75 : IVec S_ 1 := (fun x v => Host.reduce IntOp.andi x v reducesTo_S6x768x128_S_d0_1_2 h_S_) main_v74 main_c_35
  let main_v76 : FVec F S6x640x128 .f32 := Host.absf main_arg19
  let main_cst_36 : FVec F S_ .f32 := constant S_ .f32 0x7F800000#32
  let main_v77 : FVec F S6x640x128 .f32 := broadcastInDim S6x640x128 ![] bcast_S_S6x640x128 main_cst_36
  let main_v78 : IVec S6x640x128 1 := cmpf .olt main_v76 main_v77
  let main_c_37 : IVec S_ 1 := constantI S_ 1 1#1
  let main_v79 : IVec S_ 1 := (fun x v => Host.reduce IntOp.andi x v reducesTo_S6x640x128_S_d0_1_2 h_S_) main_v78 main_c_37
  fn_part5 (F := F) main_arg20 main_arg21 main_arg22 main_arg23 main_v3 main_v7 main_v11 main_v15 main_v19 main_v23 main_v27 main_v31 main_v35 main_v39 main_v43 main_v47 main_v51 main_v55 main_v59 main_v63 main_v67 main_v71 main_v75 main_v79

def fn_part3 {F : FTy → Type} [FloatOps F] (main_arg12 : FVec F S6x128x128 .f32) (main_arg13 : FVec F S6x1408x128 .f32) (main_arg14 : FVec F S6x1280x128 .f32) (main_arg15 : FVec F S6x1152x128 .f32) (main_arg16 : FVec F S6x1024x128 .f32) (main_arg17 : FVec F S6x896x128 .f32) (main_arg18 : FVec F S6x768x128 .f32) (main_arg19 : FVec F S6x640x128 .f32) (main_arg20 : FVec F S6x512x128 .f32) (main_arg21 : FVec F S6x384x128 .f32) (main_arg22 : FVec F S6x256x128 .f32) (main_arg23 : FVec F S6x128x128 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : FVec F S6x128x128 .f32 := Host.absf main_arg12
  let main_cst_22 : FVec F S_ .f32 := constant S_ .f32 0x7F800000#32
  let main_v49 : FVec F S6x128x128 .f32 := broadcastInDim S6x128x128 ![] bcast_S_S6x128x128 main_cst_22
  let main_v50 : IVec S6x128x128 1 := cmpf .olt main_v48 main_v49
  let main_c_23 : IVec S_ 1 := constantI S_ 1 1#1
  let main_v51 : IVec S_ 1 := (fun x v => Host.reduce IntOp.andi x v reducesTo_S6x128x128_S_d0_1_2 h_S_) main_v50 main_c_23
  let main_v52 : FVec F S6x1408x128 .f32 := Host.absf main_arg13
  let main_cst_24 : FVec F S_ .f32 := constant S_ .f32 0x7F800000#32
  let main_v53 : FVec F S6x1408x128 .f32 := broadcastInDim S6x1408x128 ![] bcast_S_S6x1408x128 main_cst_24
  let main_v54 : IVec S6x1408x128 1 := cmpf .olt main_v52 main_v53
  let main_c_25 : IVec S_ 1 := constantI S_ 1 1#1
  let main_v55 : IVec S_ 1 := (fun x v => Host.reduce IntOp.andi x v reducesTo_S6x1408x128_S_d0_1_2 h_S_) main_v54 main_c_25
  let main_v56 : FVec F S6x1280x128 .f32 := Host.absf main_arg14
  let main_cst_26 : FVec F S_ .f32 := constant S_ .f32 0x7F800000#32
  let main_v57 : FVec F S6x1280x128 .f32 := broadcastInDim S6x1280x128 ![] bcast_S_S6x1280x128 main_cst_26
  let main_v58 : IVec S6x1280x128 1 := cmpf .olt main_v56 main_v57
  let main_c_27 : IVec S_ 1 := constantI S_ 1 1#1
  let main_v59 : IVec S_ 1 := (fun x v => Host.reduce IntOp.andi x v reducesTo_S6x1280x128_S_d0_1_2 h_S_) main_v58 main_c_27
  let main_v60 : FVec F S6x1152x128 .f32 := Host.absf main_arg15
  let main_cst_28 : FVec F S_ .f32 := constant S_ .f32 0x7F800000#32
  let main_v61 : FVec F S6x1152x128 .f32 := broadcastInDim S6x1152x128 ![] bcast_S_S6x1152x128 main_cst_28
  let main_v62 : IVec S6x1152x128 1 := cmpf .olt main_v60 main_v61
  let main_c_29 : IVec S_ 1 := constantI S_ 1 1#1
  let main_v63 : IVec S_ 1 := (fun x v => Host.reduce IntOp.andi x v reducesTo_S6x1152x128_S_d0_1_2 h_S_) main_v62 main_c_29
  fn_part4 (F := F) main_arg16 main_arg17 main_arg18 main_arg19 main_arg20 main_arg21 main_arg22 main_arg23 main_v3 main_v7 main_v11 main_v15 main_v19 main_v23 main_v27 main_v31 main_v35 main_v39 main_v43 main_v47 main_v51 main_v55 main_v59 main_v63

def fn_part2 {F : FTy → Type} [FloatOps F] (main_arg8 : FVec F S6x128x128 .f32) (main_arg9 : FVec F S6x128x128 .f32) (main_arg10 : FVec F S6x128x128 .f32) (main_arg11 : FVec F S6x128x128 .f32) (main_arg12 : FVec F S6x128x128 .f32) (main_arg13 : FVec F S6x1408x128 .f32) (main_arg14 : FVec F S6x1280x128 .f32) (main_arg15 : FVec F S6x1152x128 .f32) (main_arg16 : FVec F S6x1024x128 .f32) (main_arg17 : FVec F S6x896x128 .f32) (main_arg18 : FVec F S6x768x128 .f32) (main_arg19 : FVec F S6x640x128 .f32) (main_arg20 : FVec F S6x512x128 .f32) (main_arg21 : FVec F S6x384x128 .f32) (main_arg22 : FVec F S6x256x128 .f32) (main_arg23 : FVec F S6x128x128 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S6x128x128 .f32 := Host.absf main_arg8
  let main_cst_14 : FVec F S_ .f32 := constant S_ .f32 0x7F800000#32
  let main_v33 : FVec F S6x128x128 .f32 := broadcastInDim S6x128x128 ![] bcast_S_S6x128x128 main_cst_14
  let main_v34 : IVec S6x128x128 1 := cmpf .olt main_v32 main_v33
  let main_c_15 : IVec S_ 1 := constantI S_ 1 1#1
  let main_v35 : IVec S_ 1 := (fun x v => Host.reduce IntOp.andi x v reducesTo_S6x128x128_S_d0_1_2 h_S_) main_v34 main_c_15
  let main_v36 : FVec F S6x128x128 .f32 := Host.absf main_arg9
  let main_cst_16 : FVec F S_ .f32 := constant S_ .f32 0x7F800000#32
  let main_v37 : FVec F S6x128x128 .f32 := broadcastInDim S6x128x128 ![] bcast_S_S6x128x128 main_cst_16
  let main_v38 : IVec S6x128x128 1 := cmpf .olt main_v36 main_v37
  let main_c_17 : IVec S_ 1 := constantI S_ 1 1#1
  let main_v39 : IVec S_ 1 := (fun x v => Host.reduce IntOp.andi x v reducesTo_S6x128x128_S_d0_1_2 h_S_) main_v38 main_c_17
  let main_v40 : FVec F S6x128x128 .f32 := Host.absf main_arg10
  let main_cst_18 : FVec F S_ .f32 := constant S_ .f32 0x7F800000#32
  let main_v41 : FVec F S6x128x128 .f32 := broadcastInDim S6x128x128 ![] bcast_S_S6x128x128 main_cst_18
  let main_v42 : IVec S6x128x128 1 := cmpf .olt main_v40 main_v41
  let main_c_19 : IVec S_ 1 := constantI S_ 1 1#1
  let main_v43 : IVec S_ 1 := (fun x v => Host.reduce IntOp.andi x v reducesTo_S6x128x128_S_d0_1_2 h_S_) main_v42 main_c_19
  let main_v44 : FVec F S6x128x128 .f32 := Host.absf main_arg11
  let main_cst_20 : FVec F S_ .f32 := constant S_ .f32 0x7F800000#32
  let main_v45 : FVec F S6x128x128 .f32 := broadcastInDim S6x128x128 ![] bcast_S_S6x128x128 main_cst_20
  let main_v46 : IVec S6x128x128 1 := cmpf .olt main_v44 main_v45
  let main_c_21 : IVec S_ 1 := constantI S_ 1 1#1
  let main_v47 : IVec S_ 1 := (fun x v => Host.reduce IntOp.andi x v reducesTo_S6x128x128_S_d0_1_2 h_S_) main_v46 main_c_21
  fn_part3 (F := F) main_arg12 main_arg13 main_arg14 main_arg15 main_arg16 main_arg17 main_arg18 main_arg19 main_arg20 main_arg21 main_arg22 main_arg23 main_v3 main_v7 main_v11 main_v15 main_v19 main_v23 main_v27 main_v31 main_v35 main_v39 main_v43 main_v47

def fn_part1 {F : FTy → Type} [FloatOps F] (main_arg4 : FVec F S6x128x128 .f32) (main_arg5 : FVec F S6x128x128 .f32) (main_arg6 : FVec F S6x128x128 .f32) (main_arg7 : FVec F S6x128x128 .f32) (main_arg8 : FVec F S6x128x128 .f32) (main_arg9 : FVec F S6x128x128 .f32) (main_arg10 : FVec F S6x128x128 .f32) (main_arg11 : FVec F S6x128x128 .f32) (main_arg12 : FVec F S6x128x128 .f32) (main_arg13 : FVec F S6x1408x128 .f32) (main_arg14 : FVec F S6x1280x128 .f32) (main_arg15 : FVec F S6x1152x128 .f32) (main_arg16 : FVec F S6x1024x128 .f32) (main_arg17 : FVec F S6x896x128 .f32) (main_arg18 : FVec F S6x768x128 .f32) (main_arg19 : FVec F S6x640x128 .f32) (main_arg20 : FVec F S6x512x128 .f32) (main_arg21 : FVec F S6x384x128 .f32) (main_arg22 : FVec F S6x256x128 .f32) (main_arg23 : FVec F S6x128x128 .f32) (main_v3 : IVec S_ 1) (main_v7 : IVec S_ 1) (main_v11 : IVec S_ 1) (main_v15 : IVec S_ 1) : IVec S_ 1 :=
  let main_v16 : FVec F S6x128x128 .f32 := Host.absf main_arg4
  let main_cst_6 : FVec F S_ .f32 := constant S_ .f32 0x7F800000#32
  let main_v17 : FVec F S6x128x128 .f32 := broadcastInDim S6x128x128 ![] bcast_S_S6x128x128 main_cst_6
  let main_v18 : IVec S6x128x128 1 := cmpf .olt main_v16 main_v17
  let main_c_7 : IVec S_ 1 := constantI S_ 1 1#1
  let main_v19 : IVec S_ 1 := (fun x v => Host.reduce IntOp.andi x v reducesTo_S6x128x128_S_d0_1_2 h_S_) main_v18 main_c_7
  let main_v20 : FVec F S6x128x128 .f32 := Host.absf main_arg5
  let main_cst_8 : FVec F S_ .f32 := constant S_ .f32 0x7F800000#32
  let main_v21 : FVec F S6x128x128 .f32 := broadcastInDim S6x128x128 ![] bcast_S_S6x128x128 main_cst_8
  let main_v22 : IVec S6x128x128 1 := cmpf .olt main_v20 main_v21
  let main_c_9 : IVec S_ 1 := constantI S_ 1 1#1
  let main_v23 : IVec S_ 1 := (fun x v => Host.reduce IntOp.andi x v reducesTo_S6x128x128_S_d0_1_2 h_S_) main_v22 main_c_9
  let main_v24 : FVec F S6x128x128 .f32 := Host.absf main_arg6
  let main_cst_10 : FVec F S_ .f32 := constant S_ .f32 0x7F800000#32
  let main_v25 : FVec F S6x128x128 .f32 := broadcastInDim S6x128x128 ![] bcast_S_S6x128x128 main_cst_10
  let main_v26 : IVec S6x128x128 1 := cmpf .olt main_v24 main_v25
  let main_c_11 : IVec S_ 1 := constantI S_ 1 1#1
  let main_v27 : IVec S_ 1 := (fun x v => Host.reduce IntOp.andi x v reducesTo_S6x128x128_S_d0_1_2 h_S_) main_v26 main_c_11
  let main_v28 : FVec F S6x128x128 .f32 := Host.absf main_arg7
  let main_cst_12 : FVec F S_ .f32 := constant S_ .f32 0x7F800000#32
  let main_v29 : FVec F S6x128x128 .f32 := broadcastInDim S6x128x128 ![] bcast_S_S6x128x128 main_cst_12
  let main_v30 : IVec S6x128x128 1 := cmpf .olt main_v28 main_v29
  let main_c_13 : IVec S_ 1 := constantI S_ 1 1#1
  let main_v31 : IVec S_ 1 := (fun x v => Host.reduce IntOp.andi x v reducesTo_S6x128x128_S_d0_1_2 h_S_) main_v30 main_c_13
  fn_part2 (F := F) main_arg8 main_arg9 main_arg10 main_arg11 main_arg12 main_arg13 main_arg14 main_arg15 main_arg16 main_arg17 main_arg18 main_arg19 main_arg20 main_arg21 main_arg22 main_arg23 main_v3 main_v7 main_v11 main_v15 main_v19 main_v23 main_v27 main_v31

def fn {F : FTy → Type} [FloatOps F] (main_arg0 : FVec F S6x1536x1536 .f32) (main_arg1 : FVec F S6x128x128 .f32) (main_arg2 : FVec F S6x128x128 .f32) (main_arg3 : FVec F S6x128x128 .f32) (main_arg4 : FVec F S6x128x128 .f32) (main_arg5 : FVec F S6x128x128 .f32) (main_arg6 : FVec F S6x128x128 .f32) (main_arg7 : FVec F S6x128x128 .f32) (main_arg8 : FVec F S6x128x128 .f32) (main_arg9 : FVec F S6x128x128 .f32) (main_arg10 : FVec F S6x128x128 .f32) (main_arg11 : FVec F S6x128x128 .f32) (main_arg12 : FVec F S6x128x128 .f32) (main_arg13 : FVec F S6x1408x128 .f32) (main_arg14 : FVec F S6x1280x128 .f32) (main_arg15 : FVec F S6x1152x128 .f32) (main_arg16 : FVec F S6x1024x128 .f32) (main_arg17 : FVec F S6x896x128 .f32) (main_arg18 : FVec F S6x768x128 .f32) (main_arg19 : FVec F S6x640x128 .f32) (main_arg20 : FVec F S6x512x128 .f32) (main_arg21 : FVec F S6x384x128 .f32) (main_arg22 : FVec F S6x256x128 .f32) (main_arg23 : FVec F S6x128x128 .f32) : IVec S_ 1 :=
  let main_v0 : FVec F S6x1536x1536 .f32 := Host.absf main_arg0
  let main_cst : FVec F S_ .f32 := constant S_ .f32 0x7F800000#32
  let main_v1 : FVec F S6x1536x1536 .f32 := broadcastInDim S6x1536x1536 ![] bcast_S_S6x1536x1536 main_cst
  let main_v2 : IVec S6x1536x1536 1 := cmpf .olt main_v0 main_v1
  let main_c : IVec S_ 1 := constantI S_ 1 1#1
  let main_v3 : IVec S_ 1 := (fun x v => Host.reduce IntOp.andi x v reducesTo_S6x1536x1536_S_d0_1_2 h_S_) main_v2 main_c
  let main_v4 : FVec F S6x128x128 .f32 := Host.absf main_arg1
  let main_cst_0 : FVec F S_ .f32 := constant S_ .f32 0x7F800000#32
  let main_v5 : FVec F S6x128x128 .f32 := broadcastInDim S6x128x128 ![] bcast_S_S6x128x128 main_cst_0
  let main_v6 : IVec S6x128x128 1 := cmpf .olt main_v4 main_v5
  let main_c_1 : IVec S_ 1 := constantI S_ 1 1#1
  let main_v7 : IVec S_ 1 := (fun x v => Host.reduce IntOp.andi x v reducesTo_S6x128x128_S_d0_1_2 h_S_) main_v6 main_c_1
  let main_v8 : FVec F S6x128x128 .f32 := Host.absf main_arg2
  let main_cst_2 : FVec F S_ .f32 := constant S_ .f32 0x7F800000#32
  let main_v9 : FVec F S6x128x128 .f32 := broadcastInDim S6x128x128 ![] bcast_S_S6x128x128 main_cst_2
  let main_v10 : IVec S6x128x128 1 := cmpf .olt main_v8 main_v9
  let main_c_3 : IVec S_ 1 := constantI S_ 1 1#1
  let main_v11 : IVec S_ 1 := (fun x v => Host.reduce IntOp.andi x v reducesTo_S6x128x128_S_d0_1_2 h_S_) main_v10 main_c_3
  let main_v12 : FVec F S6x128x128 .f32 := Host.absf main_arg3
  let main_cst_4 : FVec F S_ .f32 := constant S_ .f32 0x7F800000#32
  let main_v13 : FVec F S6x128x128 .f32 := broadcastInDim S6x128x128 ![] bcast_S_S6x128x128 main_cst_4
  let main_v14 : IVec S6x128x128 1 := cmpf .olt main_v12 main_v13
  let main_c_5 : IVec S_ 1 := constantI S_ 1 1#1
  let main_v15 : IVec S_ 1 := (fun x v => Host.reduce IntOp.andi x v reducesTo_S6x128x128_S_d0_1_2 h_S_) main_v14 main_c_5
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v3 main_v7 main_v11 main_v15
-- ==== Rotate.lean ====
abbrev S6x1536x1536 : Shape := ⟨3, ![6, 1536, 1536]⟩
abbrev S6x1024x1024 : Shape := ⟨3, ![6, 1024, 1024]⟩
abbrev S6x1536x1024 : Shape := ⟨3, ![6, 1536, 1024]⟩
abbrev S6x1536x8 : Shape := ⟨3, ![6, 1536, 8]⟩
abbrev S1x1536x1536 : Shape := ⟨3, ![1, 1536, 1536]⟩
abbrev S1x1024x1024 : Shape := ⟨3, ![1, 1024, 1024]⟩
abbrev S1x1536x1024 : Shape := ⟨3, ![1, 1536, 1024]⟩
abbrev S1x1536x8 : Shape := ⟨3, ![1, 1536, 8]⟩
abbrev S1536x1024 : Shape := ⟨2, ![1536, 1024]⟩
abbrev S1024x1024 : Shape := ⟨2, ![1024, 1024]⟩
abbrev S1536x1536 : Shape := ⟨2, ![1536, 1536]⟩
abbrev S1x1536x128 : Shape := ⟨3, ![1, 1536, 128]⟩
abbrev S1536x128 : Shape := ⟨2, ![1536, 128]⟩
abbrev S1x1536x1 : Shape := ⟨3, ![1, 1536, 1]⟩
abbrev S1536x1 : Shape := ⟨2, ![1536, 1]⟩
abbrev S1x256x1536 : Shape := ⟨3, ![1, 256, 1536]⟩
abbrev S256x1536 : Shape := ⟨2, ![256, 1536]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x128 : Shape := ⟨3, ![1, 256, 128]⟩
abbrev S1x256x1 : Shape := ⟨3, ![1, 256, 1]⟩

abbrev nBuf : Space → Nat
  | .hbm => 10
  | .vmem => 22
  | .smem => 0
  | _ => 0

abbrev bufTy : (tb : Table) → Fin (tcTables nBuf tb) → BufTy
  | .hbm, ⟨0, _⟩ => ⟨S6x1536x1536, .bf16⟩
  | .hbm, ⟨1, _⟩ => ⟨S6x1024x1024, .bf16⟩
  | .hbm, ⟨2, _⟩ => ⟨S6x1536x1536, .bf16⟩
  | .hbm, ⟨3, _⟩ => ⟨S6x1024x1024, .bf16⟩
  | .hbm, ⟨4, _⟩ => ⟨S6x1536x1024, .fp8e4m3⟩
  | .hbm, ⟨5, _⟩ => ⟨S6x1536x8, .f32⟩
  | .hbm, ⟨6, _⟩ => ⟨S6x1536x1536, .bf16⟩
  | .hbm, ⟨7, _⟩ => ⟨S6x1024x1024, .bf16⟩
  | .hbm, ⟨8, _⟩ => ⟨S6x1536x1024, .fp8e4m3⟩
  | .hbm, ⟨9, _⟩ => ⟨S6x1536x8, .f32⟩
  | .local _ .vmem, ⟨0, _⟩ => ⟨S1x1536x1536, .bf16⟩
  | .local _ .vmem, ⟨1, _⟩ => ⟨S1x1536x1536, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1536x1536, .bf16⟩
  | .local _ .vmem, ⟨5, _⟩ => ⟨S1x1536x1536, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1536x1024, .fp8e4m3⟩
  | .local _ .vmem, ⟨9, _⟩ => ⟨S1x1536x1024, .fp8e4m3⟩
  | .local _ .vmem, ⟨10, _⟩ => ⟨S1x1536x8, .f32⟩
  | .local _ .vmem, ⟨11, _⟩ => ⟨S1x1536x8, .f32⟩
  | .local _ .vmem, ⟨12, _⟩ => ⟨S1x1536x1536, .bf16⟩
  | .local _ .vmem, ⟨13, _⟩ => ⟨S1x1536x1536, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1536x1024, .fp8e4m3⟩
  | .local _ .vmem, ⟨17, _⟩ => ⟨S1x1536x1024, .fp8e4m3⟩
  | .local _ .vmem, ⟨18, _⟩ => ⟨S1x1536x8, .f32⟩
  | .local _ .vmem, ⟨19, _⟩ => ⟨S1x1536x8, .f32⟩
  | .local _ .vmem, ⟨20, _⟩ => ⟨S1536x1024, .bf16⟩
  | .local _ .vmem, ⟨21, _⟩ => ⟨S1024x1024, .bf16⟩
  | _, _ => ⟨S6x1536x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1536x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1536x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1536x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1536x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1536x1024 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1536x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RotateRefIdeal.lean ====
abbrev S6x1536x1536 : Shape := ⟨3, ![6, 1536, 1536]⟩
abbrev S6x1024x1024 : Shape := ⟨3, ![6, 1024, 1024]⟩
abbrev S6x1536x1024 : Shape := ⟨3, ![6, 1536, 1024]⟩
abbrev S6x1536x8 : Shape := ⟨3, ![6, 1536, 8]⟩
abbrev S6x1536x8x128 : Shape := ⟨4, ![6, 1536, 8, 128]⟩
abbrev S6x1536x8x1 : Shape := ⟨4, ![6, 1536, 8, 1]⟩
abbrev S1x1x1x252 : Shape := ⟨4, ![1, 1, 1, 252]⟩
abbrev S6x1536x8x252 : Shape := ⟨4, ![6, 1536, 8, 252]⟩

abbrev nBuf : Space → Nat
  | .hbm => 10
  | .vmem => 10
  | .smem => 0
  | _ => 0

abbrev bufTy : (tb : Table) → Fin (tcTables nBuf tb) → BufTy
  | .hbm, ⟨0, _⟩ => ⟨S6x1536x1536, .bf16⟩
  | .hbm, ⟨1, _⟩ => ⟨S6x1024x1024, .bf16⟩
  | .hbm, ⟨2, _⟩ => ⟨S6x1536x1536, .bf16⟩
  | .hbm, ⟨3, _⟩ => ⟨S6x1024x1024, .bf16⟩
  | .hbm, ⟨4, _⟩ => ⟨S6x1536x1024, .fp8e4m3⟩
  | .hbm, ⟨5, _⟩ => ⟨S6x1536x8, .f32⟩
  | .hbm, ⟨6, _⟩ => ⟨S6x1536x1536, .bf16⟩
  | .hbm, ⟨7, _⟩ => ⟨S6x1024x1024, .bf16⟩
  | .hbm, ⟨8, _⟩ => ⟨S6x1536x1024, .fp8e4m3⟩
  | .hbm, ⟨9, _⟩ => ⟨S6x1536x8, .f32⟩
  | .local _ .vmem, ⟨0, _⟩ => ⟨S6x1536x1536, .bf16⟩
  | .local _ .vmem, ⟨1, _⟩ => ⟨S6x1024x1024, .bf16⟩
  | .local _ .vmem, ⟨2, _⟩ => ⟨S6x1536x1536, .bf16⟩
  | .local _ .vmem, ⟨3, _⟩ => ⟨S6x1024x1024, .bf16⟩
  | .local _ .vmem, ⟨4, _⟩ => ⟨S6x1536x1024, .fp8e4m3⟩
  | .local _ .vmem, ⟨5, _⟩ => ⟨S6x1536x8, .f32⟩
  | .local _ .vmem, ⟨6, _⟩ => ⟨S6x1536x1536, .bf16⟩
  | .local _ .vmem, ⟨7, _⟩ => ⟨S6x1024x1024, .bf16⟩
  | .local _ .vmem, ⟨8, _⟩ => ⟨S6x1536x1024, .fp8e4m3⟩
  | .local _ .vmem, ⟨9, _⟩ => ⟨S6x1536x8, .f32⟩
  | _, _ => ⟨S6x1536x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S6x1536x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x1536x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x1536x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x1536x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x1536x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x1536x1024 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x1536x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Power.lean ====
abbrev S6x1536x1536 : Shape := ⟨3, ![6, 1536, 1536]⟩
abbrev S1x256x1536 : Shape := ⟨3, ![1, 256, 1536]⟩
abbrev S1x1536x1536 : Shape := ⟨3, ![1, 1536, 1536]⟩
abbrev S1x1536x256 : Shape := ⟨3, ![1, 1536, 256]⟩
abbrev S1536x1536 : Shape := ⟨2, ![1536, 1536]⟩
abbrev S256x1536 : Shape := ⟨2, ![256, 1536]⟩
abbrev S1536x256 : Shape := ⟨2, ![1536, 256]⟩
abbrev S256x256 : Shape := ⟨2, ![256, 256]⟩

abbrev nBuf : Space → Nat
  | .hbm => 3
  | .vmem => 7
  | .smem => 0
  | _ => 0

abbrev bufTy : (tb : Table) → Fin (tcTables nBuf tb) → BufTy
  | .hbm, ⟨0, _⟩ => ⟨S6x1536x1536, .f32⟩
  | .hbm, ⟨1, _⟩ => ⟨S6x1536x1536, .bf16⟩
  | .hbm, ⟨2, _⟩ => ⟨S6x1536x1536, .f32⟩
  | .local _ .vmem, ⟨0, _⟩ => ⟨S1x256x1536, .f32⟩
  | .local _ .vmem, ⟨1, _⟩ => ⟨S1x256x1536, .f32⟩
  | .local _ .vmem, ⟨2, _⟩ => ⟨S1x1536x1536, .bf16⟩
  | .local _ .vmem, ⟨3, _⟩ => ⟨S1x1536x1536, .bf16⟩
  | .local _ .vmem, ⟨4, _⟩ => ⟨S1x1536x256, .f32⟩
  | .local _ .vmem, ⟨5, _⟩ => ⟨S1x1536x256, .f32⟩
  | .local _ .vmem, ⟨6, _⟩ => ⟨S1536x1536, .bf16⟩
  | _, _ => ⟨S6x1536x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨2, ![6, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1536x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1536x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PowerIdeal.lean ====
abbrev S6x1536x1536 : Shape := ⟨3, ![6, 1536, 1536]⟩
abbrev S1x256x1536 : Shape := ⟨3, ![1, 256, 1536]⟩
abbrev S1x1536x1536 : Shape := ⟨3, ![1, 1536, 1536]⟩
abbrev S1x1536x256 : Shape := ⟨3, ![1, 1536, 256]⟩
abbrev S1536x1536 : Shape := ⟨2, ![1536, 1536]⟩
abbrev S256x1536 : Shape := ⟨2, ![256, 1536]⟩
abbrev S1536x256 : Shape := ⟨2, ![1536, 256]⟩
abbrev S256x256 : Shape := ⟨2, ![256, 256]⟩

abbrev nBuf : Space → Nat
  | .hbm => 3
  | .vmem => 7
  | .smem => 0
  | _ => 0

abbrev bufTy : (tb : Table) → Fin (tcTables nBuf tb) → BufTy
  | .hbm, ⟨0, _⟩ => ⟨S6x1536x1536, .f32⟩
  | .hbm, ⟨1, _⟩ => ⟨S6x1536x1536, .bf16⟩
  | .hbm, ⟨2, _⟩ => ⟨S6x1536x1536, .f32⟩
  | .local _ .vmem, ⟨0, _⟩ => ⟨S1x256x1536, .f32⟩
  | .local _ .vmem, ⟨1, _⟩ => ⟨S1x256x1536, .f32⟩
  | .local _ .vmem, ⟨2, _⟩ => ⟨S1x1536x1536, .bf16⟩
  | .local _ .vmem, ⟨3, _⟩ => ⟨S1x1536x1536, .bf16⟩
  | .local _ .vmem, ⟨4, _⟩ => ⟨S1x1536x256, .f32⟩
  | .local _ .vmem, ⟨5, _⟩ => ⟨S1x1536x256, .f32⟩
  | .local _ .vmem, ⟨6, _⟩ => ⟨S1536x1536, .bf16⟩
  | _, _ => ⟨S6x1536x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1536x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1536x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PowerRefIdeal.lean ====
abbrev S6x1536x1536 : Shape := ⟨3, ![6, 1536, 1536]⟩

abbrev nBuf : Space → Nat
  | .hbm => 3
  | .vmem => 3
  | .smem => 0
  | _ => 0

abbrev bufTy : (tb : Table) → Fin (tcTables nBuf tb) → BufTy
  | .hbm, ⟨0, _⟩ => ⟨S6x1536x1536, .f32⟩
  | .hbm, ⟨1, _⟩ => ⟨S6x1536x1536, .bf16⟩
  | .hbm, ⟨2, _⟩ => ⟨S6x1536x1536, .f32⟩
  | .local _ .vmem, ⟨0, _⟩ => ⟨S6x1536x1536, .f32⟩
  | .local _ .vmem, ⟨1, _⟩ => ⟨S6x1536x1536, .bf16⟩
  | .local _ .vmem, ⟨2, _⟩ => ⟨S6x1536x1536, .f32⟩
  | _, _ => ⟨S6x1536x1536, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S6x1536x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x1536x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x1536x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== PowerRight.lean ====
abbrev S6x1024x1024 : Shape := ⟨3, ![6, 1024, 1024]⟩
abbrev S1x256x1024 : Shape := ⟨3, ![1, 256, 1024]⟩
abbrev S1x1024x1024 : Shape := ⟨3, ![1, 1024, 1024]⟩
abbrev S1x1024x256 : Shape := ⟨3, ![1, 1024, 256]⟩
abbrev S1024x1024 : Shape := ⟨2, ![1024, 1024]⟩
abbrev S256x1024 : Shape := ⟨2, ![256, 1024]⟩
abbrev S1024x256 : Shape := ⟨2, ![1024, 256]⟩
abbrev S256x256 : Shape := ⟨2, ![256, 256]⟩

abbrev nBuf : Space → Nat
  | .hbm => 3
  | .vmem => 7
  | .smem => 0
  | _ => 0

abbrev bufTy : (tb : Table) → Fin (tcTables nBuf tb) → BufTy
  | .hbm, ⟨0, _⟩ => ⟨S6x1024x1024, .f32⟩
  | .hbm, ⟨1, _⟩ => ⟨S6x1024x1024, .bf16⟩
  | .hbm, ⟨2, _⟩ => ⟨S6x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x256, .f32⟩
  | .local _ .vmem, ⟨5, _⟩ => ⟨S1x1024x256, .f32⟩
  | .local _ .vmem, ⟨6, _⟩ => ⟨S1024x1024, .bf16⟩
  | _, _ => ⟨S6x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨2, ![6, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PowerRightIdeal.lean ====
variable {F : FTy → Type} [FloatOps F]
-- ==== PowerRightRefIdeal.lean ====
abbrev S6x1024x1024 : Shape := ⟨3, ![6, 1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S6x1024x1024, .f32⟩
  | .hbm, ⟨1, _⟩ => ⟨S6x1024x1024, .bf16⟩
  | .hbm, ⟨2, _⟩ => ⟨S6x1024x1024, .f32⟩
  | .local _ .vmem, ⟨0, _⟩ => ⟨S6x1024x1024, .f32⟩
  | .local _ .vmem, ⟨1, _⟩ => ⟨S6x1024x1024, .bf16⟩
  | .local _ .vmem, ⟨2, _⟩ => ⟨S6x1024x1024, .f32⟩
  | _, _ => ⟨S6x1024x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S6x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Solve.lean ====
abbrev S6x1536x1536 : Shape := ⟨3, ![6, 1536, 1536]⟩
abbrev S6x128x128 : Shape := ⟨3, ![6, 128, 128]⟩
abbrev S6x1408x128 : Shape := ⟨3, ![6, 1408, 128]⟩
abbrev S6x1280x128 : Shape := ⟨3, ![6, 1280, 128]⟩
abbrev S6x1152x128 : Shape := ⟨3, ![6, 1152, 128]⟩
abbrev S6x1024x128 : Shape := ⟨3, ![6, 1024, 128]⟩
abbrev S6x896x128 : Shape := ⟨3, ![6, 896, 128]⟩
abbrev S6x768x128 : Shape := ⟨3, ![6, 768, 128]⟩
abbrev S6x640x128 : Shape := ⟨3, ![6, 640, 128]⟩
abbrev S6x512x128 : Shape := ⟨3, ![6, 512, 128]⟩
abbrev S6x384x128 : Shape := ⟨3, ![6, 384, 128]⟩
abbrev S6x256x128 : Shape := ⟨3, ![6, 256, 128]⟩
abbrev S1x1536x1536 : Shape := ⟨3, ![1, 1536, 1536]⟩
abbrev S1x128x128 : Shape := ⟨3, ![1, 128, 128]⟩
abbrev S1x1408x128 : Shape := ⟨3, ![1, 1408, 128]⟩
abbrev S1x1280x128 : Shape := ⟨3, ![1, 1280, 128]⟩
abbrev S1x1152x128 : Shape := ⟨3, ![1, 1152, 128]⟩
abbrev S1x1024x128 : Shape := ⟨3, ![1, 1024, 128]⟩
abbrev S1x896x128 : Shape := ⟨3, ![1, 896, 128]⟩
abbrev S1x768x128 : Shape := ⟨3, ![1, 768, 128]⟩
abbrev S1x640x128 : Shape := ⟨3, ![1, 640, 128]⟩
abbrev S1x512x128 : Shape := ⟨3, ![1, 512, 128]⟩
abbrev S1x384x128 : Shape := ⟨3, ![1, 384, 128]⟩
abbrev S1x256x128 : Shape := ⟨3, ![1, 256, 128]⟩
abbrev S1408x1536 : Shape := ⟨2, ![1408, 1536]⟩
abbrev S1x128x1536 : Shape := ⟨3, ![1, 128, 1536]⟩
abbrev S128x1536 : Shape := ⟨2, ![128, 1536]⟩
abbrev S128x128 : Shape := ⟨2, ![128, 128]⟩
abbrev S128x256 : Shape := ⟨2, ![128, 256]⟩
abbrev S256x1536 : Shape := ⟨2, ![256, 1536]⟩
abbrev S128x384 : Shape := ⟨2, ![128, 384]⟩
abbrev S384x1536 : Shape := ⟨2, ![384, 1536]⟩
abbrev S128x512 : Shape := ⟨2, ![128, 512]⟩
abbrev S512x1536 : Shape := ⟨2, ![512, 1536]⟩
abbrev S128x640 : Shape := ⟨2, ![128, 640]⟩
abbrev S640x1536 : Shape := ⟨2, ![640, 1536]⟩
abbrev S128x768 : Shape := ⟨2, ![128, 768]⟩
abbrev S768x1536 : Shape := ⟨2, ![768, 1536]⟩
abbrev S128x896 : Shape := ⟨2, ![128, 896]⟩
abbrev S896x1536 : Shape := ⟨2, ![896, 1536]⟩
abbrev S128x1024 : Shape := ⟨2, ![128, 1024]⟩
abbrev S1024x1536 : Shape := ⟨2, ![1024, 1536]⟩
abbrev S128x1152 : Shape := ⟨2, ![128, 1152]⟩
abbrev S1152x1536 : Shape := ⟨2, ![1152, 1536]⟩
abbrev S128x1280 : Shape := ⟨2, ![128, 1280]⟩
abbrev S1280x1536 : Shape := ⟨2, ![1280, 1536]⟩
abbrev S128x1408 : Shape := ⟨2, ![128, 1408]⟩

abbrev nBuf : Space → Nat
  | .hbm => 25
  | .vmem => 54
  | .smem => 0
  | _ => 0

abbrev bufTy : (tb : Table) → Fin (tcTables nBuf tb) → BufTy
  | .hbm, ⟨0, _⟩ => ⟨S6x1536x1536, .f32⟩
  | .hbm, ⟨1, _⟩ => ⟨S6x128x128, .f32⟩
  | .hbm, ⟨2, _⟩ => ⟨S6x128x128, .f32⟩
  | .hbm, ⟨3, _⟩ => ⟨S6x128x128, .f32⟩
  | .hbm, ⟨4, _⟩ => ⟨S6x128x128, .f32⟩
  | .hbm, ⟨5, _⟩ => ⟨S6x128x128, .f32⟩
  | .hbm, ⟨6, _⟩ => ⟨S6x128x128, .f32⟩
  | .hbm, ⟨7, _⟩ => ⟨S6x128x128, .f32⟩
  | .hbm, ⟨8, _⟩ => ⟨S6x128x128, .f32⟩
  | .hbm, ⟨9, _⟩ => ⟨S6x128x128, .f32⟩
  | .hbm, ⟨10, _⟩ => ⟨S6x128x128, .f32⟩
  | .hbm, ⟨11, _⟩ => ⟨S6x128x128, .f32⟩
  | .hbm, ⟨12, _⟩ => ⟨S6x128x128, .f32⟩
  | .hbm, ⟨13, _⟩ => ⟨S6x1408x128, .f32⟩
  | .hbm, ⟨14, _⟩ => ⟨S6x1280x128, .f32⟩
  | .hbm, ⟨15, _⟩ => ⟨S6x1152x128, .f32⟩
  | .hbm, ⟨16, _⟩ => ⟨S6x1024x128, .f32⟩
  | .hbm, ⟨17, _⟩ => ⟨S6x896x128, .f32⟩
  | .hbm, ⟨18, _⟩ => ⟨S6x768x128, .f32⟩
  | .hbm, ⟨19, _⟩ => ⟨S6x640x128, .f32⟩
  | .hbm, ⟨20, _⟩ => ⟨S6x512x128, .f32⟩
  | .hbm, ⟨21, _⟩ => ⟨S6x384x128, .f32⟩
  | .hbm, ⟨22, _⟩ => ⟨S6x256x128, .f32⟩
  | .hbm, ⟨23, _⟩ => ⟨S6x128x128, .f32⟩
  | .hbm, ⟨24, _⟩ => ⟨S6x1536x1536, .bf16⟩
  | .local _ .vmem, ⟨0, _⟩ => ⟨S1x1536x1536, .f32⟩
  | .local _ .vmem, ⟨1, _⟩ => ⟨S1x1536x1536, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | .local _ .vmem, ⟨16, _⟩ => ⟨S1x128x128, .f32⟩
  | .local _ .vmem, ⟨17, _⟩ => ⟨S1x128x128, .f32⟩
  | .local _ .vmem, ⟨18, _⟩ => ⟨S1x128x128, .f32⟩
  | .local _ .vmem, ⟨19, _⟩ => ⟨S1x128x128, .f32⟩
  | .local _ .vmem, ⟨20, _⟩ => ⟨S1x128x128, .f32⟩
  | .local _ .vmem, ⟨21, _⟩ => ⟨S1x128x128, .f32⟩
  | .local _ .vmem, ⟨22, _⟩ => ⟨S1x128x128, .f32⟩
  | .local _ .vmem, ⟨23, _⟩ => ⟨S1x128x128, .f32⟩
  | .local _ .vmem, ⟨24, _⟩ => ⟨S1x128x128, .f32⟩
  | .local _ .vmem, ⟨25, _⟩ => ⟨S1x128x128, .f32⟩
  | .local _ .vmem, ⟨26, _⟩ => ⟨S1x1408x128, .f32⟩
  | .local _ .vmem, ⟨27, _⟩ => ⟨S1x1408x128, .f32⟩
  | .local _ .vmem, ⟨28, _⟩ => ⟨S1x1280x128, .f32⟩
  | .local _ .vmem, ⟨29, _⟩ => ⟨S1x1280x128, .f32⟩
  | .local _ .vmem, ⟨30, _⟩ => ⟨S1x1152x128, .f32⟩
  | .local _ .vmem, ⟨31, _⟩ => ⟨S1x1152x128, .f32⟩
  | .local _ .vmem, ⟨32, _⟩ => ⟨S1x1024x128, .f32⟩
  | .local _ .vmem, ⟨33, _⟩ => ⟨S1x1024x128, .f32⟩
  | .local _ .vmem, ⟨34, _⟩ => ⟨S1x896x128, .f32⟩
  | .local _ .vmem, ⟨35, _⟩ => ⟨S1x896x128, .f32⟩
  | .local _ .vmem, ⟨36, _⟩ => ⟨S1x768x128, .f32⟩
  | .local _ .vmem, ⟨37, _⟩ => ⟨S1x768x128, .f32⟩
  | .local _ .vmem, ⟨38, _⟩ => ⟨S1x640x128, .f32⟩
  | .local _ .vmem, ⟨39, _⟩ => ⟨S1x640x128, .f32⟩
  | .local _ .vmem, ⟨40, _⟩ => ⟨S1x512x128, .f32⟩
  | .local _ .vmem, ⟨41, _⟩ => ⟨S1x512x128, .f32⟩
  | .local _ .vmem, ⟨42, _⟩ => ⟨S1x384x128, .f32⟩
  | .local _ .vmem, ⟨43, _⟩ => ⟨S1x384x128, .f32⟩
  | .local _ .vmem, ⟨44, _⟩ => ⟨S1x256x128, .f32⟩
  | .local _ .vmem, ⟨45, _⟩ => ⟨S1x256x128, .f32⟩
  | .local _ .vmem, ⟨46, _⟩ => ⟨S1x128x128, .f32⟩
  | .local _ .vmem, ⟨47, _⟩ => ⟨S1x128x128, .f32⟩
  | .local _ .vmem, ⟨48, _⟩ => ⟨S1x1536x1536, .bf16⟩
  | .local _ .vmem, ⟨49, _⟩ => ⟨S1x1536x1536, .bf16⟩
  | .local _ .vmem, ⟨50, _⟩ => ⟨S1408x1536, .bf16⟩
  | .local _ .vmem, ⟨51, _⟩ => ⟨S1408x1536, .bf16⟩
  | .local _ .vmem, ⟨52, _⟩ => ⟨S1408x1536, .bf16⟩
  | .local _ .vmem, ⟨53, _⟩ => ⟨S1408x1536, .bf16⟩
  | _, _ => ⟨S6x1536x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_scratch0 : Ref sig .tc := ⟨.vmem, 50, rfl⟩
abbrev cc0_scratch1 : Ref sig .tc := ⟨.vmem, 51, rfl⟩
abbrev cc0_scratch2 : Ref sig .tc := ⟨.vmem, 52, rfl⟩
abbrev cc0_scratch3 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49

abbrev nD : Nat := 1
abbrev τ : Topo := Topo.v7x

variable {F : FTy → Type} [BitOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1536x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1408x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1280x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1152x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x896x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x768x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x640x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x384x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x256x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x128x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x1536x1536 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== SolveIdeal.lean ====
variable {F : FTy → Type} [FloatOps F]
-- ==== SolveRefIdeal.lean ====
abbrev S6x1536x1536 : Shape := ⟨3, ![6, 1536, 1536]⟩
abbrev S6x128x128 : Shape := ⟨3, ![6, 128, 128]⟩
abbrev S6x1408x128 : Shape := ⟨3, ![6, 1408, 128]⟩
abbrev S6x1280x128 : Shape := ⟨3, ![6, 1280, 128]⟩
abbrev S6x1152x128 : Shape := ⟨3, ![6, 1152, 128]⟩
abbrev S6x1024x128 : Shape := ⟨3, ![6, 1024, 128]⟩
abbrev S6x896x128 : Shape := ⟨3, ![6, 896, 128]⟩
abbrev S6x768x128 : Shape := ⟨3, ![6, 768, 128]⟩
abbrev S6x640x128 : Shape := ⟨3, ![6, 640, 128]⟩
abbrev S6x512x128 : Shape := ⟨3, ![6, 512, 128]⟩
abbrev S6x384x128 : Shape := ⟨3, ![6, 384, 128]⟩
abbrev S6x256x128 : Shape := ⟨3, ![6, 256, 128]⟩
abbrev S6x128x1536 : Shape := ⟨3, ![6, 128, 1536]⟩

abbrev nBuf : Space → Nat
  | .hbm => 25
  | .vmem => 25
  | .smem => 0
  | _ => 0

abbrev bufTy : (tb : Table) → Fin (tcTables nBuf tb) → BufTy
  | .hbm, ⟨0, _⟩ => ⟨S6x1536x1536, .f32⟩
  | .hbm, ⟨1, _⟩ => ⟨S6x128x128, .f32⟩
  | .hbm, ⟨2, _⟩ => ⟨S6x128x128, .f32⟩
  | .hbm, ⟨3, _⟩ => ⟨S6x128x128, .f32⟩
  | .hbm, ⟨4, _⟩ => ⟨S6x128x128, .f32⟩
  | .hbm, ⟨5, _⟩ => ⟨S6x128x128, .f32⟩
  | .hbm, ⟨6, _⟩ => ⟨S6x128x128, .f32⟩
  | .hbm, ⟨7, _⟩ => ⟨S6x128x128, .f32⟩
  | .hbm, ⟨8, _⟩ => ⟨S6x128x128, .f32⟩
  | .hbm, ⟨9, _⟩ => ⟨S6x128x128, .f32⟩
  | .hbm, ⟨10, _⟩ => ⟨S6x128x128, .f32⟩
  | .hbm, ⟨11, _⟩ => ⟨S6x128x128, .f32⟩
  | .hbm, ⟨12, _⟩ => ⟨S6x128x128, .f32⟩
  | .hbm, ⟨13, _⟩ => ⟨S6x1408x128, .f32⟩
  | .hbm, ⟨14, _⟩ => ⟨S6x1280x128, .f32⟩
  | .hbm, ⟨15, _⟩ => ⟨S6x1152x128, .f32⟩
  | .hbm, ⟨16, _⟩ => ⟨S6x1024x128, .f32⟩
  | .hbm, ⟨17, _⟩ => ⟨S6x896x128, .f32⟩
  | .hbm, ⟨18, _⟩ => ⟨S6x768x128, .f32⟩
  | .hbm, ⟨19, _⟩ => ⟨S6x640x128, .f32⟩
  | .hbm, ⟨20, _⟩ => ⟨S6x512x128, .f32⟩
  | .hbm, ⟨21, _⟩ => ⟨S6x384x128, .f32⟩
  | .hbm, ⟨22, _⟩ => ⟨S6x256x128, .f32⟩
  | .hbm, ⟨23, _⟩ => ⟨S6x128x128, .f32⟩
  | .hbm, ⟨24, _⟩ => ⟨S6x1536x1536, .bf16⟩
  | .local _ .vmem, ⟨0, _⟩ => ⟨S6x1536x1536, .f32⟩
  | .local _ .vmem, ⟨1, _⟩ => ⟨S6x128x128, .f32⟩
  | .local _ .vmem, ⟨2, _⟩ => ⟨S6x128x128, .f32⟩
  | .local _ .vmem, ⟨3, _⟩ => ⟨S6x128x128, .f32⟩
  | .local _ .vmem, ⟨4, _⟩ => ⟨S6x128x128, .f32⟩
  | .local _ .vmem, ⟨5, _⟩ => ⟨S6x128x128, .f32⟩
  | .local _ .vmem, ⟨6, _⟩ => ⟨S6x128x128, .f32⟩
  | .local _ .vmem, ⟨7, _⟩ => ⟨S6x128x128, .f32⟩
  | .local _ .vmem, ⟨8, _⟩ => ⟨S6x128x128, .f32⟩
  | .local _ .vmem, ⟨9, _⟩ => ⟨S6x128x128, .f32⟩
  | .local _ .vmem, ⟨10, _⟩ => ⟨S6x128x128, .f32⟩
  | .local _ .vmem, ⟨11, _⟩ => ⟨S6x128x128, .f32⟩
  | .local _ .vmem, ⟨12, _⟩ => ⟨S6x128x128, .f32⟩
  | .local _ .vmem, ⟨13, _⟩ => ⟨S6x1408x128, .f32⟩
  | .local _ .vmem, ⟨14, _⟩ => ⟨S6x1280x128, .f32⟩
  | .local _ .vmem, ⟨15, _⟩ => ⟨S6x1152x128, .f32⟩
  | .local _ .vmem, ⟨16, _⟩ => ⟨S6x1024x128, .f32⟩
  | .local _ .vmem, ⟨17, _⟩ => ⟨S6x896x128, .f32⟩
  | .local _ .vmem, ⟨18, _⟩ => ⟨S6x768x128, .f32⟩
  | .local _ .vmem, ⟨19, _⟩ => ⟨S6x640x128, .f32⟩
  | .local _ .vmem, ⟨20, _⟩ => ⟨S6x512x128, .f32⟩
  | .local _ .vmem, ⟨21, _⟩ => ⟨S6x384x128, .f32⟩
  | .local _ .vmem, ⟨22, _⟩ => ⟨S6x256x128, .f32⟩
  | .local _ .vmem, ⟨23, _⟩ => ⟨S6x128x128, .f32⟩
  | .local _ .vmem, ⟨24, _⟩ => ⟨S6x1536x1536, .bf16⟩
  | _, _ => ⟨S6x1536x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24

abbrev nD : Nat := 1
abbrev τ : Topo := Topo.v7x

variable {F : FTy → Type} [FloatOps F]

abbrev grid0 : Pipeline.Grid := .none

abbrev stage0_0 : Fin 1 → Memref sig .tc .vmem S6x1536x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6x1408x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S6x1280x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S6x1152x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S6x1024x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S6x896x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S6x768x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S6x640x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S6x512x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S6x384x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S6x256x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S6x128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S6x1536x1536 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
-- ==== Proof.Blocks.lean ====
module

public import proofs.«01_k».proof.Proof.Gen.RotateIdeal.Value
public import Idealize.ShloMosaic.Lib.Pointwise.Index

/-! # What one grid point of the rotation kernel stores, block by block

A grid point stores its codes and its scales in 48 pieces, one per panel of 256 rows and group of 128
columns. This module states the pieces uniformly in the panel and the group: `codesPiece` and
`scalePiece` are what is stored for group `k` of a panel whose rotated rows are `mn`, and `codes_eq` /
`scale_eq` say that all 48 stores together leave `codesBlock` and `scaleBlock`. -/

@[expose] public section

set_option maxRecDepth 16384

noncomputable section

namespace Cert.RotateIdeal.Blocks

open Cert.RotateIdeal Cert.RotateIdeal.Gen Idealize.ShloMosaic Idealize.ShloMosaic.TcCoe Idealize.ShloMosaic.Tactic

variable {F : FTy → Type} [FloatOps F]

theorem slices_group (k : ℕ) (hk : k < 8) : S256x1024.Slices ![0, 128 * k] S256x128 := by
  refine ⟨rfl, fun a => ?_⟩
  match a with
  | ⟨0, _⟩ => show 0 + 256 ≤ 256; omega
  | ⟨1, _⟩ => show 128 * k + 128 ≤ 1024; omega

theorem inb_panel (r : ℕ) (hr : r + 256 ≤ 1536) :
    ∀ a, (![0, r, 0] : Fin 3 → Nat) a + S1x256x1536.size a ≤ S1x1536x1536.size a := by
  intro a
  match a with
  | ⟨0, _⟩ => show 0 + 1 ≤ 1; omega
  | ⟨1, _⟩ => show r + 256 ≤ 1536; omega
  | ⟨2, _⟩ => show 0 + 1536 ≤ 1536; omega

/-- Columns `128 k … 128 k + 127` of a panel. -/
def group (mn : FVec F S256x1024 .f32) (k : ℕ) (hk : k < 8) : FVec F S256x128 .f32 :=
  extractStridedSlice S256x128 ![0, 128 * k] mn (slices_group k hk)

/-- Per row, the largest magnitude in a group, times the float32 nearest to 1 / 448. -/
def groupMax (mn : FVec F S256x1024 .f32) (k : ℕ) (hk : k < 8) : FVec F S256x1 .f32 :=
  mulf (shapeCast S256x1 (multiReduction .maximumf [1] S256 (absf (group mn k hk)) 0xFF800000#32
      reduces_S256x128_S256 (.inl rfl) rfl) shapeCasts_S256_S256x1)
    (broadcast S256x1 (Scalar.ofBits .f32 0x3B124925#32))

/-- The scales stored for group `k` of a panel. -/
def scalePiece (mn : FVec F S256x1024 .f32) (k : ℕ) (hk : k < 8) : FVec F S1x256x1 .f32 :=
  k0_pay26 (k0_pay24 (groupMax mn k hk) (iota .tc S1x256 32 [1] iota_S1x256_d1_w32) 23#32)

/-- The codes stored for group `k` of a panel. -/
def codesPiece (mn : FVec F S256x1024 .f32) (k : ℕ) (hk : k < 8) : FVec F S1x256x128 .fp8e4m3 :=
  k0_pay25 (group mn k hk) (groupMax mn k hk) (iota .tc S1x256 32 [1] iota_S1x256_d1_w32) 23#32

/-- The scales a grid point leaves: at row `r`, group `k`, those of the piece of `r`'s panel. -/
def scaleBlock (mn : (r : ℕ) → r + 256 ≤ 1536 → FVec F S256x1024 .f32) : Vec F S1x1536x8 .f32 := fun y =>
  scalePiece (mn (256 * ((y 1).val / 256)) (by have h : (y 1).val < 1536 := (y 1).isLt; omega)) (y 2).val (y 2).isLt
    (ix3 (n0 := 1) (n2 := 1) 0 ⟨(y 1).val % 256, Nat.mod_lt _ (by omega)⟩ 0)

/-- The codes a grid point leaves: at row `r`, column `d`, those of the piece of `r`'s panel and `d`'s group. -/
def codesBlock (mn : (r : ℕ) → r + 256 ≤ 1536 → FVec F S256x1024 .f32) : Vec F S1x1536x1024 .fp8e4m3 := fun y =>
  codesPiece (mn (256 * ((y 1).val / 256)) (by have h : (y 1).val < 1536 := (y 1).isLt; omega)) ((y 2).val / 128)
    (by have h : (y 2).val < 1024 := (y 2).isLt; omega)
    (ix3 (n0 := 1) 0 ⟨(y 1).val % 256, Nat.mod_lt _ (by omega)⟩ ⟨(y 2).val % 128, Nat.mod_lt _ (by omega)⟩)

/-- A piece of the scales is the part of the whole under its rectangle. -/
theorem scalePiece_apply (mn : (r : ℕ) → r + 256 ≤ 1536 → FVec F S256x1024 .f32) (r k : ℕ) (hr : r + 256 ≤ 1536)
    (hd : r % 256 = 0) (hk : k < 8) (inb : ∀ a, (![0, r, k] : Fin 3 → Nat) a + S1x256x1.size a ≤ S1x1536x8.size a)
    (x : S1x256x1.Idx) :
    scalePiece (mn r hr) k hk x = scaleBlock mn ((Rect.unit (s := S1x1536x8) ![0, r, k] S1x256x1.size inb).emb x) := by
  have h0 : (x 0).val < 1 := (x 0).isLt
  have h1 : (x 1).val < 256 := (x 1).isLt
  have h2 : (x 2).val < 1 := (x 2).isLt
  unfold scaleBlock
  have e1 : ((Rect.unit (s := S1x1536x8) ![0, r, k] S1x256x1.size inb).emb x 1).val = r + (x 1).val := by
    show r + 1 * (x 1).val = _; omega
  have e2 : ((Rect.unit (s := S1x1536x8) ![0, r, k] S1x256x1.size inb).emb x 2).val = k := by
    show k + 1 * (x 2).val = _; omega
  have e3 : 256 * (((Rect.unit (s := S1x1536x8) ![0, r, k] S1x256x1.size inb).emb x 1).val / 256) = r := by omega
  have e4 : x = ix3 (n0 := 1) (n2 := 1) 0
      ⟨((Rect.unit (s := S1x1536x8) ![0, r, k] S1x256x1.size inb).emb x 1).val % 256, Nat.mod_lt _ (by omega)⟩ 0 := by
    funext a
    match a with
    | ⟨0, _⟩ => apply Fin.ext; show (x 0).val = 0; omega
    | ⟨1, _⟩ => apply Fin.ext; show (x 1).val = _ % 256; omega
    | ⟨2, _⟩ => apply Fin.ext; show (x 2).val = 0; omega
  rw [← e4]
  congr 1
  · congr 1; exact e3.symm
  · exact e2.symm

/-- A piece of the codes is the part of the whole under its rectangle. -/
theorem codesPiece_apply (mn : (r : ℕ) → r + 256 ≤ 1536 → FVec F S256x1024 .f32) (r o : ℕ) (hr : r + 256 ≤ 1536)
    (hd : r % 256 = 0) (hk : o / 128 < 8) (ho : o % 128 = 0)
    (inb : ∀ a, (![0, r, o] : Fin 3 → Nat) a + S1x256x128.size a ≤ S1x1536x1024.size a)
    (x : S1x256x128.Idx) :
    codesPiece (mn r hr) (o / 128) hk x = codesBlock mn ((Rect.unit (s := S1x1536x1024) ![0, r, o] S1x256x128.size inb).emb x) := by
  have h0 : (x 0).val < 1 := (x 0).isLt
  have h1 : (x 1).val < 256 := (x 1).isLt
  have h2 : (x 2).val < 128 := (x 2).isLt
  unfold codesBlock
  have e1 : ((Rect.unit (s := S1x1536x1024) ![0, r, o] S1x256x128.size inb).emb x 1).val = r + (x 1).val := by
    show r + 1 * (x 1).val = _; omega
  have e2 : ((Rect.unit (s := S1x1536x1024) ![0, r, o] S1x256x128.size inb).emb x 2).val = o + (x 2).val := by
    show o + 1 * (x 2).val = _; omega
  have e3 : 256 * (((Rect.unit (s := S1x1536x1024) ![0, r, o] S1x256x128.size inb).emb x 1).val / 256) = r := by omega
  have e4 : x = ix3 (n0 := 1) 0
      ⟨((Rect.unit (s := S1x1536x1024) ![0, r, o] S1x256x128.size inb).emb x 1).val % 256, Nat.mod_lt _ (by omega)⟩
      ⟨((Rect.unit (s := S1x1536x1024) ![0, r, o] S1x256x128.size inb).emb x 2).val % 128, Nat.mod_lt _ (by omega)⟩ := by
    funext a
    match a with
    | ⟨0, _⟩ => apply Fin.ext; show (x 0).val = 0; omega
    | ⟨1, _⟩ => apply Fin.ext; show (x 1).val = _ % 256; omega
    | ⟨2, _⟩ => apply Fin.ext; show (x 2).val = _ % 128; omega
  rw [← e4]
  congr 1
  · congr 1; exact e3.symm
  · show o / 128 = _ / 128; omega

section Run

variable (c : Dev nD) (i : grid0.Coords)
  (arg1 : Memref sig .tc .vmem S1x1536x1536 .bf16) (harg1 : arg1.IsWhole)
  (arg2 : Memref sig .tc .vmem S1x1024x1024 .bf16) (harg2 : arg2.IsWhole)
  (arg3 : Memref sig .tc .vmem S1x1536x1536 .bf16) (harg3 : arg3.IsWhole)
  (arg4 : Memref sig .tc .vmem S1x1024x1024 .bf16) (harg4 : arg4.IsWhole)
  (arg5 : Memref sig .tc .vmem S1x1536x1024 .fp8e4m3) (harg5 : arg5.IsWhole)
  (arg6 : Memref sig .tc .vmem S1x1536x8 .f32) (harg6 : arg6.IsWhole)
  (arg7 : Memref sig .tc .vmem S1x1536x1536 .bf16) (harg7 : arg7.IsWhole)
  (arg8 : Memref sig .tc .vmem S1x1024x1024 .bf16) (harg8 : arg8.IsWhole)
  (arg9 : Memref sig .tc .vmem S1x1536x1024 .fp8e4m3) (harg9 : arg9.IsWhole)
  (arg10 : Memref sig .tc .vmem S1x1536x8 .f32) (harg10 : arg10.IsWhole)
  (arg11 : Memref sig .tc .vmem S1536x1024 .bf16) (harg11 : arg11.IsWhole)
  (arg12 : Memref sig .tc .vmem S1024x1024 .bf16) (harg12 : arg12.IsWhole)
  (x0 : Vec F S1x1536x1536 .bf16) (x1 : Vec F S1x1024x1024 .bf16) (x2 : Vec F S1x1536x1536 .bf16)
  (x3 : Vec F S1x1024x1024 .bf16) (x4 : Vec F S1x1536x1024 .fp8e4m3) (x5 : Vec F S1x1536x8 .f32)

/-- The rotated rows of the panel that starts at row `r`, from what the run reads: the panel's rows of the
    first factor, the old left basis, the dequantised momentum and the right rotation. -/
def panelRead (r : ℕ) (hr : r + 256 ≤ 1536) : FVec F S256x1024 .f32 :=
  k0_pay20 (View.readAt (Elt F) arg1.view (Rect.unit (s := S1x1536x1536) ![0, r, 0] S1x256x1536.size (inb_panel r hr)).toLoadRect (harg1.unread x0))
    (View.readAt (Elt F) arg3.view (Rect.unit (s := S1x1536x1536) ![0, 0, 0] S1x1536x1536.size inb_S1x1536x1536_S1x1536x1536_0_0_0).toLoadRect (harg3.unread x2))
    (kernelRun0_A.sl.v115 c arg5 harg5 arg6 harg6 arg11 x4 x5)
    (kernelRun0_A.sl.v118 c arg2 harg2 arg4 harg4 arg8 arg12 x1 x3)

/-- The 48 stores of scales together. -/
theorem scale_eq :
    out0_A_9 c i arg1 harg1 arg2 harg2 arg3 harg3 arg4 harg4 arg5 harg5 arg6 harg6 arg7 harg7 arg8 harg8 arg9 harg9 arg10 harg10 arg11 harg11 arg12 harg12 x0 x1 x2 x3 x4 x5
      = scaleBlock (panelRead c arg1 harg1 arg2 harg2 arg3 harg3 arg4 harg4 arg5 harg5 arg6 harg6 arg8 arg11 arg12 x0 x1 x2 x3 x4 x5) := by
  unfold out0_A_9
  have hcov := cover0_A_9 c i arg1 harg1 arg2 harg2 arg3 harg3 arg4 harg4 arg5 harg5 arg6 harg6 arg7 harg7 arg8 harg8 arg9 harg9 arg10 harg10 arg11 harg11 arg12 harg12 x0 x1 x2 x3 x4 x5
  rw [View.read_writes_eq_canon _ _ _ hcov]
  funext y
  refine View.canon_apply_of_pieces _ _ ?_ y (hcov y)
  clear hcov y
  unfold kernelRun0_A
  dsimp only
  repeat
    refine List.forall_mem_cons.2 ⟨fun x => Eq.trans ?_
      (scalePiece_apply (panelRead c arg1 harg1 arg2 harg2 arg3 harg3 arg4 harg4 arg5 harg5 arg6 harg6 arg8 arg11 arg12 x0 x1 x2 x3 x4 x5)
        _ _ (by decide) (by decide) (by decide) (by decide) x), ?_⟩
    · rfl
  exact fun pc h => absurd h List.not_mem_nil

/-- The 48 stores of codes together. -/
theorem codes_eq :
    out0_A_8 c i arg1 harg1 arg2 harg2 arg3 harg3 arg4 harg4 arg5 harg5 arg6 harg6 arg7 harg7 arg8 harg8 arg9 harg9 arg10 harg10 arg11 harg11 arg12 harg12 x0 x1 x2 x3 x4 x5
      = codesBlock (panelRead c arg1 harg1 arg2 harg2 arg3 harg3 arg4 harg4 arg5 harg5 arg6 harg6 arg8 arg11 arg12 x0 x1 x2 x3 x4 x5) := by
  unfold out0_A_8
  have hcov := cover0_A_8 c i arg1 harg1 arg2 harg2 arg3 harg3 arg4 harg4 arg5 harg5 arg6 harg6 arg7 harg7 arg8 harg8 arg9 harg9 arg10 harg10 arg11 harg11 arg12 harg12 x0 x1 x2 x3 x4 x5
  rw [View.read_writes_eq_canon _ _ _ hcov]
  funext y
  refine View.canon_apply_of_pieces _ _ ?_ y (hcov y)
  clear hcov y
  unfold kernelRun0_A
  dsimp only
  repeat
    refine List.forall_mem_cons.2 ⟨fun x => Eq.trans ?_
      (codesPiece_apply (panelRead c arg1 harg1 arg2 harg2 arg3 harg3 arg4 harg4 arg5 harg5 arg6 harg6 arg8 arg11 arg12 x0 x1 x2 x3 x4 x5)
        _ _ (by decide) (by decide) (by decide) (by decide) (by decide) x), ?_⟩
    · rfl
  exact fun pc h => absurd h List.not_mem_nil

end Run

end Cert.RotateIdeal.Blocks
-- ==== Proof.Quant.lean ====
module

public import Idealize.ShloMosaic.PureOps.Ideal.Laws
public import Idealize.ShloMosaic.PureOps.Reduce
public import Mathlib.Algebra.Order.Archimedean.Basic

/-! # The power-of-two scale of one quantised block

`blockExp x` is the exponent `frexp` returns for a block whose rescaled largest magnitude is `x`
(zero for what a float32 flushes to zero and for infinity). This module shows that the two ways
the programs find it, a maximum over the 256 exponent fields and a minimum over 252 candidate
exponents, both give `blockExp x`. -/

@[expose] public section

noncomputable section

namespace Cert.Quant

open Idealize.ShloMosaic

/-- The exponent `e` with `2 ^ (e - 1) ≤ x < 2 ^ e` for `x` between the least normal float32 and
    `2 ^ 126`, and `0` for every other `x`. -/
def blockExp (x : EReal) : ℤ :=
  open Classical in
  if h : ∃ e : ℤ, (-125 ≤ e ∧ e ≤ 126) ∧ ((2 : ℝ) ^ (e - 1) : ℝ) ≤ x ∧ x < ((2 : ℝ) ^ e : ℝ) then h.choose else 0

/-- On a normal number below `2 ^ 126` the exponent is one more than the greatest power of two not
    above it. -/
theorem blockExp_of_mem (x : EReal) (hlo : ((2 : ℝ) ^ (-126 : ℤ) : ℝ) ≤ x) (hhi : x < ((2 : ℝ) ^ (126 : ℤ) : ℝ)) :
    ∃ (r : ℝ) (L : ℤ), x = r ∧ blockExp x = L + 1 ∧ -126 ≤ L ∧ L < 126 ∧ ∀ z : ℤ, (2 : ℝ) ^ z ≤ r ↔ z ≤ L := by
  obtain ⟨r, rfl⟩ : ∃ r : ℝ, x = r := by
    induction x with
    | bot => exact absurd hlo (by simp)
    | top => exact absurd hhi (by simp)
    | coe r => exact ⟨r, rfl⟩
  rw [EReal.coe_le_coe_iff] at hlo
  rw [EReal.coe_lt_coe_iff] at hhi
  have hr : 0 < r := lt_of_lt_of_le (by positivity) hlo
  have step : ∀ L : ℤ, (2 : ℝ) ^ L ≤ r → r < (2 : ℝ) ^ (L + 1) → ∀ z : ℤ, (2 : ℝ) ^ z ≤ r ↔ z ≤ L := by
    intro L h1 h2 z
    constructor
    · intro h
      by_contra hc
      exact absurd ((zpow_le_zpow_right₀ (by norm_num) (by omega : L + 1 ≤ z)).trans h) (not_le.2 h2)
    · exact fun h => (zpow_le_zpow_right₀ (by norm_num) h).trans h1
  have hex : ∃ e : ℤ, (-125 ≤ e ∧ e ≤ 126) ∧ (((2 : ℝ) ^ (e - 1) : ℝ) : EReal) ≤ r ∧ (r : EReal) < ((2 : ℝ) ^ e : ℝ) := by
    obtain ⟨L, h1, h2⟩ := exists_mem_Ico_zpow hr (by norm_num : (1 : ℝ) < 2)
    have k := step L h1 h2
    refine ⟨L + 1, ⟨?_, ?_⟩, ?_, ?_⟩
    · have := (k _).1 hlo; omega
    · by_contra hc
      exact absurd ((k 126).2 (by omega)) (not_le.2 hhi)
    · rw [EReal.coe_le_coe_iff]; simpa using h1
    · rw [EReal.coe_lt_coe_iff]; exact h2
  obtain ⟨⟨c1, c2⟩, c3, c4⟩ := hex.choose_spec
  rw [EReal.coe_le_coe_iff] at c3
  rw [EReal.coe_lt_coe_iff] at c4
  refine ⟨r, hex.choose - 1, rfl, ?_, by omega, by omega, step _ c3 (by simpa using c4)⟩
  unfold blockExp; rw [dif_pos hex]; ring

/-- Everywhere else the exponent is zero. -/
theorem blockExp_of_not_mem (x : EReal) (h : ¬ (((2 : ℝ) ^ (-126 : ℤ) : ℝ) ≤ x ∧ x < ((2 : ℝ) ^ (126 : ℤ) : ℝ))) :
    blockExp x = 0 := by
  unfold blockExp
  rw [dif_neg]
  rintro ⟨e, ⟨h1, h2⟩, h3, h4⟩
  refine h ⟨le_trans ?_ h3, lt_of_lt_of_le h4 ?_⟩ <;> rw [EReal.coe_le_coe_iff]
  · exact zpow_le_zpow_right₀ (by norm_num) (by omega)
  · exact zpow_le_zpow_right₀ (by norm_num) (by omega)

/-- The scale of a block: two to its exponent. -/
def scaleOf (x : EReal) : EReal := ((2 : ℝ) ^ blockExp x : ℝ)

/-- The reciprocal of the scale of a block. -/
def invOf (x : EReal) : EReal := ((2 : ℝ) ^ (-blockExp x) : ℝ)

/-! ### Bit patterns of powers of two -/

/-- The three fields of an exponent field shifted into its place. -/
theorem fields (n : Fin 256) :
    (((BitVec.ofNat 32 n.val <<< 23).extractLsb' 31 1 == 1#1) = false) ∧
    ((BitVec.ofNat 32 n.val <<< 23).extractLsb' 23 8).toNat = n.val ∧
    ((BitVec.ofNat 32 n.val <<< 23).extractLsb' 0 23).toNat = 0 := by
  revert n; decide +kernel

/-- A positive pattern with exponent field `n` between 1 and 254 and no fraction is `2 ^ (n - 127)`. -/
theorem ofBits_of_fields (b : BitVec 32) (n : ℕ) (h1 : 1 ≤ n) (h2 : n ≤ 254)
    (ha : (b.extractLsb' 31 1 == 1#1) = false) (hb : (b.extractLsb' 23 8).toNat = n)
    (hc : (b.extractLsb' 0 23).toNat = 0) : Ideal.ofBits .f32 b = ((2 : ℝ) ^ ((n : ℤ) - 127) : ℝ) := by
  have e : Ideal.ofBits .f32 b = if (b.extractLsb' 23 8).toNat = 255 then
      (if (b.extractLsb' 0 23).toNat = 0 then (if (b.extractLsb' 31 1 == 1#1) = true then ⊥ else ⊤) else ⊥)
    else if (b.extractLsb' 23 8).toNat = 0 then
      (((if (b.extractLsb' 31 1 == 1#1) = true then (-1 : ℝ) else 1) * (b.extractLsb' 0 23).toNat
        * (2 : ℝ) ^ (1 - (2 ^ (8 - 1) - 1) - (23 : ℕ) : ℤ) : ℝ) : EReal)
    else (((if (b.extractLsb' 31 1 == 1#1) = true then (-1 : ℝ) else 1) * (2 ^ 23 + (b.extractLsb' 0 23).toNat : ℕ)
        * (2 : ℝ) ^ (((b.extractLsb' 23 8).toNat : ℤ) - (2 ^ (8 - 1) - 1) - (23 : ℕ)) : ℝ) : EReal) := rfl
  rw [e, hb, hc, ha, if_neg (by omega), if_neg (by omega)]
  have e2 : ((2 : ℝ) ^ ((n : ℤ) - 127)) = (2 : ℝ) ^ (23 : ℤ) * (2 : ℝ) ^ ((n : ℤ) - (2 ^ (8 - 1) - 1) - (23 : ℕ)) := by
    rw [← zpow_add₀ (by norm_num)]; congr 1; norm_num
  rw [e2]
  norm_num

/-- An exponent field between 1 and 254 denotes the power of two `2 ^ (n - 127)`. -/
theorem ofBits_pow (n : ℕ) (h1 : 1 ≤ n) (h2 : n ≤ 254) :
    Ideal.ofBits .f32 (BitVec.ofNat 32 n <<< 23) = ((2 : ℝ) ^ ((n : ℤ) - 127) : ℝ) := by
  obtain ⟨a, b, c⟩ := fields ⟨n, by omega⟩
  exact ofBits_of_fields _ n h1 h2 a b c

theorem ofBits_pow_zero : Ideal.ofBits .f32 (BitVec.ofNat 32 0 <<< 23) = 0 := by
  simp [Ideal.ofBits, Ideal.ieee]

theorem ofBits_pow_top : Ideal.ofBits .f32 (BitVec.ofNat 32 255 <<< 23) = ⊤ := by
  simp [Ideal.ofBits, Ideal.ieee]

/-! ### The maximum over exponent fields -/

/-- What the exponent field `k` contributes: itself (255 from 253 on) where `x` reaches the power of
    two the field stands for, else 0. -/
def fieldTerm (x : EReal) (k : ℕ) : BitVec 32 :=
  if Ideal.ofBits .f32 (BitVec.ofNat 32 k <<< 23) ≤ x then (if k < 253 then BitVec.ofNat 32 k else 255#32) else 0#32

/-- The exponent field the kernel works with, biased by 126. -/
def biased (x : EReal) : BitVec 32 := BitVec.ofNat 32 (126 + blockExp x).toNat

/-- The kernel's treatment of the largest field: 0 and 255 stand for the scale one. -/
def settle (f : BitVec 32) : BitVec 32 := if f = 0#32 ∨ f = 255#32 then 126#32 else f

/-- A signed maximum is at most a bound exactly where every member is. -/
theorem fold_maxsi_le {ι : Type} (S : Finset ι) (f : ι → BitVec 32) (v : BitVec 32) :
    (S.fold IntOp.maxsi 2147483648#32 f).toInt ≤ v.toInt ↔ ∀ i ∈ S, (f i).toInt ≤ v.toInt := by
  have h := Finset.fold_op_rel_iff_and (op := (IntOp.maxsi (w := 32))) (f := f) (b := 2147483648#32) (s := S)
    (r := fun a b => b.toInt ≤ a.toInt) (by
      intro x y z
      unfold IntOp.maxsi
      split <;> rename_i hh <;> simp only [BitVec.slt, decide_eq_true_eq, Bool.not_eq_true, decide_eq_false_iff_not] at hh <;> omega) (c := v)
  rw [h]
  constructor
  · exact fun hh => hh.2
  · refine fun hh => ⟨?_, hh⟩
    have : (2147483648#32).toInt = -2147483648 := by decide
    rw [this]
    have := BitVec.le_toInt (x := v)
    norm_num at this ⊢
    omega

/-- A member that no other member exceeds is the signed maximum. -/
theorem fold_maxsi_eq {ι : Type} (S : Finset ι) (f : ι → BitVec 32) (v : BitVec 32)
    (hle : ∀ i ∈ S, (f i).toInt ≤ v.toInt) (hv : ∃ i ∈ S, f i = v) :
    S.fold IntOp.maxsi 2147483648#32 f = v := by
  apply BitVec.eq_of_toInt_eq
  refine le_antisymm ((fold_maxsi_le S f v).2 hle) ?_
  obtain ⟨i, hi, rfl⟩ := hv
  exact (fold_maxsi_le S f _).1 le_rfl i hi

theorem toInt_small (n : ℕ) (h : n < 1000) : (BitVec.ofNat 32 n).toInt = n := by
  rw [BitVec.toInt_ofNat']
  norm_num
  rw [Int.bmod_def]; split <;> omega

/-- The fields' maximum, settled, is the biased exponent of the block. -/
theorem field_max {ι : Type} (S : Finset ι) (f : ι → BitVec 32) (x : EReal)
    (h1 : ∀ i ∈ S, ∃ k < 256, f i = fieldTerm x k) (h2 : ∀ k < 256, ∃ i ∈ S, f i = fieldTerm x k) :
    settle (S.fold IntOp.maxsi 2147483648#32 f) = biased x := by
  by_cases hlo : ((2 : ℝ) ^ (-126 : ℤ) : ℝ) ≤ x
  · by_cases hhi : x < ((2 : ℝ) ^ (126 : ℤ) : ℝ)
    · -- a normal number below 2 ^ 126
      obtain ⟨r, L, rfl, hb, l1, l2, key⟩ := blockExp_of_mem x hlo hhi
      have hbi : biased (r : EReal) = BitVec.ofNat 32 (L + 127).toNat := by
        unfold biased; rw [hb]; congr 2; ring
      have hterm : ∀ k < 256, 1 ≤ k → (Ideal.ofBits .f32 (BitVec.ofNat 32 k <<< 23) ≤ (r : EReal) ↔ (k : ℤ) ≤ L + 127) := by
        intro k hk hk1
        by_cases h255 : k = 255
        · subst h255; rw [ofBits_pow_top]; simp; omega
        · rw [ofBits_pow k hk1 (by omega), EReal.coe_le_coe_iff, key]; omega
      rw [fold_maxsi_eq S f (BitVec.ofNat 32 (L + 127).toNat)]
      · rw [hbi]; unfold settle; rw [if_neg]
        rintro (h | h) <;> (have := congrArg BitVec.toNat h; simp only [BitVec.toNat_ofNat] at this; omega)
      · intro i hi
        obtain ⟨k, hk, e⟩ := h1 i hi
        rw [e, toInt_small _ (by omega)]
        unfold fieldTerm
        split
        · rename_i hc
          rcases Nat.eq_zero_or_pos k with h0 | h0
          · subst h0; rw [if_pos (by omega), toInt_small _ (by omega)]; omega
          · have := (hterm k hk h0).1 hc
            rw [if_pos (by omega), toInt_small _ (by omega)]; omega
        · rw [toInt_small 0 (by omega)]; omega
      · obtain ⟨i, hi, e⟩ := h2 (L + 127).toNat (by omega)
        refine ⟨i, hi, ?_⟩
        rw [e]; unfold fieldTerm
        rw [if_pos ((hterm _ (by omega) (by omega)).2 (by omega)), if_pos (by omega)]
    · -- 2 ^ 126 and above
      have hb : blockExp x = 0 := by exact blockExp_of_not_mem x (fun h => hhi h.2)
      have hbi : biased x = 126#32 := by unfold biased; rw [hb]; rfl
      rw [fold_maxsi_eq S f 255#32]
      · rw [hbi]; rfl
      · intro i hi
        obtain ⟨k, hk, e⟩ := h1 i hi
        rw [e, toInt_small 255 (by omega)]
        unfold fieldTerm
        split
        · split
          · rw [toInt_small _ (by omega)]; omega
          · rw [toInt_small 255 (by omega)]
        · rw [toInt_small 0 (by omega)]; omega
      · obtain ⟨i, hi, e⟩ := h2 253 (by omega)
        refine ⟨i, hi, ?_⟩
        rw [e]; unfold fieldTerm
        rw [if_pos, if_neg (by omega)]
        rw [ofBits_pow 253 (by omega) (by omega)]
        simpa using hhi
  · -- below the least normal number
    have hb : blockExp x = 0 := by exact blockExp_of_not_mem x (fun h => hlo h.1)
    have hbi : biased x = 126#32 := by unfold biased; rw [hb]; rfl
    have hterm : ∀ k < 256, fieldTerm x k = 0#32 := by
      intro k hk
      unfold fieldTerm
      split
      · rename_i hc
        rcases Nat.eq_zero_or_pos k with h0 | h0
        · subst h0; rfl
        · exfalso
          apply hlo
          by_cases h255 : k = 255
          · subst h255; rw [ofBits_pow_top, top_le_iff] at hc; rw [hc]; exact le_top
          · rw [ofBits_pow k h0 (by omega)] at hc
            refine le_trans ?_ hc
            rw [EReal.coe_le_coe_iff]
            exact zpow_le_zpow_right₀ (by norm_num) (by omega)
      · rfl
    rw [fold_maxsi_eq S f 0#32]
    · rw [hbi]; rfl
    · intro i hi
      obtain ⟨k, hk, e⟩ := h1 i hi
      rw [e, hterm k hk]
    · obtain ⟨i, hi, e⟩ := h2 0 (by omega)
      exact ⟨i, hi, by rw [e, hterm 0 (by omega)]⟩

theorem blockExp_range (x : EReal) : -125 ≤ blockExp x ∧ blockExp x ≤ 126 := by
  by_cases h : ((2 : ℝ) ^ (-126 : ℤ) : ℝ) ≤ x ∧ x < ((2 : ℝ) ^ (126 : ℤ) : ℝ)
  · obtain ⟨r, L, rfl, hb, l1, l2, -⟩ := blockExp_of_mem x h.1 h.2
    omega
  · rw [blockExp_of_not_mem x h]; omega

/-- The biased exponent plus one, read as an exponent field, is the scale. -/
theorem ofBits_scale (x : EReal) : Ideal.ofBits .f32 ((biased x + 1#32) <<< 23) = scaleOf x := by
  obtain ⟨h1, h2⟩ := blockExp_range x
  have : biased x + 1#32 = BitVec.ofNat 32 (127 + blockExp x).toNat := by
    unfold biased
    rw [show (1#32) = BitVec.ofNat 32 1 from rfl, ← BitVec.ofNat_add]; congr 1; omega
  rw [this, ofBits_pow _ (by omega) (by omega)]
  unfold scaleOf
  congr 2; omega

/-- 253 less the biased exponent, read as an exponent field, is the reciprocal of the scale. -/
theorem ofBits_inv (x : EReal) : Ideal.ofBits .f32 ((253#32 - biased x) <<< 23) = invOf x := by
  obtain ⟨h1, h2⟩ := blockExp_range x
  have : 253#32 - biased x = BitVec.ofNat 32 (127 - blockExp x).toNat := by
    apply BitVec.eq_of_toNat_eq
    unfold biased
    rw [BitVec.toNat_sub]
    simp only [BitVec.toNat_ofNat]
    omega
  rw [this, ofBits_pow _ (by omega) (by omega)]
  unfold invOf
  congr 2; omega

/-! ### The minimum over candidate exponents -/

/-- `x`, with what lies below the least normal float32 taken to zero. -/
def flush (x : EReal) : EReal := if x < ((2 : ℝ) ^ (-126 : ℤ) : ℝ) then 0 else x

/-- What the candidate `k - 125` contributes: itself where `x` lies below that power of two, else 126. -/
def expTerm (x : EReal) (k : ℕ) : EReal :=
  if x < ((2 : ℝ) ^ ((k : ℤ) - 125) : ℝ) then (((k : ℝ) - 125 : ℝ) : EReal) else ((126 : ℝ) : EReal)

/-- A lower bound of the members that is one of them is their minimum. -/
theorem fold_min_eq {ι : Type} (S : Finset ι) (f : ι → EReal) (v : EReal)
    (hle : ∀ i ∈ S, v ≤ f i) (hv : ∃ i ∈ S, f i = v) : S.fold min ⊤ f = v := by
  obtain ⟨i, hi, e⟩ := hv
  refine le_antisymm ?_ ?_
  · exact (Finset.fold_min_le v).2 (Or.inr ⟨i, hi, e.le⟩)
  · exact (Finset.le_fold_min v).2 ⟨le_top, hle⟩

/-- The candidates' minimum, with zero for zero and for what reaches `2 ^ 126`, is the exponent of
    the block. -/
theorem exp_min {ι : Type} (S : Finset ι) (f : ι → EReal) (x : EReal)
    (h1 : ∀ i ∈ S, ∃ k < 252, f i = expTerm (flush x) k) (h2 : ∀ k < 252, ∃ i ∈ S, f i = expTerm (flush x) k) :
    (if flush x = 0 ∨ ((2 : ℝ) ^ (126 : ℤ) : ℝ) ≤ flush x then (0 : EReal) else S.fold min ⊤ f)
      = ((blockExp x : ℝ) : EReal) := by
  by_cases hlo : ((2 : ℝ) ^ (-126 : ℤ) : ℝ) ≤ x
  · have hf : flush x = x := by unfold flush; rw [if_neg (not_lt.2 hlo)]
    rw [hf] at h1 h2 ⊢
    have hx0 : x ≠ 0 := by
      rintro rfl
      rw [← EReal.coe_zero, EReal.coe_le_coe_iff] at hlo
      exact absurd hlo (not_le.2 (by positivity))
    by_cases hhi : x < ((2 : ℝ) ^ (126 : ℤ) : ℝ)
    · rw [if_neg (by rintro (h | h); exacts [hx0 h, absurd hhi (not_lt.2 h)])]
      obtain ⟨r, L, rfl, hb, l1, l2, key⟩ := blockExp_of_mem x hlo hhi
      rw [hb]
      have hterm : ∀ k : ℕ, ((r : EReal) < ((2 : ℝ) ^ ((k : ℤ) - 125) : ℝ) ↔ L < (k : ℤ) - 125) := by
        intro k
        rw [EReal.coe_lt_coe_iff, ← not_le, key, not_le]
      apply fold_min_eq
      · intro i hi
        obtain ⟨k, hk, e⟩ := h1 i hi
        rw [e]; unfold expTerm
        split
        · rename_i hc
          have := (hterm k).1 hc
          rw [EReal.coe_le_coe_iff]
          have h' : L + 1 ≤ (k : ℤ) - 125 := by omega
          exact_mod_cast h'
        · rw [EReal.coe_le_coe_iff]
          have h' : L + 1 ≤ 126 := by omega
          exact_mod_cast h'
      · obtain ⟨i, hi, e⟩ := h2 (L + 126).toNat (by omega)
        refine ⟨i, hi, ?_⟩
        rw [e]; unfold expTerm
        rw [if_pos ((hterm _).2 (by omega))]
        congr 1
        have h' : (((L + 126).toNat : ℤ)) - 125 = L + 1 := by omega
        exact_mod_cast h'
    · rw [if_pos (Or.inr (not_lt.1 hhi))]
      have hb : blockExp x = 0 := by exact blockExp_of_not_mem x (fun h => hhi h.2)
      rw [hb]; simp
  · have hf : flush x = 0 := by unfold flush; rw [if_pos (not_le.1 hlo)]
    have hb : blockExp x = 0 := by exact blockExp_of_not_mem x (fun h => hlo h.1)
    rw [if_pos (Or.inl hf), hb]; simp

/-- `exp2` of the exponent is the scale. -/
theorem exp2_scale (x : EReal) : Ideal.exp2 ((blockExp x : ℝ) : EReal) = scaleOf x := by
  rw [Ideal.exp2_coe]; unfold scaleOf
  congr 1
  exact Real.rpow_intCast 2 _

/-- `exp2` of the exponent's negation is the reciprocal of the scale. -/
theorem exp2_inv (x : EReal) : Ideal.exp2 (0 - ((blockExp x : ℝ) : EReal)) = invOf x := by
  rw [zero_sub, ← EReal.coe_neg, Ideal.exp2_coe]; unfold invOf
  congr 1
  rw [← Real.rpow_intCast]
  push_cast; rfl

end Cert.Quant
-- ==== Proof.Spec.lean ====
module

public import proofs.«01_k».proof.Proof.Quant
public import Idealize.ShloMosaic.Lib.Pointwise.Index

/-! # The rotated, requantised momentum as functions of the arguments

Everything is stated for one matrix of the batch and over the extended reals. `xl`, `xr` are the new
bases, transposed, `ql`, `qr` the old ones, `codes` and `scales` the stored momentum. -/

@[expose] public section

noncomputable section

namespace Cert.Spec

open Idealize.ShloMosaic

/-- The largest magnitude of a group of 128, times the float32 nearest to 1 / 448. -/
def groupX (f : Fin 128 → EReal) : EReal :=
  ((Finset.univ : Finset (Fin 128)).fold max (Ideal.ofBits .f32 0xFF800000#32) fun c => max (f c) (-f c))
    * Ideal.ofBits .f32 0x3B124925#32

/-- The power of two a group is divided by. -/
def groupScale (f : Fin 128 → EReal) : EReal := Quant.scaleOf (groupX f)

/-- The code of one entry of a group: the entry over the group's scale, clipped to ±448. -/
def groupCode (f : Fin 128 → EReal) (d : Fin 128) : EReal :=
  min (Ideal.ofBits .f32 0x43E00000#32) (max (Ideal.ofBits .f32 0xC3E00000#32) (f d * Quant.invOf (groupX f)))

variable (xl : Fin 1536 → Fin 1536 → EReal) (xr : Fin 1024 → Fin 1024 → EReal)
  (ql : Fin 1536 → Fin 1536 → EReal) (qr : Fin 1024 → Fin 1024 → EReal)
  (codes : Fin 1536 → Fin 1024 → EReal) (scales : Fin 1536 → Fin 8 → EReal)

/-- The left rotation, new basis against old. -/
def left (i j : Fin 1536) : EReal := ∑ k, xl i k * ql k j

/-- The right rotation, old basis against new. -/
def right (d e : Fin 1024) : EReal := ∑ k, qr k d * xr e k

/-- The stored momentum, dequantised. -/
def moment (j : Fin 1536) (d : Fin 1024) : EReal :=
  codes j d * scales j ⟨d.val / 128, by have := d.isLt; omega⟩

/-- The momentum in the new bases. -/
def rotated (i : Fin 1536) (e : Fin 1024) : EReal :=
  ∑ d, (∑ j, left xl ql i j * moment codes scales j d) * right xr qr d e

/-- Group `g` of row `i` of the rotated momentum. -/
def rotatedGroup (i : Fin 1536) (g : Fin 8) (c : Fin 128) : EReal :=
  rotated xl xr ql qr codes scales i ⟨128 * g.val + c.val, by have := g.isLt; have := c.isLt; omega⟩

/-- The new scale of row `i`, group `g`. -/
def newScale (i : Fin 1536) (g : Fin 8) : EReal := groupScale (rotatedGroup xl xr ql qr codes scales i g)

/-- The new code of row `i`, column `e`. -/
def newCode (i : Fin 1536) (e : Fin 1024) : EReal :=
  groupCode (rotatedGroup xl xr ql qr codes scales i ⟨e.val / 128, by have := e.isLt; omega⟩)
    ⟨e.val % 128, Nat.mod_lt _ (by omega)⟩

/-! ## Over the batch -/

/-- Matrix `b` of a stack of matrices. -/
def mat {n0 n1 n2 : ℕ} (a : (⟨3, ![n0, n1, n2]⟩ : Shape).Idx → EReal) (b : Fin n0) : Fin n1 → Fin n2 → EReal :=
  fun i k => a (ix3 b i k)

/-- An index with coordinates `b`, `i`, `k` reads entry `(i, k)` of matrix `b`. -/
theorem mat_of {n0 n1 n2 : ℕ} (a : (⟨3, ![n0, n1, n2]⟩ : Shape).Idx → EReal) (y : (⟨3, ![n0, n1, n2]⟩ : Shape).Idx)
    (b : Fin n0) (i : Fin n1) (k : Fin n2) (h0 : (y 0).val = b.val) (h1 : (y 1).val = i.val) (h2 : (y 2).val = k.val) :
    a y = mat a b i k :=
  congrArg a (funext fun x => match x with
    | ⟨0, _⟩ => Fin.ext h0
    | ⟨1, _⟩ => Fin.ext h1
    | ⟨2, _⟩ => Fin.ext h2)

/-- Every matrix of a stack, transposed. -/
def transposed {n0 n1 n2 : ℕ} (a : (⟨3, ![n0, n1, n2]⟩ : Shape).Idx → EReal) : (⟨3, ![n0, n2, n1]⟩ : Shape).Idx → EReal :=
  fun y => mat a (y 0) (y 2) (y 1)

theorem transposed_of {n0 n1 n2 : ℕ} (a : (⟨3, ![n0, n1, n2]⟩ : Shape).Idx → EReal) (y : (⟨3, ![n0, n2, n1]⟩ : Shape).Idx)
    (b : Fin n0) (i : Fin n2) (k : Fin n1) (h0 : (y 0).val = b.val) (h1 : (y 1).val = i.val) (h2 : (y 2).val = k.val) :
    mat a b k i = transposed a y := by
  obtain rfl : y 0 = b := Fin.ext h0
  obtain rfl : y 1 = i := Fin.ext h1
  obtain rfl : y 2 = k := Fin.ext h2
  rfl

variable (a0 : (⟨3, ![6, 1536, 1536]⟩ : Shape).Idx → EReal) (a1 : (⟨3, ![6, 1024, 1024]⟩ : Shape).Idx → EReal)
  (a2 : (⟨3, ![6, 1536, 1536]⟩ : Shape).Idx → EReal) (a3 : (⟨3, ![6, 1024, 1024]⟩ : Shape).Idx → EReal)
  (a4 : (⟨3, ![6, 1536, 1024]⟩ : Shape).Idx → EReal) (a5 : (⟨3, ![6, 1536, 8]⟩ : Shape).Idx → EReal)

/-- The new scales of the whole batch. -/
def allScales : (⟨3, ![6, 1536, 8]⟩ : Shape).Idx → EReal := fun y =>
  newScale (mat a0 (y 0)) (mat a1 (y 0)) (mat a2 (y 0)) (mat a3 (y 0)) (mat a4 (y 0)) (mat a5 (y 0)) (y 1) (y 2)

/-- The new codes of the whole batch. -/
def allCodes : (⟨3, ![6, 1536, 1024]⟩ : Shape).Idx → EReal := fun y =>
  newCode (mat a0 (y 0)) (mat a1 (y 0)) (mat a2 (y 0)) (mat a3 (y 0)) (mat a4 (y 0)) (mat a5 (y 0)) (y 1) (y 2)

theorem allScales_of (y : (⟨3, ![6, 1536, 8]⟩ : Shape).Idx) (b : Fin 6) (i : Fin 1536) (k : Fin 8)
    (h0 : (y 0).val = b.val) (h1 : (y 1).val = i.val) (h2 : (y 2).val = k.val) :
    newScale (mat a0 b) (mat a1 b) (mat a2 b) (mat a3 b) (mat a4 b) (mat a5 b) i k = allScales a0 a1 a2 a3 a4 a5 y := by
  obtain rfl : y 0 = b := Fin.ext h0
  obtain rfl : y 1 = i := Fin.ext h1
  obtain rfl : y 2 = k := Fin.ext h2
  rfl

theorem allCodes_of (y : (⟨3, ![6, 1536, 1024]⟩ : Shape).Idx) (b : Fin 6) (i : Fin 1536) (k : Fin 1024)
    (h0 : (y 0).val = b.val) (h1 : (y 1).val = i.val) (h2 : (y 2).val = k.val) :
    newCode (mat a0 b) (mat a1 b) (mat a2 b) (mat a3 b) (mat a4 b) (mat a5 b) i k = allCodes a0 a1 a2 a3 a4 a5 y := by
  obtain rfl : y 0 = b := Fin.ext h0
  obtain rfl : y 1 = i := Fin.ext h1
  obtain rfl : y 2 = k := Fin.ext h2
  rfl

end Cert.Spec
-- ==== Proof.KernelQuant.lean ====
module

public import proofs.«01_k».proof.Proof.Blocks
public import proofs.«01_k».proof.Proof.Spec
public import Idealize.ShloMosaic.Lib.Pointwise

/-! # The kernel's quantiser, element by element

At the ideal values, the scales and the codes stored for a group are those of the group's row. -/

@[expose] public section

set_option maxRecDepth 16384

noncomputable section

namespace Cert.RotateIdeal.Blocks

open Cert.RotateIdeal Cert.RotateIdeal.Gen Idealize.ShloMosaic Idealize.ShloMosaic.TcCoe

/-- What the table of exponent fields holds at `k`, where the power of two it encodes is at most `x`. -/
theorem field_term (x : EReal) (k : Fin 256) :
    (if Ideal.ofBits .f32 (IntOp.shli .vector (BitVec.ofNat 32 (0 * 256 + k.val)) 23#32) ≤ x then
      Scalar.select (IntOp.cmpi .slt (BitVec.ofNat 32 (0 * 256 + k.val)) 253#32) (BitVec.ofNat 32 (0 * 256 + k.val)) 255#32
      else 0#32) = Quant.fieldTerm x k.val := by
  have h : Scalar.select (IntOp.cmpi .slt (BitVec.ofNat 32 k.val) 253#32) (BitVec.ofNat 32 k.val) 255#32
      = if k.val < 253 then BitVec.ofNat 32 k.val else 255#32 := by
    revert k; decide
  rw [Nat.zero_mul, Nat.zero_add, h]
  rfl

/-- A field of zero or 255 is replaced by 126. -/
theorem settle_select (f : BitVec 32) :
    Scalar.select (IntOp.ori (IntOp.cmpi .eq f 0#32) (IntOp.cmpi .eq f 255#32)) 126#32 f = Quant.settle f := by
  unfold Quant.settle
  by_cases h0 : f = 0#32
  · subst h0; rfl
  · by_cases h1 : f = 255#32
    · subst h1; rfl
    · have e0 : IntOp.cmpi .eq f 0#32 = 0#1 := by
        show BitVec.ofBool (f == 0#32) = 0#1
        rw [beq_eq_false_iff_ne.2 h0]; rfl
      have e1 : IntOp.cmpi .eq f 255#32 = 0#1 := by
        show BitVec.ofBool (f == 255#32) = 0#1
        rw [beq_eq_false_iff_ne.2 h1]; rfl
      rw [e0, e1, if_neg (by tauto)]
      rfl

/-- The settled exponent field of each row's `x`. -/
theorem pay23_apply (x : FVec Ideal S256x1 .f32) (j : S256x1.Idx) :
    k0_pay23 x (iota .tc S1x256 32 [1] iota_S1x256_d1_w32) 23#32 j = Quant.biased (x (ix2 (j 0) 0)) := by
  unfold k0_pay23
  dsimp only
  simp only [pointwise]
  rw [settle_select]
  exact Quant.field_max _ _ _ (fun k _ => ⟨k.val, k.isLt, field_term _ k⟩)
    (fun k hk => ⟨⟨k, hk⟩, Finset.mem_univ _, field_term _ ⟨k, hk⟩⟩)

theorem groupMax_apply (mn : FVec Ideal S256x1024 .f32) (k : ℕ) (hk : k < 8) (j : S256x1.Idx) :
    groupMax mn k hk j = Spec.groupX fun c => mn (ix2 (j 0) ⟨128 * k + c.val, by have := c.isLt; omega⟩) := by
  unfold groupMax group Spec.groupX
  simp only [pointwise]
  refine congrArg (fun f => Finset.fold max (Ideal.ofBits FTy.f32 4286578688#32) f Finset.univ * Ideal.ofBits FTy.f32 991054117#32) ?_
  funext c
  have e : ∀ h h', (ix2 (⟨![0, 128 * k] 0 + (j 0).val, h⟩ : Fin 256) (⟨![0, 128 * k] 1 + c.val, h'⟩ : Fin 1024))
      = ix2 (j 0) ⟨128 * k + c.val, h'⟩ := fun h h' =>
    congrArg (fun a => ix2 a _) (Fin.ext (Nat.zero_add _))
  exact congrArg (fun y => max (mn y) (-(mn y))) (e _ _)

/-- What is stored as codes for a group `g` whose rows' rescaled largest magnitudes are `x`. -/
theorem pay25_apply (g : FVec Ideal S256x128 .f32) (x : FVec Ideal S256x1 .f32) (j : S1x256x128.Idx) :
    k0_pay25 g x (iota .tc S1x256 32 [1] iota_S1x256_d1_w32) 23#32 j =
    min (Ideal.ofBits .f32 0x43E00000#32) (max (Ideal.ofBits .f32 0xC3E00000#32) (g (ix2 (j 1) (j 2)) * Quant.invOf (x (ix2 (j 1) 0)))) := by
  unfold k0_pay25
  dsimp only
  simp only [pointwise]
  erw [pay23_apply]
  rw [← Quant.ofBits_inv]
  rfl

/-- What is stored as scales for a group whose rows' rescaled largest magnitudes are `x`. -/
theorem pay24_apply (x : FVec Ideal S256x1 .f32) (j : S1x256x1.Idx) :
    k0_pay26 (k0_pay24 x (iota .tc S1x256 32 [1] iota_S1x256_d1_w32) 23#32) j = Quant.scaleOf (x (ix2 (j 1) 0)) := by
  unfold k0_pay26 k0_pay24
  dsimp only
  simp only [pointwise]
  erw [pay23_apply]
  rw [← Quant.ofBits_scale]
  rfl

/-- The scales stored for group `k` of a panel. -/
theorem scalePiece_val (mn : FVec Ideal S256x1024 .f32) (k : ℕ) (hk : k < 8) (j : S1x256x1.Idx) :
    scalePiece mn k hk j = Spec.groupScale fun c => mn (ix2 (j 1) ⟨128 * k + c.val, by have := c.isLt; omega⟩) := by
  unfold scalePiece
  rw [pay24_apply, groupMax_apply]
  rfl

/-- The codes stored for group `k` of a panel. -/
theorem codesPiece_val (mn : FVec Ideal S256x1024 .f32) (k : ℕ) (hk : k < 8) (j : S1x256x128.Idx) :
    codesPiece mn k hk j
      = Spec.groupCode (fun c => mn (ix2 (j 1) ⟨128 * k + c.val, by have := c.isLt; omega⟩)) (j 2) := by
  unfold codesPiece
  rw [pay25_apply, groupMax_apply]
  have e : group mn k hk (ix2 (j 1) (j 2)) = mn (ix2 (j 1) ⟨128 * k + (j 2).val, by have h : (j 2).val < 128 := (j 2).isLt; omega⟩) := by
    unfold group
    refine extractStridedSlice_apply _ _ _ _ _ fun a => ?_
    match a with
    | ⟨0, _⟩ => exact (Nat.zero_add _).symm
    | ⟨1, _⟩ => rfl
  rw [e]
  rfl

end Cert.RotateIdeal.Blocks
-- ==== Proof.KernelRead.lean ====
module

public import proofs.«01_k».proof.Proof.KernelQuant
public import Idealize.ShloMosaic.Lib.Pipeline.ValueKit.Acc

/-! # What a grid point of the rotation kernel works on, element by element

At the ideal values: the dequantised momentum and the right rotation it keeps in its scratch buffers,
the rotated rows of a panel, and from them the four blocks it stores. -/

@[expose] public section

set_option maxRecDepth 16384

noncomputable section

namespace Cert.RotateIdeal.Blocks

open Cert.RotateIdeal Cert.RotateIdeal.Gen Idealize.ShloMosaic Idealize.ShloMosaic.TcCoe Idealize.ShloMosaic.Tactic

/-- The dequantised momentum of a batch item. -/
def momentBlock (x4 : Vec Ideal S1x1536x1024 .fp8e4m3) (x5 : Vec Ideal S1x1536x8 .f32) : Vec Ideal S1536x1024 .bf16 :=
  fun y => Spec.moment (fun j d => x4 (ix3 0 j d)) (fun j g => x5 (ix3 0 j g)) (y 0) (y 1)

/-- The right rotation of a batch item. -/
def rightBlock (x1 x3 : Vec Ideal S1x1024x1024 .bf16) : Vec Ideal S1024x1024 .bf16 :=
  fun y => Spec.right (fun e k => x1 (ix3 0 e k)) (fun k d => x3 (ix3 0 k d)) (y 0) (y 1)

section Pieces

theorem pay5_apply (a : Vec Ideal S1x1536x128 .fp8e4m3) (s : Vec Ideal S1x1536x1 .f32) (x : S1536x128.Idx) :
    k0_pay5 a s x = a (ix3 0 (x 0) (x 1)) * s (ix3 0 (x 0) 0) := by
  unfold k0_pay5
  simp only [pointwise]
  rfl

theorem pay4_apply (a : Vec Ideal S1x1024x1024 .bf16) (x : S1x1024x1024.Idx) :
    k0_pay4 a x = a (ix3 0 (x 2) (x 1)) := by
  unfold k0_pay4
  simp only [pointwise]

theorem pay3_apply (a : Vec Ideal S1x1536x1536 .bf16) (x : S1x1536x1536.Idx) :
    k0_pay3 a x = a (ix3 0 (x 2) (x 1)) := by
  unfold k0_pay3
  simp only [pointwise]

theorem pay19_apply (a b : Vec Ideal S1x1024x1024 .bf16) (x : S1024x1024.Idx) :
    k0_pay19 a b x = ∑ k : Fin 1024, a (ix3 0 k (x 0)) * b (ix3 0 k (x 1)) := by
  unfold k0_pay19
  simp only [pointwise]
  rw [zero_add]

theorem pay20_apply (a : Vec Ideal S1x256x1536 .bf16) (b : Vec Ideal S1x1536x1536 .bf16) (c : Vec Ideal S1536x1024 .bf16)
    (d : Vec Ideal S1024x1024 .bf16) (x : S256x1024.Idx) :
    k0_pay20 a b c d x = ∑ q : Fin 1024, (∑ j : Fin 1536, (∑ k : Fin 1536, a (ix3 0 (x 0) k) * b (ix3 0 k j)) * c (ix2 j q)) * d (ix2 q (x 1)) := by
  unfold k0_pay20
  simp only [pointwise]
  simp only [zero_add]

end Pieces

section Run

variable (c : Dev nD) (i : grid0.Coords)
  (arg1 : Memref sig .tc .vmem S1x1536x1536 .bf16) (harg1 : arg1.IsWhole)
  (arg2 : Memref sig .tc .vmem S1x1024x1024 .bf16) (harg2 : arg2.IsWhole)
  (arg3 : Memref sig .tc .vmem S1x1536x1536 .bf16) (harg3 : arg3.IsWhole)
  (arg4 : Memref sig .tc .vmem S1x1024x1024 .bf16) (harg4 : arg4.IsWhole)
  (arg5 : Memref sig .tc .vmem S1x1536x1024 .fp8e4m3) (harg5 : arg5.IsWhole)
  (arg6 : Memref sig .tc .vmem S1x1536x8 .f32) (harg6 : arg6.IsWhole)
  (arg7 : Memref sig .tc .vmem S1x1536x1536 .bf16) (harg7 : arg7.IsWhole)
  (arg8 : Memref sig .tc .vmem S1x1024x1024 .bf16) (harg8 : arg8.IsWhole)
  (arg9 : Memref sig .tc .vmem S1x1536x1024 .fp8e4m3) (harg9 : arg9.IsWhole)
  (arg10 : Memref sig .tc .vmem S1x1536x8 .f32) (harg10 : arg10.IsWhole)
  (arg11 : Memref sig .tc .vmem S1536x1024 .bf16) (harg11 : arg11.IsWhole)
  (arg12 : Memref sig .tc .vmem S1024x1024 .bf16) (harg12 : arg12.IsWhole)
  (x0 : Vec Ideal S1x1536x1536 .bf16) (x1 : Vec Ideal S1x1024x1024 .bf16) (x2 : Vec Ideal S1x1536x1536 .bf16)
  (x3 : Vec Ideal S1x1024x1024 .bf16) (x4 : Vec Ideal S1x1536x1024 .fp8e4m3) (x5 : Vec Ideal S1x1536x8 .f32)

/-- One of the eight pieces in which the dequantised momentum is written. -/
theorem momentPiece (o : ℕ) (ho : o % 128 = 0)
    (inb4 : ∀ a, (![0, 0, o] : Fin 3 → Nat) a + S1x1536x128.size a ≤ S1x1536x1024.size a)
    (inb5 : ∀ a, (![0, 0, o / 128] : Fin 3 → Nat) a + S1x1536x1.size a ≤ S1x1536x8.size a)
    (inb : ∀ a, (![0, o] : Fin 2 → Nat) a + S1536x128.size a ≤ S1536x1024.size a) (x : S1536x128.Idx) :
    k0_pay5 (View.readAt (Elt Ideal) arg5.view (Rect.unit (s := S1x1536x1024) ![0, 0, o] S1x1536x128.size inb4).toLoadRect (harg5.unread x4))
        (View.readAt (Elt Ideal) arg6.view (Rect.unit (s := S1x1536x8) ![0, 0, o / 128] S1x1536x1.size inb5).toLoadRect (harg6.unread x5)) x
      = momentBlock x4 x5 ((Rect.unit (s := S1536x1024) ![0, o] S1536x128.size inb).emb x) := by
  rw [View.readAt_eq_ld, View.readAt_eq_ld, harg5.read_unread, harg6.read_unread, pay5_apply]
  have h1 : (x 1).val < 128 := (x 1).isLt
  unfold momentBlock Spec.moment
  congr 1
  · refine congrArg x4 ?_
    funext a
    match a with
    | ⟨0, _⟩ => rfl
    | ⟨1, _⟩ => rfl
    | ⟨2, _⟩ => rfl
  · refine congrArg x5 ?_
    funext a
    match a with
    | ⟨0, _⟩ => rfl
    | ⟨1, _⟩ => rfl
    | ⟨2, _⟩ => apply Fin.ext; show o / 128 + 1 * 0 = (o + 1 * (x 1).val) / 128; omega

/-- The momentum scratch buffer holds the dequantised momentum. -/
theorem moment_eq : kernelRun0_A.sl.v115 c arg5 harg5 arg6 harg6 arg11 x4 x5 = momentBlock x4 x5 := by
  unfold kernelRun0_A.sl.v115
  have hcov := View.cover_of_tiledL (kernelRun0_A.sl.HS0_8 c arg5 harg5 arg6 harg6 x4 x5) S1536x128.size (by sl_kernel_rfl)
  refine (View.readCov_eq_canon_ld arg11.view _ (Rect.unit (s := S1536x1024) ![0, 0] S1536x1024.size _) hcov).trans ?_
  rw [View.ld_unit_lit' _ _ (by decide)]
  funext y
  refine View.canon_apply_of_pieces _ _ ?_ y (hcov y)
  repeat
    refine List.forall_mem_cons.2 ⟨fun x => Eq.trans ?_
      (momentPiece arg5 harg5 arg6 harg6 x4 x5 _ (by decide) (by decide) (by decide) (by decide) x), ?_⟩
    · rfl
  exact fun pc h => absurd h List.not_mem_nil

/-- The right scratch buffer holds the right rotation. -/
theorem right_eq : kernelRun0_A.sl.v118 c arg2 harg2 arg4 harg4 arg8 arg12 x1 x3 = rightBlock x1 x3 := by
  unfold kernelRun0_A.sl.v118
  refine (View.readCov_unit_lit' arg12.view _ _ (by decide)).trans ?_
  funext y
  refine (pay19_apply _ _ y).trans ?_
  unfold rightBlock Spec.right
  refine Finset.sum_congr rfl fun k _ => ?_
  congr 1
  · refine (congrFun (View.readAt_eq_ld arg4.view _ _) _).trans ?_
    rw [harg4.read_unread, View.ld_unit_lit' _ _ (by decide)]
  · refine (congrFun (View.readCov_unit_lit' arg8.view _ _ (by decide)) _).trans ?_
    refine (pay4_apply _ _).trans ?_
    refine (congrFun (View.readAt_eq_ld arg2.view _ _) _).trans ?_
    rw [harg2.read_unread, View.ld_unit_lit' _ _ (by decide)]
    rfl

/-- The rotated rows of a panel. -/
theorem panelRead_apply (r : ℕ) (hr : r + 256 ≤ 1536) (p : Fin 256) (e : Fin 1024) :
    panelRead c arg1 harg1 arg2 harg2 arg3 harg3 arg4 harg4 arg5 harg5 arg6 harg6 arg8 arg11 arg12 x0 x1 x2 x3 x4 x5 r hr (ix2 p e)
      = Spec.rotated (fun i k => x0 (ix3 0 i k)) (fun e k => x1 (ix3 0 e k)) (fun k j => x2 (ix3 0 k j)) (fun k d => x3 (ix3 0 k d))
          (fun j d => x4 (ix3 0 j d)) (fun j g => x5 (ix3 0 j g)) ⟨r + p.val, by have := p.isLt; omega⟩ e := by
  unfold panelRead
  rw [moment_eq, right_eq, View.readAt_eq_ld, View.readAt_eq_ld, harg1.read_unread, harg3.read_unread, View.ld_unit_lit' _ _ (by decide),
    pay20_apply]
  unfold Spec.rotated Spec.left
  refine Finset.sum_congr rfl fun q _ => ?_
  refine congrArg (· * _) ?_
  refine Finset.sum_congr rfl fun j _ => ?_
  refine congrArg (· * _) ?_
  refine Finset.sum_congr rfl fun k _ => ?_
  refine congrArg (· * _) ?_
  refine congrArg x0 ?_
  funext a
  match a with
  | ⟨0, _⟩ => rfl
  | ⟨1, _⟩ => apply Fin.ext; show r + 1 * p.val = r + p.val; omega
  | ⟨2, _⟩ => apply Fin.ext; show 0 + 1 * k.val = k.val; omega

/-- The scales a grid point stores. -/
theorem out_scale (y : S1x1536x8.Idx) :
    out0_A_9 c i arg1 harg1 arg2 harg2 arg3 harg3 arg4 harg4 arg5 harg5 arg6 harg6 arg7 harg7 arg8 harg8 arg9 harg9 arg10 harg10 arg11 harg11 arg12 harg12 x0 x1 x2 x3 x4 x5 y
      = Spec.newScale (fun i k => x0 (ix3 0 i k)) (fun e k => x1 (ix3 0 e k)) (fun k j => x2 (ix3 0 k j)) (fun k d => x3 (ix3 0 k d))
          (fun j d => x4 (ix3 0 j d)) (fun j g => x5 (ix3 0 j g)) (y 1) (y 2) := by
  have h1 : (y 1).val < 1536 := (y 1).isLt
  rw [scale_eq]
  unfold scaleBlock
  refine (scalePiece_val _ _ _ _).trans ?_
  unfold Spec.newScale Spec.rotatedGroup
  refine congrArg Spec.groupScale (funext fun d => ?_)
  refine (panelRead_apply c arg1 harg1 arg2 harg2 arg3 harg3 arg4 harg4 arg5 harg5 arg6 harg6 arg8 arg11 arg12 x0 x1 x2 x3 x4 x5 _ _ _ _).trans ?_
  refine congrArg (fun j => Spec.rotated _ _ _ _ _ _ j _) (Fin.ext ?_)
  show 256 * ((y 1).val / 256) + (y 1).val % 256 = (y 1).val
  omega

/-- The codes a grid point stores. -/
theorem out_codes (y : S1x1536x1024.Idx) :
    out0_A_8 c i arg1 harg1 arg2 harg2 arg3 harg3 arg4 harg4 arg5 harg5 arg6 harg6 arg7 harg7 arg8 harg8 arg9 harg9 arg10 harg10 arg11 harg11 arg12 harg12 x0 x1 x2 x3 x4 x5 y
      = Spec.newCode (fun i k => x0 (ix3 0 i k)) (fun e k => x1 (ix3 0 e k)) (fun k j => x2 (ix3 0 k j)) (fun k d => x3 (ix3 0 k d))
          (fun j d => x4 (ix3 0 j d)) (fun j g => x5 (ix3 0 j g)) (y 1) (y 2) := by
  have h1 : (y 1).val < 1536 := (y 1).isLt
  rw [codes_eq]
  unfold codesBlock
  refine (codesPiece_val _ _ _ _).trans ?_
  unfold Spec.newCode Spec.rotatedGroup
  refine congrArg (fun f => Spec.groupCode f _) (funext fun d => ?_)
  refine (panelRead_apply c arg1 harg1 arg2 harg2 arg3 harg3 arg4 harg4 arg5 harg5 arg6 harg6 arg8 arg11 arg12 x0 x1 x2 x3 x4 x5 _ _ _ _).trans ?_
  refine congrArg (fun j => Spec.rotated _ _ _ _ _ _ j _) (Fin.ext ?_)
  show 256 * ((y 1).val / 256) + (y 1).val % 256 = (y 1).val
  omega

/-- The new left basis a grid point stores: its first factor, transposed. -/
theorem out_left (y : S1x1536x1536.Idx) :
    out0_A_6 c i arg1 harg1 arg2 harg2 arg3 harg3 arg4 harg4 arg5 harg5 arg6 harg6 arg7 harg7 arg8 harg8 arg9 harg9 arg10 harg10 arg11 harg11 arg12 harg12 x0 x1 x2 x3 x4 x5 y
      = x0 (ix3 0 (y 2) (y 1)) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 x0 x1 x2 x3 x4 x5)]
  refine (congrFun (View.canon_cons_unit_lit' _ _ _ (by decide)) y).trans ?_
  refine (pay3_apply _ _).trans ?_
  refine (congrFun (View.readAt_eq_ld arg1.view _ _) _).trans ?_
  rw [harg1.read_unread, View.ld_unit_lit' _ _ (by decide)]

/-- The new right basis a grid point stores: its second factor, transposed. -/
theorem out_right (y : S1x1024x1024.Idx) :
    out0_A_7 c i arg1 harg1 arg2 harg2 arg3 harg3 arg4 harg4 arg5 harg5 arg6 harg6 arg7 harg7 arg8 harg8 arg9 harg9 arg10 harg10 arg11 harg11 arg12 harg12 x0 x1 x2 x3 x4 x5 y
      = x1 (ix3 0 (y 2) (y 1)) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 x0 x1 x2 x3 x4 x5)]
  refine (congrFun (View.canon_cons_unit_lit' _ _ _ (by decide)) y).trans ?_
  refine (pay4_apply _ _).trans ?_
  refine (congrFun (View.readAt_eq_ld arg2.view _ _) _).trans ?_
  rw [harg2.read_unread, View.ld_unit_lit' _ _ (by decide)]

end Run

end Cert.RotateIdeal.Blocks
-- ==== Proof.KernelValue.lean ====
module

public import proofs.«01_k».proof.Proof.KernelRead

/-! # What the rotation kernel leaves in its result arrays

At the ideal values: the two new bases, transposed back, and the codes and scales of the rotated
momentum, each as one function of the arguments. -/

@[expose] public section

set_option maxRecDepth 16384

noncomputable section

namespace Cert.RotateIdeal.Arrays

open Cert.RotateIdeal Cert.RotateIdeal.Gen Cert.RotateIdeal.Value Cert.RotateIdeal.Blocks Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The batch item of a grid point. -/
def item (t : Fin cfg0.N) : Fin 6 := t.cast N_0

/-- Every window is at the point's batch item, on the whole matrix. -/
theorem at_item (t : Fin cfg0.N) :
    cc0_transform_0 (grid0.coords t) 0 = t.val ∧ cc0_transform_0 (grid0.coords t) 1 = 0 ∧ cc0_transform_0 (grid0.coords t) 2 = 0 := by
  rcases fin_N0 t with rfl | rfl | rfl | rfl | rfl | rfl <;> decide

/-- A block's coordinate on the batch axis is the batch item. -/
theorem item_coord (t : Fin cfg0.N) (x : Fin 1) : cc0_transform_0 (grid0.coords t) 0 * 1 + 1 * x.val = t.val := by
  rw [(at_item t).1]; have := x.isLt; omega

/-- A block's coordinates on the matrix axes are the matrix's. -/
theorem row_coord (t : Fin cfg0.N) (n i : ℕ) : cc0_transform_0 (grid0.coords t) 1 * n + 1 * i = i := by
  rw [(at_item t).2.1]; omega

theorem col_coord (t : Fin cfg0.N) (n i : ℕ) : cc0_transform_0 (grid0.coords t) 2 * n + 1 * i = i := by
  rw [(at_item t).2.2]; omega

/-- An index of a result is in the block of its batch item. -/
theorem cover_coord (t : Fin cfg0.N) (n1 n2 b i k : ℕ) (hb : b = t.val) (hi : i < n1) (hk : k < n2) :
    (cc0_transform_0 (grid0.coords t) 0 * 1 ≤ b ∧ b < cc0_transform_0 (grid0.coords t) 0 * 1 + 1)
    ∧ (cc0_transform_0 (grid0.coords t) 1 * n1 ≤ i ∧ i < cc0_transform_0 (grid0.coords t) 1 * n1 + n1)
    ∧ (cc0_transform_0 (grid0.coords t) 2 * n2 ≤ k ∧ k < cc0_transform_0 (grid0.coords t) 2 * n2 + n2) := by
  rw [(at_item t).1, (at_item t).2.1, (at_item t).2.2]
  omega

/-- Input block 0 at a point is the batch item's matrix. -/
theorem block0 (c : Dev nD) (t : Fin cfg0.N) :
    (fun (i : Fin 1536) (k : Fin 1536) => (iblk m c 0 t : S1x1536x1536.Idx → EReal) (ix3 0 i k)) = Spec.mat (m ((c : Thread nD τ).loc main_arg0)) (item t) :=
  funext fun i => funext fun k =>
    Spec.mat_of (m ((c : Thread nD τ).loc main_arg0)) (((cfg0.win 0).blk t).view.emb (ix3 (n0 := 1) 0 i k)) (item t) i k
      (item_coord t 0) (row_coord t _ _) (col_coord t _ _)

/-- Input block 1 at a point is the batch item's matrix. -/
theorem block1 (c : Dev nD) (t : Fin cfg0.N) :
    (fun (i : Fin 1024) (k : Fin 1024) => (iblk m c 1 t : S1x1024x1024.Idx → EReal) (ix3 0 i k)) = Spec.mat (m ((c : Thread nD τ).loc main_arg1)) (item t) :=
  funext fun i => funext fun k =>
    Spec.mat_of (m ((c : Thread nD τ).loc main_arg1)) (((cfg0.win 1).blk t).view.emb (ix3 (n0 := 1) 0 i k)) (item t) i k
      (item_coord t 0) (row_coord t _ _) (col_coord t _ _)

/-- Input block 2 at a point is the batch item's matrix. -/
theorem block2 (c : Dev nD) (t : Fin cfg0.N) :
    (fun (i : Fin 1536) (k : Fin 1536) => (iblk m c 2 t : S1x1536x1536.Idx → EReal) (ix3 0 i k)) = Spec.mat (m ((c : Thread nD τ).loc main_arg2)) (item t) :=
  funext fun i => funext fun k =>
    Spec.mat_of (m ((c : Thread nD τ).loc main_arg2)) (((cfg0.win 2).blk t).view.emb (ix3 (n0 := 1) 0 i k)) (item t) i k
      (item_coord t 0) (row_coord t _ _) (col_coord t _ _)

/-- Input block 3 at a point is the batch item's matrix. -/
theorem block3 (c : Dev nD) (t : Fin cfg0.N) :
    (fun (i : Fin 1024) (k : Fin 1024) => (iblk m c 3 t : S1x1024x1024.Idx → EReal) (ix3 0 i k)) = Spec.mat (m ((c : Thread nD τ).loc main_arg3)) (item t) :=
  funext fun i => funext fun k =>
    Spec.mat_of (m ((c : Thread nD τ).loc main_arg3)) (((cfg0.win 3).blk t).view.emb (ix3 (n0 := 1) 0 i k)) (item t) i k
      (item_coord t 0) (row_coord t _ _) (col_coord t _ _)

/-- Input block 4 at a point is the batch item's matrix. -/
theorem block4 (c : Dev nD) (t : Fin cfg0.N) :
    (fun (i : Fin 1536) (k : Fin 1024) => (iblk m c 4 t : S1x1536x1024.Idx → EReal) (ix3 0 i k)) = Spec.mat (m ((c : Thread nD τ).loc main_arg4)) (item t) :=
  funext fun i => funext fun k =>
    Spec.mat_of (m ((c : Thread nD τ).loc main_arg4)) (((cfg0.win 4).blk t).view.emb (ix3 (n0 := 1) 0 i k)) (item t) i k
      (item_coord t 0) (row_coord t _ _) (col_coord t _ _)

/-- Input block 5 at a point is the batch item's matrix. -/
theorem block5 (c : Dev nD) (t : Fin cfg0.N) :
    (fun (i : Fin 1536) (k : Fin 8) => (iblk m c 5 t : S1x1536x8.Idx → EReal) (ix3 0 i k)) = Spec.mat (m ((c : Thread nD τ).loc main_arg5)) (item t) :=
  funext fun i => funext fun k =>
    Spec.mat_of (m ((c : Thread nD τ).loc main_arg5)) (((cfg0.win 5).blk t).view.emb (ix3 (n0 := 1) 0 i k)) (item t) i k
      (item_coord t 0) (row_coord t _ _) (col_coord t _ _)

/-- Result 0 of device `c`: the new left basis, transposed back. -/
abbrev left (c : Dev nD) : Buf (Elt Ideal) ((c : Thread nD τ).loc main_v0_0) :=
  Spec.transposed (m ((c : Thread nD τ).loc main_arg0))

/-- What a point writes back to result 0 is its block of it. -/
theorem flushed_left (c : Dev nD) (t : Fin cfg0.N) :
    (dats m 0 c).flushed 6 t = ((cfg0.win 6).blk t).view.read (Elt Ideal) (left m c) := by
  rw [flushed6_A]
  funext y
  refine (out_left ..).trans ?_
  refine (congrFun (congrFun (block0 m c t) _) _).trans ?_
  exact Spec.transposed_of (m ((c : Thread nD τ).loc main_arg0)) (((cfg0.win 6).blk t).view.emb y) (item t) _ _
    (item_coord t (y 0)) (row_coord t _ _) (col_coord t _ _)

/-- The points' blocks cover result 0. -/
theorem cover_left (i : S6x1536x1536.Idx) : ∃ t : Fin cfg0.N, (cfg0.win 6).flush t = true ∧ i ∈ ((cfg0.win 6).blk t).view.set := by
  refine ⟨(i 0).cast N_0.symm, flush0_6 _, ?_⟩
  show i ∈ ((View.whole main_v0_0).slice (win0_6.rect ((i 0).cast N_0.symm))).set
  rw [View.set_slice_whole, Rect.mem_set_unit]
  have h := cover_coord ((i 0).cast N_0.symm) 1536 1536 (i 0).val (i 1).val (i 2).val rfl (i 1).isLt (i 2).isLt
  intro a
  match a with
  | ⟨0, _⟩ => exact h.1
  | ⟨1, _⟩ => exact h.2.1
  | ⟨2, _⟩ => exact h.2.2

/-- After the run result 0 is the new left basis, transposed back. -/
theorem final_left (c : Dev nD) : (dats m 0 c).arrAt 6 cfg0.N = left m c :=
  (dats m 0 c).arrAt_eq_of_cover 6 (left m c) (fun t _ => flushed_left m c t) cover_left

/-- Result 1 of device `c`: the new right basis, transposed back. -/
abbrev right (c : Dev nD) : Buf (Elt Ideal) ((c : Thread nD τ).loc main_v0_1) :=
  Spec.transposed (m ((c : Thread nD τ).loc main_arg1))

/-- What a point writes back to result 1 is its block of it. -/
theorem flushed_right (c : Dev nD) (t : Fin cfg0.N) :
    (dats m 0 c).flushed 7 t = ((cfg0.win 7).blk t).view.read (Elt Ideal) (right m c) := by
  rw [flushed7_A]
  funext y
  refine (out_right ..).trans ?_
  refine (congrFun (congrFun (block1 m c t) _) _).trans ?_
  exact Spec.transposed_of (m ((c : Thread nD τ).loc main_arg1)) (((cfg0.win 7).blk t).view.emb y) (item t) _ _
    (item_coord t (y 0)) (row_coord t _ _) (col_coord t _ _)

/-- The points' blocks cover result 1. -/
theorem cover_right (i : S6x1024x1024.Idx) : ∃ t : Fin cfg0.N, (cfg0.win 7).flush t = true ∧ i ∈ ((cfg0.win 7).blk t).view.set := by
  refine ⟨(i 0).cast N_0.symm, flush0_7 _, ?_⟩
  show i ∈ ((View.whole main_v0_1).slice (win0_7.rect ((i 0).cast N_0.symm))).set
  rw [View.set_slice_whole, Rect.mem_set_unit]
  have h := cover_coord ((i 0).cast N_0.symm) 1024 1024 (i 0).val (i 1).val (i 2).val rfl (i 1).isLt (i 2).isLt
  intro a
  match a with
  | ⟨0, _⟩ => exact h.1
  | ⟨1, _⟩ => exact h.2.1
  | ⟨2, _⟩ => exact h.2.2

/-- After the run result 1 is the new right basis, transposed back. -/
theorem final_right (c : Dev nD) : (dats m 0 c).arrAt 7 cfg0.N = right m c :=
  (dats m 0 c).arrAt_eq_of_cover 7 (right m c) (fun t _ => flushed_right m c t) cover_right

/-- Result 2 of device `c`: the new codes. -/
abbrev codes (c : Dev nD) : Buf (Elt Ideal) ((c : Thread nD τ).loc main_v0_2) :=
  Spec.allCodes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What a point writes back to result 2 is its block of it. -/
theorem flushed_codes (c : Dev nD) (t : Fin cfg0.N) :
    (dats m 0 c).flushed 8 t = ((cfg0.win 8).blk t).view.read (Elt Ideal) (codes m c) := by
  rw [flushed8_A]
  funext y
  refine (out_codes ..).trans ?_
  rw [block0 m c t, block1 m c t, block2 m c t, block3 m c t, block4 m c t, block5 m c t]
  exact Spec.allCodes_of (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 8).blk t).view.emb y) (item t) _ _
    (item_coord t (y 0)) (row_coord t _ _) (col_coord t _ _)

/-- The points' blocks cover result 2. -/
theorem cover_codes (i : S6x1536x1024.Idx) : ∃ t : Fin cfg0.N, (cfg0.win 8).flush t = true ∧ i ∈ ((cfg0.win 8).blk t).view.set := by
  refine ⟨(i 0).cast N_0.symm, flush0_8 _, ?_⟩
  show i ∈ ((View.whole main_v0_2).slice (win0_8.rect ((i 0).cast N_0.symm))).set
  rw [View.set_slice_whole, Rect.mem_set_unit]
  have h := cover_coord ((i 0).cast N_0.symm) 1536 1024 (i 0).val (i 1).val (i 2).val rfl (i 1).isLt (i 2).isLt
  intro a
  match a with
  | ⟨0, _⟩ => exact h.1
  | ⟨1, _⟩ => exact h.2.1
  | ⟨2, _⟩ => exact h.2.2

/-- After the run result 2 is the new codes. -/
theorem final_codes (c : Dev nD) : (dats m 0 c).arrAt 8 cfg0.N = codes m c :=
  (dats m 0 c).arrAt_eq_of_cover 8 (codes m c) (fun t _ => flushed_codes m c t) cover_codes

/-- Result 3 of device `c`: the new scales. -/
abbrev scales (c : Dev nD) : Buf (Elt Ideal) ((c : Thread nD τ).loc main_v0_3) :=
  Spec.allScales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What a point writes back to result 3 is its block of it. -/
theorem flushed_scales (c : Dev nD) (t : Fin cfg0.N) :
    (dats m 0 c).flushed 9 t = ((cfg0.win 9).blk t).view.read (Elt Ideal) (scales m c) := by
  rw [flushed9_A]
  funext y
  refine (out_scale ..).trans ?_
  rw [block0 m c t, block1 m c t, block2 m c t, block3 m c t, block4 m c t, block5 m c t]
  exact Spec.allScales_of (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 9).blk t).view.emb y) (item t) _ _
    (item_coord t (y 0)) (row_coord t _ _) (col_coord t _ _)

/-- The points' blocks cover result 3. -/
theorem cover_scales (i : S6x1536x8.Idx) : ∃ t : Fin cfg0.N, (cfg0.win 9).flush t = true ∧ i ∈ ((cfg0.win 9).blk t).view.set := by
  refine ⟨(i 0).cast N_0.symm, flush0_9 _, ?_⟩
  show i ∈ ((View.whole main_v0_3).slice (win0_9.rect ((i 0).cast N_0.symm))).set
  rw [View.set_slice_whole, Rect.mem_set_unit]
  have h := cover_coord ((i 0).cast N_0.symm) 1536 8 (i 0).val (i 1).val (i 2).val rfl (i 1).isLt (i 2).isLt
  intro a
  match a with
  | ⟨0, _⟩ => exact h.1
  | ⟨1, _⟩ => exact h.2.1
  | ⟨2, _⟩ => exact h.2.2

/-- After the run result 3 is the new scales. -/
theorem final_scales (c : Dev nD) : (dats m 0 c).arrAt 9 cfg0.N = scales m c :=
  (dats m 0 c).arrAt_eq_of_cover 9 (scales m c) (fun t _ => flushed_scales m c t) cover_scales

/-- The run: every result as a function of the arguments, the arguments unchanged. -/
theorem run : θ_run defs (onTc (τ := τ) (main (F := Ideal))) ⟨m, fun _ => 0, ρ⟩ fun r => ∀ c : Dev nD,
      r.2.mem ((c : Thread nD τ).loc main_v0_0) = left m c
      ∧ r.2.mem ((c : Thread nD τ).loc main_v0_1) = right m c
      ∧ r.2.mem ((c : Thread nD τ).loc main_v0_2) = codes m c
      ∧ r.2.mem ((c : Thread nD τ).loc main_v0_3) = scales m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final_left m c), (h c).2.1.trans (final_right m c),
      (h c).2.2.1.trans (final_codes m c), (h c).2.2.2.1.trans (final_scales m c), (h c).2.2.2.2⟩)
    (run_blocks m ρ)

end Cert.RotateIdeal.Arrays
-- ==== Proof.RefQuant.lean ====
module

public import proofs.«01_k».proof.Proof.Spec
public import proofs.«01_k».proof.Proof.Gen.RotateRefIdeal.Value
public import Idealize.ShloMosaic.Lib.Pointwise

/-! # The quantiser of the reference, element by element

At the ideal values: the groups' largest magnitudes, their exponents, and the codes. -/

@[expose] public section

set_option maxRecDepth 16384

noncomputable section

namespace Cert.RotateRefIdeal.Read

open Cert.RotateRefIdeal Cert.RotateRefIdeal.Gen Idealize.ShloMosaic Idealize.ShloMosaic.TcCoe Idealize.SL.Sem

variable (a0 : Vec Ideal S6x1536x1536 .bf16) (a1 : Vec Ideal S6x1024x1024 .bf16) (a2 : Vec Ideal S6x1536x1536 .bf16)
  (a3 : Vec Ideal S6x1024x1024 .bf16) (a4 : Vec Ideal S6x1536x1024 .fp8e4m3) (a5 : Vec Ideal S6x1536x8 .f32)

/-- The smallest normal float32. -/
theorem ofBits_normal : Ideal.ofBits .f32 0x00800000#32 = ((2 : ℝ) ^ (-126 : ℤ) : ℝ) :=
  Quant.ofBits_pow 1 (by omega) (by omega)

theorem ofBits_126 : Ideal.ofBits .f32 0x7E800000#32 = ((2 : ℝ) ^ (126 : ℤ) : ℝ) :=
  Quant.ofBits_pow 253 (by omega) (by omega)

theorem ofBits_top : Ideal.ofBits .f32 0x7F800000#32 = ⊤ := Quant.ofBits_pow_top

theorem lit_125 : Ideal.ofBits .f32 0x42FA0000#32 = ((125 : ℝ) : EReal) := by
  simp [Ideal.ofBits, Ideal.ieee]
  rw [← EReal.coe_mul]
  norm_num

theorem lit_126 : Ideal.ofBits .f32 0x42FC0000#32 = ((126 : ℝ) : EReal) := by
  simp [Ideal.ofBits, Ideal.ieee]
  rw [← EReal.coe_mul]
  norm_num

/-- The largest magnitude of a group. -/
theorem amax_apply (v : FVec Ideal S6x1536x8x128 .f32) (y : S6x1536x8.Idx) :
    multiReduction .maximumf [3] S6x1536x8 (absf v) 0xFF800000#32 reduces_S6x1536x8x128_S6x1536x8 (.inl rfl) rfl y
      = (Finset.univ : Finset (Fin 128)).fold max (Ideal.ofBits .f32 0xFF800000#32)
          fun c => max (v (ix4 (y 0) (y 1) (y 2) c)) (-(v (ix4 (y 0) (y 1) (y 2) c))) := by
  simp only [pointwise]
  rfl

/-- The rescaled largest magnitudes of the groups. -/
def groupMaxes (v : FVec Ideal S6x1536x8x128 .f32) : FVec Ideal S6x1536x8 .f32 :=
  mulf (multiReduction .maximumf [3] S6x1536x8 (absf v) 0xFF800000#32 reduces_S6x1536x8x128_S6x1536x8 (.inl rfl) rfl)
    (broadcast S6x1536x8 (Scalar.ofBits .f32 0x3B124925#32))

theorem mul_apply (w : FVec Ideal S6x1536x8 .f32) (c : EReal) (y : S6x1536x8.Idx) : mulf w (broadcast S6x1536x8 c) y = w y * c := rfl

theorem groupMaxes_apply (v : FVec Ideal S6x1536x8x128 .f32) (y : S6x1536x8.Idx) :
    groupMaxes v y = Spec.groupX fun c => v (ix4 (y 0) (y 1) (y 2) c) := by
  unfold groupMaxes
  refine (mul_apply _ _ y).trans ?_
  rw [amax_apply]
  rfl

/-- What lies below the normals, read as zero. -/
def flushed (w : FVec Ideal S6x1536x8 .f32) : FVec Ideal S6x1536x8 .f32 :=
  select (cmpf .olt w (broadcast S6x1536x8 (Scalar.ofBits .f32 0x00800000#32))) (broadcast S6x1536x8 (Scalar.ofBits .f32 0x00000000#32)) w

theorem flushed_apply (w : FVec Ideal S6x1536x8 .f32) (y : S6x1536x8.Idx) : flushed w y = Quant.flush (w y) := by
  unfold flushed
  simp only [pointwise]
  rw [ofBits_normal]
  rfl

theorem pay4_eq : k0_pay4 a2 a3 a0 a1 a4 a5 = flushed (groupMaxes (k0_pay3 a2 a3 a0 a1 a4 a5)) := rfl

/-- The rescaled largest magnitude of a group, with what lies below the normals read as zero. -/
theorem pay4_apply (y : S6x1536x8.Idx) :
    k0_pay4 a2 a3 a0 a1 a4 a5 y = Quant.flush (Spec.groupX fun c => k0_pay3 a2 a3 a0 a1 a4 a5 (ix4 (y 0) (y 1) (y 2) c)) := by
  rw [pay4_eq]
  generalize k0_pay3 a2 a3 a0 a1 a4 a5 = v
  rw [flushed_apply, groupMaxes_apply]

/-- The candidate exponent `k - 125`. -/
theorem candidate (k : Fin 252) : (FloatOps.sitofp (F := Ideal) FTy.f32 (BitVec.ofNat 32 (0 * 252 + k.val)) : EReal)
    - Ideal.ofBits FTy.f32 0x42FA0000#32 = (((k.val : ℝ) - 125 : ℝ) : EReal) := by
  rw [lit_125, Nat.zero_mul, Nat.zero_add]
  show (((BitVec.ofNat 32 k.val).toInt : ℝ) : EReal) - _ = _
  rw [Quant.toInt_small k.val (by have := k.isLt; omega), EReal.coe_sub]
  rfl

/-- What the candidate `k - 125` contributes. -/
theorem exp_term (x : EReal) (k : Fin 252) :
    (if x < Ideal.exp2 ((FloatOps.sitofp (F := Ideal) FTy.f32 (BitVec.ofNat 32 (0 * 252 + k.val)) : EReal)
        - Ideal.ofBits FTy.f32 0x42FA0000#32) then
      (FloatOps.sitofp (F := Ideal) FTy.f32 (BitVec.ofNat 32 (0 * 252 + k.val)) : EReal) - Ideal.ofBits FTy.f32 0x42FA0000#32
      else Ideal.ofBits FTy.f32 0x42FC0000#32) = Quant.expTerm x k.val := by
  rw [candidate, lit_126, Ideal.exp2_coe]
  unfold Quant.expTerm
  have e : (2 : ℝ) ^ ((k.val : ℝ) - 125) = (2 : ℝ) ^ ((k.val : ℤ) - 125) := by
    rw [← Real.rpow_intCast]
    push_cast
    rfl
  rw [show Real.rpow 2 ((k.val : ℝ) - 125) = (2 : ℝ) ^ ((k.val : ℤ) - 125) from e]

/-- Selecting on either of two comparisons is a case distinction on them. -/
theorem select_or (p q : Prop) [Decidable p] [Decidable q] (a b : EReal) :
    Scalar.select (IntOp.ori (BitVec.ofBool (decide p)) (BitVec.ofBool (decide q))) a b = if p ∨ q then a else b := by
  by_cases hp : p <;> by_cases hq : q <;> simp only [hp, hq] <;> rfl

/-- The exponent of a group whose flushed, rescaled largest magnitude is `x y`. -/
theorem pay6_apply (x : FVec Ideal S6x1536x8 .f32) (y : S6x1536x8.Idx) (z : EReal) (hz : x y = Quant.flush z) :
    k0_pay6 x k0_pay5 (Scalar.ofBits .f32 0x42FA0000#32) y = ((Quant.blockExp z : ℝ) : EReal) := by
  unfold k0_pay6 k0_pay5
  simp only [pointwise]
  rw [select_or, ofBits_126, ofBits_top, hz]
  have e : x (ix3 (y 0) (y 1) (y 2)) = Quant.flush z := hz ▸ congrArg x (funext fun a => match a with
    | ⟨0, _⟩ => rfl
    | ⟨1, _⟩ => rfl
    | ⟨2, _⟩ => rfl)
  have t (k : Fin 252) := (exp_term (x (ix3 (y 0) (y 1) (y 2))) k).trans (congrArg (fun w => Quant.expTerm w k.val) e)
  exact Quant.exp_min _ _ _ (fun k _ => ⟨k.val, k.isLt, t k⟩) (fun k hk => ⟨⟨k, hk⟩, Finset.mem_univ _, t ⟨k, hk⟩⟩)

/-- The codes of a group whose flushed, rescaled largest magnitude is `x`. -/
theorem pay8_apply (v : FVec Ideal S6x1536x8x128 .f32) (x : FVec Ideal S6x1536x8 .f32) (y : S6x1536x1024.Idx) (z : EReal)
    (hz : x (ix3 (y 0) (y 1) ⟨(y 2).val / 128, by have h : (y 2).val < 1024 := (y 2).isLt; omega⟩) = Quant.flush z) :
    k0_pay8 v x k0_pay5 (Scalar.ofBits .f32 0x42FA0000#32) y
      = min (Ideal.ofBits .f32 0x43E00000#32) (max (Ideal.ofBits .f32 0xC3E00000#32)
          (v (ix4 (y 0) (y 1) ⟨(y 2).val / 128, by have h : (y 2).val < 1024 := (y 2).isLt; omega⟩ ⟨(y 2).val % 128, Nat.mod_lt _ (by omega)⟩)
            * Quant.invOf z)) := by
  have e := pay6_apply x _ z hz
  unfold k0_pay8
  generalize k0_pay6 x k0_pay5 (Scalar.ofBits .f32 0x42FA0000#32) = w at e
  simp only [pointwise]
  rw [← Quant.exp2_inv, ← e]
  rfl

end Cert.RotateRefIdeal.Read
-- ==== Proof.RefRead.lean ====
module

public import proofs.«01_k».proof.Proof.RefQuant
public import proofs.«01_k».proof.Proof.Gen.RotateRefIdeal.Value
public import Idealize.ShloMosaic.Lib.Pointwise

/-! # The reference, element by element

At the ideal values: the rotated momentum and the four results. -/

@[expose] public section

set_option maxRecDepth 16384

noncomputable section

namespace Cert.RotateRefIdeal.Read

open Cert.RotateRefIdeal Cert.RotateRefIdeal.Gen Idealize.ShloMosaic Idealize.ShloMosaic.TcCoe Idealize.SL.Sem

variable (a0 : Vec Ideal S6x1536x1536 .bf16) (a1 : Vec Ideal S6x1024x1024 .bf16) (a2 : Vec Ideal S6x1536x1536 .bf16)
  (a3 : Vec Ideal S6x1024x1024 .bf16) (a4 : Vec Ideal S6x1536x1024 .fp8e4m3) (a5 : Vec Ideal S6x1536x8 .f32)

/-- The first result: the new left bases, transposed back. -/
theorem pay1_eq : k0_pay1 a0 = Spec.transposed a0 := by
  funext y
  unfold k0_pay1
  simp only [pointwise]
  rfl

/-- The second result: the new right bases, transposed back. -/
theorem pay2_eq : k0_pay2 a1 = Spec.transposed a1 := by
  funext y
  unfold k0_pay2
  simp only [pointwise]
  rfl

/-- The rotated momentum, in groups of 128. -/
theorem pay3_apply (y : S6x1536x8x128.Idx) :
    k0_pay3 a2 a3 a0 a1 a4 a5 y = Spec.rotatedGroup (Spec.mat a0 (y 0)) (Spec.mat a1 (y 0)) (Spec.mat a2 (y 0)) (Spec.mat a3 (y 0))
      (Spec.mat a4 (y 0)) (Spec.mat a5 (y 0)) (y 1) (y 2) (y 3) := by
  unfold k0_pay3 k0_pay1 k0_pay2
  simp only [pointwise]
  simp only [zero_add]
  unfold Spec.rotatedGroup Spec.rotated Spec.right
  have e : ∀ h h', (⟨(y 2).val * 128 + (y 3).val, h⟩ : Fin 1024) = ⟨128 * (y 2).val + (y 3).val, h'⟩ :=
    fun h h' => Fin.ext (by show (y 2).val * 128 + (y 3).val = 128 * (y 2).val + (y 3).val; omega)
  refine Finset.sum_congr rfl fun x _ => ?_
  refine congrArg₂ (· * ·) rfl ?_
  refine Finset.sum_congr rfl fun k _ => ?_
  exact congrArg₂ (· * ·) rfl (congrArg (fun q => a1 (ix3 (y 0) q k)) (e _ _))

/-! ## The results -/

theorem pay9_eq : k0_pay9 a0 a1 a2 a3 a4 a5 = k0_pay4 a2 a3 a0 a1 a4 a5 := by
  unfold k0_pay9
  rw [View.ld_unit_zero (S := S6x1536x1536) Value.hz2 _ a2, View.ld_unit_zero (S := S6x1024x1024) Value.hz3 _ a3,
    View.ld_unit_zero (S := S6x1536x1536) Value.hz0 _ a0, View.ld_unit_zero (S := S6x1024x1024) Value.hz1 _ a1,
    View.ld_unit_zero (S := S6x1536x1024) Value.hz4 _ a4, View.ld_unit_zero (S := S6x1536x8) Value.hz5 _ a5]

/-- What a group's exponent is taken of. -/
theorem pay4_val (y : S6x1536x8.Idx) :
    k0_pay4 a2 a3 a0 a1 a4 a5 y = Quant.flush (Spec.groupX (Spec.rotatedGroup (Spec.mat a0 (y 0)) (Spec.mat a1 (y 0))
      (Spec.mat a2 (y 0)) (Spec.mat a3 (y 0)) (Spec.mat a4 (y 0)) (Spec.mat a5 (y 0)) (y 1) (y 2))) := by
  refine (pay4_apply a0 a1 a2 a3 a4 a5 y).trans ?_
  refine congrArg (fun f => Quant.flush (Spec.groupX f)) ?_
  funext c
  exact pay3_apply a0 a1 a2 a3 a4 a5 (ix4 (y 0) (y 1) (y 2) c)

theorem pay7_apply (x : FVec Ideal S6x1536x8 .f32) (y : S6x1536x8.Idx) :
    k0_pay7 x k0_pay5 (Scalar.ofBits .f32 0x42FA0000#32) y = Ideal.exp2 (k0_pay6 x k0_pay5 (Scalar.ofBits .f32 0x42FA0000#32) y) := rfl

/-- The fourth result: the scales. -/
theorem G9_eq : Value.G9 a0 a1 a2 a3 a4 a5 = Spec.allScales a0 a1 a2 a3 a4 a5 := by
  unfold Value.G9 k0_pay10
  rw [pay9_eq]
  funext y
  have h := pay4_val a0 a1 a2 a3 a4 a5 y
  generalize k0_pay4 a2 a3 a0 a1 a4 a5 = x at h ⊢
  rw [pay7_apply, pay6_apply x y _ h, Quant.exp2_scale]
  rfl

/-- The third result: the codes. -/
theorem G8_eq : Value.G8 a0 a1 a2 a3 a4 a5 = Spec.allCodes a0 a1 a2 a3 a4 a5 := by
  unfold Value.G8 k0_pay10
  rw [pay9_eq]
  funext y
  have h := pay4_val a0 a1 a2 a3 a4 a5 (ix3 (y 0) (y 1) ⟨(y 2).val / 128, by have h : (y 2).val < 1024 := (y 2).isLt; omega⟩)
  have h3 := pay3_apply a0 a1 a2 a3 a4 a5 (ix4 (y 0) (y 1) ⟨(y 2).val / 128, by have h : (y 2).val < 1024 := (y 2).isLt; omega⟩ ⟨(y 2).val % 128, Nat.mod_lt _ (by omega)⟩)
  generalize k0_pay4 a2 a3 a0 a1 a4 a5 = x at h ⊢
  generalize k0_pay3 a2 a3 a0 a1 a4 a5 = v at h3 ⊢
  rw [pay8_apply v x y _ h, h3]
  rfl

/-- The reference's run: every result as a function of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) = Spec.transposed (m ((c : Thread nD τ).loc main_arg0))
      ∧ r.2.mem ((c : Thread nD τ).loc main_v0_1) = Spec.transposed (m ((c : Thread nD τ).loc main_arg1))
      ∧ r.2.mem ((c : Thread nD τ).loc main_v0_2) = Spec.allCodes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_3) = Spec.allScales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (pay1_eq _), (h c).2.1.trans (pay2_eq _),
      (h c).2.2.1.trans (G8_eq ..), (h c).2.2.2.1.trans (G9_eq ..), (h c).2.2.2.2⟩)
    (Value.run m ρ)

end Cert.RotateRefIdeal.Read
-- ==== Proof.PowerSpec.lean ====
module

public import proofs.«01_k».proof.Proof.Spec

/-! # The power step as a function of its arguments

Over the extended reals: the product of a second-moment matrix with its old eigenbasis, transposed,
and how its sums are taken in runs of 256 terms. The side length `n` is 1536 for the left matrices
and 1024 for the right ones. -/

@[expose] public section

noncomputable section

namespace Cert.Spec

open Idealize.ShloMosaic

/-- Entry `(j, i)` of the product `s · q`, transposed. -/
def power {n : ℕ} (s q : Fin n → Fin n → EReal) (j i : Fin n) : EReal := ∑ k, s i k * q k j

section All

variable {n : ℕ} (a0 a1 : (⟨3, ![6, n, n]⟩ : Shape).Idx → EReal)

/-- The product `s · q` of every batch item, transposed. -/
def allPowers : (⟨3, ![6, n, n]⟩ : Shape).Idx → EReal := fun y =>
  power (mat a0 (y 0)) (mat a1 (y 0)) (y 1) (y 2)

theorem allPowers_of (y : (⟨3, ![6, n, n]⟩ : Shape).Idx)
    (b : Fin 6) (j i : Fin n) (h0 : (y 0).val = b.val) (h1 : (y 1).val = j.val) (h2 : (y 2).val = i.val) :
    power (mat a0 b) (mat a1 b) j i = allPowers a0 a1 y := by
  obtain rfl : y 0 = b := Fin.ext h0
  obtain rfl : y 1 = j := Fin.ext h1
  obtain rfl : y 2 = i := Fin.ext h2
  rfl

end All

/-! ## Sums in runs of 256 terms -/

/-- Term `k` of run `r`, of the runs of 256 terms that make up `n`. -/
def run {n : ℕ} (r : ℕ) (hr : 256 * r + 256 ≤ n) (k : Fin 256) : Fin n := ⟨256 * r + k.val, by have := k.isLt; omega⟩

/-- A sum is the sum of its runs. -/
theorem sum_runs {n : ℕ} (R : ℕ) (hn : R * 256 = n) (f : Fin n → EReal) :
    ∑ k, f k = ∑ r : Fin R, ∑ k : Fin 256, f (run r.val (by have := r.isLt; omega) k) := by
  subst hn
  rw [← Fintype.sum_prod_type' (fun (r : Fin R) (k : Fin 256) => f (run r.val (by have := r.isLt; omega) k))]
  refine (Equiv.sum_comp (finProdFinEquiv (m := R) (n := 256)) f).symm.trans ?_
  refine Finset.sum_congr rfl fun x _ => congrArg f (Fin.ext ?_)
  show x.2.val + 256 * x.1.val = 256 * x.1.val + x.2.val
  omega

/-- A sum over 1536 terms is the sum of six runs. -/
theorem sum_six (f : Fin 1536 → EReal) :
    ∑ k, f k = ∑ k, f (run 0 (by omega) k) + ∑ k, f (run 1 (by omega) k) + ∑ k, f (run 2 (by omega) k)
      + ∑ k, f (run 3 (by omega) k) + ∑ k, f (run 4 (by omega) k) + ∑ k, f (run 5 (by omega) k) := by
  rw [sum_runs 6 rfl f, Fin.sum_univ_six]
  rfl

/-- A sum over 1024 terms is the sum of four runs. -/
theorem sum_four (f : Fin 1024 → EReal) :
    ∑ k, f k = ∑ k, f (run 0 (by omega) k) + ∑ k, f (run 1 (by omega) k) + ∑ k, f (run 2 (by omega) k)
      + ∑ k, f (run 3 (by omega) k) := by
  rw [sum_runs 4 rfl f, Fin.sum_univ_four]
  rfl

section Term

variable {n : ℕ} (w : (⟨2, ![n, 256]⟩ : Shape).Idx → EReal) (p : (⟨2, ![256, n]⟩ : Shape).Idx → EReal)

/-- One run of 256 terms of the product of a part `p` with the columns `w` of the transposed basis. -/
def term (r : ℕ) (hr : 256 * r + 256 ≤ n) (j : Fin n) (i : Fin 256) : EReal :=
  ∑ k : Fin 256, w (ix2 j k) * p (ix2 i (run r hr k))

/-- The same run, over the slice of the part from column `o 1` on. -/
theorem slice_term (r : ℕ) (hr : 256 * r + 256 ≤ n) (o : Fin 2 → ℕ) (h0 : o 0 = 0) (h1 : o 1 = 256 * r) (j : Fin n) (i : Fin 256) :
    (∑ k : Fin 256, w (ix2 j k) * p (ix2 ⟨o 0 + i.val, by have := i.isLt; omega⟩ ⟨o 1 + k.val, by have := k.isLt; omega⟩))
      = term w p r hr j i := by
  unfold term
  refine Finset.sum_congr rfl fun k _ => ?_
  refine congrArg (w (ix2 j k) * p ·) ?_
  exact congrArg₂ ix2 (Fin.ext (by show o 0 + i.val = i.val; omega)) (Fin.ext (by show o 1 + k.val = 256 * r + k.val; omega))

/-- A run of a part that is zero is zero. -/
theorem term_zero (hp : ∀ z, p z = 0) (r : ℕ) (hr : 256 * r + 256 ≤ n) (j : Fin n) (i : Fin 256) : term w p r hr j i = 0 := by
  unfold term
  refine Finset.sum_eq_zero fun k _ => ?_
  rw [hp, mul_zero]

/-- A run of a part that is the block of rows `x`, against the columns of the transposed basis `qt`. -/
theorem term_first (x : (⟨3, ![1, 256, n]⟩ : Shape).Idx → EReal) (qt : (⟨2, ![n, n]⟩ : Shape).Idx → EReal)
    (hp : ∀ i k, p (ix2 i k) = x (ix3 0 i k)) (r : ℕ) (hr : 256 * r + 256 ≤ n)
    (hw : ∀ j k, w (ix2 j k) = qt (ix2 j (run r hr k))) (j : Fin n) (i : Fin 256) :
    term w p r hr j i = ∑ k : Fin 256, x (ix3 0 i (run r hr k)) * qt (ix2 j (run r hr k)) := by
  unfold term
  refine Finset.sum_congr rfl fun k _ => ?_
  rw [hw, hp, mul_comm]

end Term

/-- An index of a stack of one matrix, by its coordinates. -/
theorem eq_ix3 {n1 n2 : ℕ} (y : (⟨3, ![1, n1, n2]⟩ : Shape).Idx) : y = ix3 (n0 := 1) 0 (y 1) (y 2) :=
  funext fun a => match a with
    | ⟨0, _⟩ => Subsingleton.elim (α := Fin 1) _ _
    | ⟨1, _⟩ => rfl
    | ⟨2, _⟩ => rfl

/-- A number that is neither infinity, minus itself, is zero. -/
theorem sub_self_of_finite (x : EReal) (ht : x ≠ ⊤) (hb : x ≠ ⊥) : x - x = 0 := EReal.sub_self ht hb

/-- Every entry is a real number. -/
def Finite {ι : Type} (x : ι → EReal) : Prop := ∀ y, x y ≠ ⊤ ∧ x y ≠ ⊥

end Cert.Spec
-- ==== Proof.PowerKernel.lean ====
module

public import proofs.«01_k».proof.Proof.PowerSpec
public import proofs.«01_k».proof.Proof.Gen.PowerIdeal.Value
public import Idealize.ShloMosaic.Lib.Pointwise
public import Idealize.ShloMosaic.Lib.Pipeline.ValueKit.Acc

/-! # What a grid point of the power kernel works on, element by element

At the ideal values. The kernel splits a block of rows into three parts, of which the ideal reading
leaves the first equal to the block and the other two zero where the block is finite; each part is
multiplied with the old basis, in six runs of 256 terms. -/

@[expose] public section

set_option maxRecDepth 16384

noncomputable section

namespace Cert.PowerIdeal.Blocks

open Cert.PowerIdeal Cert.PowerIdeal.Gen Idealize.ShloMosaic Idealize.ShloMosaic.TcCoe Idealize.ShloMosaic.Tactic

section Parts

variable (x : Vec Ideal S1x256x1536 .f32)

/-- The first part of a block is the block. -/
theorem pay7_apply (y : S256x1536.Idx) : k0_pay7 x y = x (ix3 0 (y 0) (y 1)) := by
  unfold k0_pay7 k0_pay4 k0_pay3
  simp only [pointwise]

/-- The second part of a finite block is zero. -/
theorem pay8_apply (y : S256x1536.Idx) (ht : x (ix3 0 (y 0) (y 1)) ≠ ⊤) (hb : x (ix3 0 (y 0) (y 1)) ≠ ⊥) : k0_pay8 x y = 0 := by
  unfold k0_pay8 k0_pay6 k0_pay5 k0_pay4 k0_pay3
  simp only [pointwise]
  exact Spec.sub_self_of_finite _ ht hb

/-- The third part of a finite block is zero. -/
theorem pay9_apply (y : S256x1536.Idx) (ht : x (ix3 0 (y 0) (y 1)) ≠ ⊤) (hb : x (ix3 0 (y 0) (y 1)) ≠ ⊥) : k0_pay9 x y = 0 := by
  unfold k0_pay9 k0_pay6 k0_pay5 k0_pay4 k0_pay3
  simp only [pointwise]
  rw [Spec.sub_self_of_finite _ ht hb]
  exact sub_zero _

end Parts

section Sums

variable (w0 w1 w2 w3 w4 w5 : Vec Ideal S1536x256 .bf16) (p : FVec Ideal S256x1536 .bf16)

theorem pay10_apply (x : Vec Ideal S1x256x1536 .f32) (hp : k0_pay9 x = p) (j : Fin 1536) (i : Fin 256) :
    k0_pay10 x w0 w1 w2 w3 w4 (ix2 j i) = Spec.term w0 p 0 (by omega) j i + Spec.term w1 p 1 (by omega) j i + Spec.term w2 p 2 (by omega) j i
      + Spec.term w3 p 3 (by omega) j i + Spec.term w4 p 4 (by omega) j i := by
  unfold k0_pay10
  rw [hp]
  simp only [pointwise]
  simp only [zero_add]
  exact congrArg₂ (· + ·) (congrArg₂ (· + ·) (congrArg₂ (· + ·) (congrArg₂ (· + ·)
    (Spec.slice_term w0 p 0 (by omega) ![0, 0] rfl rfl j i) (Spec.slice_term w1 p 1 (by omega) ![0, 256] rfl rfl j i)) (Spec.slice_term w2 p 2 (by omega) ![0, 512] rfl rfl j i))
    (Spec.slice_term w3 p 3 (by omega) ![0, 768] rfl rfl j i)) (Spec.slice_term w4 p 4 (by omega) ![0, 1024] rfl rfl j i)

theorem pay11_apply (v : FVec Ideal S1536x256 .f32) (j : Fin 1536) (i : Fin 256) :
    k0_pay11 p v w5 (ix2 j i) = v (ix2 j i) + Spec.term w5 p 5 (by omega) j i := by
  unfold k0_pay11
  simp only [pointwise]
  simp only [zero_add]
  exact congrArg₂ (· + ·) rfl (Spec.slice_term w5 p 5 (by omega) ![0, 1280] rfl rfl j i)

theorem pay12_apply (j : Fin 1536) (i : Fin 256) :
    k0_pay12 p w0 w1 w2 w3 w4 w5 (ix2 j i) = Spec.term w0 p 0 (by omega) j i + Spec.term w1 p 1 (by omega) j i + Spec.term w2 p 2 (by omega) j i
      + Spec.term w3 p 3 (by omega) j i + Spec.term w4 p 4 (by omega) j i + Spec.term w5 p 5 (by omega) j i := by
  unfold k0_pay12
  simp only [pointwise]
  simp only [zero_add]
  exact congrArg₂ (· + ·) (congrArg₂ (· + ·) (congrArg₂ (· + ·) (congrArg₂ (· + ·) (congrArg₂ (· + ·)
    (Spec.slice_term w0 p 0 (by omega) ![0, 0] rfl rfl j i) (Spec.slice_term w1 p 1 (by omega) ![0, 256] rfl rfl j i)) (Spec.slice_term w2 p 2 (by omega) ![0, 512] rfl rfl j i))
    (Spec.slice_term w3 p 3 (by omega) ![0, 768] rfl rfl j i)) (Spec.slice_term w4 p 4 (by omega) ![0, 1024] rfl rfl j i)) (Spec.slice_term w5 p 5 (by omega) ![0, 1280] rfl rfl j i)

theorem pay13_apply (j : Fin 1536) (i : Fin 256) :
    k0_pay13 p w0 w1 (ix2 j i) = Spec.term w0 p 0 (by omega) j i + Spec.term w1 p 1 (by omega) j i := by
  unfold k0_pay13
  simp only [pointwise]
  simp only [zero_add]
  exact congrArg₂ (· + ·) (Spec.slice_term w0 p 0 (by omega) ![0, 0] rfl rfl j i) (Spec.slice_term w1 p 1 (by omega) ![0, 256] rfl rfl j i)

theorem pay1_apply (l m h : FVec Ideal S1536x256 .f32) (j : Fin 1536) (i : Fin 256) :
    k0_pay1 p l m h w2 w3 w4 w5 (ix3 0 j i) = l (ix2 j i) + m (ix2 j i)
      + (h (ix2 j i) + Spec.term w2 p 2 (by omega) j i + Spec.term w3 p 3 (by omega) j i
        + Spec.term w4 p 4 (by omega) j i + Spec.term w5 p 5 (by omega) j i) := by
  unfold k0_pay1
  simp only [pointwise]
  simp only [zero_add]
  exact congrArg₂ (· + ·) rfl (congrArg₂ (· + ·) (congrArg₂ (· + ·) (congrArg₂ (· + ·) (congrArg₂ (· + ·) rfl
    (Spec.slice_term w2 p 2 (by omega) ![0, 512] rfl rfl j i)) (Spec.slice_term w3 p 3 (by omega) ![0, 768] rfl rfl j i))
    (Spec.slice_term w4 p 4 (by omega) ![0, 1024] rfl rfl j i)) (Spec.slice_term w5 p 5 (by omega) ![0, 1280] rfl rfl j i))

end Sums

/-- What a grid point stores, of a finite block of rows `x` and the transposed basis `qt`. -/
theorem stored_apply (x : Vec Ideal S1x256x1536 .f32) (qt : Vec Ideal S1536x1536 .bf16) (w0 w1 w2 w3 w4 w5 : Vec Ideal S1536x256 .bf16)
    (h0 : ∀ j k, w0 (ix2 j k) = qt (ix2 j (Spec.run 0 (by omega) k))) (h1 : ∀ j k, w1 (ix2 j k) = qt (ix2 j (Spec.run 1 (by omega) k)))
    (h2 : ∀ j k, w2 (ix2 j k) = qt (ix2 j (Spec.run 2 (by omega) k))) (h3 : ∀ j k, w3 (ix2 j k) = qt (ix2 j (Spec.run 3 (by omega) k)))
    (h4 : ∀ j k, w4 (ix2 j k) = qt (ix2 j (Spec.run 4 (by omega) k))) (h5 : ∀ j k, w5 (ix2 j k) = qt (ix2 j (Spec.run 5 (by omega) k)))
    (hx : ∀ z, x z ≠ ⊤ ∧ x z ≠ ⊥) (j : Fin 1536) (i : Fin 256) :
    k0_pay1 (k0_pay7 x) (k0_pay11 (k0_pay9 x) (k0_pay10 x w0 w1 w2 w3 w4) w5) (k0_pay12 (k0_pay8 x) w0 w1 w2 w3 w4 w5)
        (k0_pay13 (k0_pay7 x) w0 w1) w2 w3 w4 w5 (ix3 0 j i)
      = ∑ k : Fin 1536, x (ix3 0 i k) * qt (ix2 j k) := by
  have z9 : ∀ z, k0_pay9 x z = 0 := fun z => pay9_apply x z (hx _).1 (hx _).2
  have z8 : ∀ z, k0_pay8 x z = 0 := fun z => pay8_apply x z (hx _).1 (hx _).2
  have h7 : ∀ i k, k0_pay7 x (ix2 i k) = x (ix3 0 i k) := fun i k => pay7_apply x (ix2 i k)
  rw [pay1_apply, pay11_apply, pay10_apply _ _ _ _ _ _ x rfl, pay12_apply, pay13_apply]
  simp only [Spec.term_zero _ _ z9, Spec.term_zero _ _ z8, Spec.term_first _ _ x qt h7 _ _ h0, Spec.term_first _ _ x qt h7 _ _ h1, Spec.term_first _ _ x qt h7 _ _ h2,
    Spec.term_first _ _ x qt h7 _ _ h3, Spec.term_first _ _ x qt h7 _ _ h4, Spec.term_first _ _ x qt h7 _ _ h5, add_zero, zero_add]
  exact (Spec.sum_six (fun k => x (ix3 0 i k) * qt (ix2 j k))).symm

/-- The transposed basis, as a grid point that opens a batch item writes it. -/
theorem pay2_apply (q : Vec Ideal S1x1536x1536 .bf16) (y : S1536x1536.Idx) : k0_pay2 q y = q (ix3 0 (y 1) (y 0)) := by
  unfold k0_pay2
  simp only [pointwise]

end Cert.PowerIdeal.Blocks
-- ==== Proof.PowerRead.lean ====
module

public import proofs.«01_k».proof.Proof.PowerKernel

/-! # What a grid point of the power kernel stores

At the ideal values: the first grid point of a batch item transposes the old basis into the scratch
buffer, the others find it there, and each stores its columns of the transposed product. -/

@[expose] public section

set_option maxRecDepth 16384

noncomputable section

namespace Cert.PowerIdeal.Blocks

open Cert.PowerIdeal Cert.PowerIdeal.Gen Idealize.ShloMosaic Idealize.ShloMosaic.TcCoe Idealize.ShloMosaic.Tactic

section Run

variable (c : Dev nD) (i : grid0.Coords)
  (arg2 : Memref sig .tc .vmem S1x256x1536 .f32) (harg2 : arg2.IsWhole)
  (arg3 : Memref sig .tc .vmem S1x1536x1536 .bf16) (harg3 : arg3.IsWhole)
  (arg4 : Memref sig .tc .vmem S1x1536x256 .f32) (harg4 : arg4.IsWhole)
  (arg5 : Memref sig .tc .vmem S1536x1536 .bf16) (harg5 : arg5.IsWhole)
  (x0 : Vec Ideal S1x256x1536 .f32) (x1 : Vec Ideal S1x1536x1536 .bf16)

/-- A load of the whole block of rows reads it. -/
theorem load_rows (inb : ∀ a, (![0, 0, 0] : Fin 3 → Nat) a + S1x256x1536.size a ≤ S1x256x1536.size a) :
    View.readAt (Elt Ideal) arg2.view (Rect.unit (s := S1x256x1536) ![0, 0, 0] S1x256x1536.size inb).toLoadRect (harg2.unread x0) = x0 := by
  rw [View.readAt_eq_ld, harg2.read_unread, View.ld_unit_lit' _ _ (by decide)]

/-- A load of columns `o` to `o + 255` of the transposed basis, from a scratch buffer that holds it. -/
theorem load_held (qt : Vec Ideal S1536x1536 .bf16) (r : ℕ) (hr : 256 * r + 256 ≤ 1536) (o : ℕ) (ho : o = 256 * r)
    (inb : ∀ a, (![0, o] : Fin 2 → Nat) a + S1536x256.size a ≤ S1536x1536.size a) (j : Fin 1536) (k : Fin 256) :
    View.readAt (Elt Ideal) arg5.view (Rect.unit (s := S1536x1536) ![0, o] S1536x256.size inb).toLoadRect (harg5.unread qt) (ix2 j k)
      = qt (ix2 j (Spec.run r hr k)) := by
  refine (congrFun (View.readAt_eq_ld arg5.view _ _) _).trans ?_
  rw [harg5.read_unread]
  refine congrArg qt ?_
  subst ho
  funext a
  match a with
  | ⟨0, _⟩ => apply Fin.ext; show 0 + 1 * j.val = j.val; omega
  | ⟨1, _⟩ => apply Fin.ext; show 256 * r + 1 * k.val = 256 * r + k.val; omega

/-- The transposed basis of a batch item, as its first grid point writes it. -/
def written : Vec Ideal S1536x1536 .bf16 :=
  k0_pay2 (View.readAt (Elt Ideal) arg3.view
    (Rect.unit (s := S1x1536x1536) ![0, 0, 0] S1x1536x1536.size inb_S1x1536x1536_S1x1536x1536_0_0_0).toLoadRect (harg3.unread x1))

theorem written_apply (y : S1536x1536.Idx) : written arg3 harg3 x1 y = x1 (ix3 0 (y 1) (y 0)) := by
  unfold written
  refine (pay2_apply _ _).trans ?_
  refine (congrFun (View.readAt_eq_ld arg3.view _ _) _).trans ?_
  rw [harg3.read_unread, View.ld_unit_lit' _ _ (by decide)]

/-- A load of the same columns at the first grid point of a batch item. -/
theorem load_written (r : ℕ) (hr : 256 * r + 256 ≤ 1536) (o : ℕ) (ho : o = 256 * r)
    (inb : ∀ a, (![0, o] : Fin 2 → Nat) a + S1536x256.size a ≤ S1536x1536.size a) (j : Fin 1536) (k : Fin 256) :
    arg5.view.readCov (kernelRun0_A.sl.HS0_1 c arg3 harg3 x1)
        (Rect.unit (s := S1536x1536) ![0, o] S1536x256.size inb).toLoadRect (ix2 j k)
      = written arg3 harg3 x1 (ix2 j (Spec.run r hr k)) := by
  have hcov := View.cover_of_tiledL (kernelRun0_A.sl.HS0_1 c arg3 harg3 x1) S1536x1536.size (by sl_kernel_rfl)
  refine (congrFun (View.readCov_eq_canon_ld arg5.view _ _ hcov) _).trans ?_
  unfold kernelRun0_A.sl.HS0_1
  rw [View.canon_cons_unit_lit' _ _ _ (by decide)]
  refine congrArg (written arg3 harg3 x1) ?_
  subst ho
  funext a
  match a with
  | ⟨0, _⟩ => apply Fin.ext; show 0 + 1 * j.val = j.val; omega
  | ⟨1, _⟩ => apply Fin.ext; show 256 * r + 1 * k.val = 256 * r + k.val; omega

/-- What a grid point stores that is not the first of its batch item. -/
theorem out_later (hc : ¬cond0_0 i) (xs : Vec Ideal S1536x1536 .bf16) (hx : ∀ z, x0 z ≠ ⊤ ∧ x0 z ≠ ⊥) (y : S1x1536x256.Idx) :
    out0_B_2 c i arg2 harg2 arg3 harg3 arg4 harg4 arg5 harg5 hc x0 x1 xs y = ∑ k : Fin 1536, x0 (ix3 0 (y 2) k) * xs (ix2 (y 1) k) := by
  obtain ⟨j, r, rfl⟩ : ∃ (j : Fin 1536) (r : Fin 256), y = ix3 0 j r := ⟨y 1, y 2, Spec.eq_ix3 y⟩
  unfold out0_B_2
  rw [View.read_writes_eq_canon _ _ _ (cover0_B_2 c i arg2 harg2 arg3 harg3 arg4 harg4 arg5 harg5 hc x0 x1 xs)]
  refine (congrFun (View.canon_cons_unit_lit' _ _ _ (by decide)) _).trans ?_
  unfold kernelRun0_B.sl.r_4 kernelRun0_B.sl.r_5 kernelRun0_B.sl.r_6 kernelRun0_B.sl.r_3 kernelRun0_B.sl.r_2 kernelRun0_B.sl.r_1 kernelRun0_B.sl.r
  rw [load_rows]
  exact stored_apply x0 xs _ _ _ _ _ _ (load_held arg5 harg5 xs 0 _ 0 rfl _) (load_held arg5 harg5 xs 1 _ 256 rfl _)
    (load_held arg5 harg5 xs 2 _ 512 rfl _) (load_held arg5 harg5 xs 3 _ 768 rfl _) (load_held arg5 harg5 xs 4 _ 1024 rfl _)
    (load_held arg5 harg5 xs 5 _ 1280 rfl _) hx j r

/-- What the first grid point of a batch item stores. -/
theorem out_first (hc : cond0_0 i) (hx : ∀ z, x0 z ≠ ⊤ ∧ x0 z ≠ ⊥) (y : S1x1536x256.Idx) :
    out0_A_2 c i arg2 harg2 arg3 harg3 arg4 harg4 arg5 harg5 hc x0 x1 y = ∑ k : Fin 1536, x0 (ix3 0 (y 2) k) * x1 (ix3 0 k (y 1)) := by
  obtain ⟨j, r, rfl⟩ : ∃ (j : Fin 1536) (r : Fin 256), y = ix3 0 j r := ⟨y 1, y 2, Spec.eq_ix3 y⟩
  unfold out0_A_2
  rw [View.read_writes_eq_canon _ _ _ (cover0_A_2 c i arg2 harg2 arg3 harg3 arg4 harg4 arg5 harg5 hc x0 x1)]
  refine (congrFun (View.canon_cons_unit_lit' _ _ _ (by decide)) _).trans ?_
  unfold kernelRun0_A.sl.r_4 kernelRun0_A.sl.r_5 kernelRun0_A.sl.r_6 kernelRun0_A.sl.r_3 kernelRun0_A.sl.r_2 kernelRun0_A.sl.r_1 kernelRun0_A.sl.r
  rw [load_rows]
  refine (stored_apply x0 (written arg3 harg3 x1) _ _ _ _ _ _ (load_written c arg3 harg3 arg5 x1 0 _ 0 rfl _) (load_written c arg3 harg3 arg5 x1 1 _ 256 rfl _)
    (load_written c arg3 harg3 arg5 x1 2 _ 512 rfl _) (load_written c arg3 harg3 arg5 x1 3 _ 768 rfl _) (load_written c arg3 harg3 arg5 x1 4 _ 1024 rfl _)
    (load_written c arg3 harg3 arg5 x1 5 _ 1280 rfl _) hx j r).trans ?_
  refine Finset.sum_congr rfl fun k _ => ?_
  rw [written_apply]
  rfl

/-- The scratch buffer the first grid point of a batch item leaves to the others. -/
theorem kept_first (hc : cond0_0 i) (y : S1536x1536.Idx) :
    sout0_A_0 c i arg2 harg2 arg3 harg3 arg4 harg4 arg5 harg5 hc x0 x1 y = x1 (ix3 0 (y 1) (y 0)) := by
  unfold sout0_A_0
  rw [View.read_writes_eq_canon _ _ _ (scover0_A_0 c i arg2 harg2 arg3 harg3 arg4 harg4 arg5 harg5 hc x0 x1)]
  refine (congrFun (View.canon_cons_unit_lit' _ _ _ (by decide)) y).trans ?_
  exact written_apply arg3 harg3 x1 y

end Run

end Cert.PowerIdeal.Blocks
-- ==== Proof.PowerValue.lean ====
module

public import proofs.«01_k».proof.Proof.PowerRead

/-! # What the power kernel leaves in its result array

At the ideal values, where the second-moment matrices are finite: the transposed product of each of
them with its old basis. -/

@[expose] public section

set_option maxRecDepth 16384

noncomputable section

namespace Cert.PowerIdeal.Arrays

open Cert.PowerIdeal Cert.PowerIdeal.Gen Cert.PowerIdeal.Value Cert.PowerIdeal.Blocks Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem point_lt (t : Fin cfg0.N) : t.val < 36 := Nat.lt_of_lt_of_eq t.isLt N_0

/-- The batch item of a grid point. -/
def item (t : Fin cfg0.N) : Fin 6 := ⟨t.val / 6, by have := point_lt t; omega⟩

/-- Row `i` of the block of rows of a grid point. -/
def row (t : Fin cfg0.N) (i : Fin 256) : Fin 1536 := ⟨t.val % 6 * 256 + i.val, by have := i.isLt; omega⟩

/-- The grid point of batch item `b` and block `r` of rows. -/
def point (b r : ℕ) (hb : b < 6) (hr : r < 6) : Fin cfg0.N := (⟨6 * b + r, by omega⟩ : Fin 36).cast N_0.symm

theorem coords0 (t : Fin cfg0.N) : (grid0.coords t 0).val = t.val / 6 := by
  have e : (grid0.coords t 0).val = t.val / 6 % 6 := Pipeline.Grid.coords_val t 0 (by decide) rfl
  have := point_lt t
  omega

theorem coords1 (t : Fin cfg0.N) : (grid0.coords t 1).val = t.val % 6 := by
  have e : (grid0.coords t 1).val = t.val / 1 % 6 := Pipeline.Grid.coords_val t 1 (by decide) rfl
  omega

theorem word (n : ℕ) (hn : n < 6) : (BitVec.ofNat 32 n).toNat = n := by
  rw [BitVec.toNat_ofNat]; exact Nat.mod_eq_of_lt (by omega)

/-- The blocks of rows are at the point's batch item and rows, -/
theorem at_rows (t : Fin cfg0.N) :
    cc0_transform_0 (grid0.coords t) 0 = t.val / 6 ∧ cc0_transform_0 (grid0.coords t) 1 = t.val % 6 ∧ cc0_transform_0 (grid0.coords t) 2 = 0 :=
  ⟨(word _ (grid0.coords t 0).isLt).trans (coords0 t), (word _ (grid0.coords t 1).isLt).trans (coords1 t), rfl⟩

/-- the bases at the point's batch item, -/
theorem at_basis (t : Fin cfg0.N) :
    cc0_transform_1 (grid0.coords t) 0 = t.val / 6 ∧ cc0_transform_1 (grid0.coords t) 1 = 0 ∧ cc0_transform_1 (grid0.coords t) 2 = 0 :=
  ⟨(word _ (grid0.coords t 0).isLt).trans (coords0 t), rfl, rfl⟩

/-- and the blocks of the result at the point's batch item and columns. -/
theorem at_columns (t : Fin cfg0.N) :
    cc0_transform_2 (grid0.coords t) 0 = t.val / 6 ∧ cc0_transform_2 (grid0.coords t) 1 = 0 ∧ cc0_transform_2 (grid0.coords t) 2 = t.val % 6 :=
  ⟨(word _ (grid0.coords t 0).isLt).trans (coords0 t), rfl, (word _ (grid0.coords t 1).isLt).trans (coords1 t)⟩

/-- Input block 0 at a point is its rows of the batch item's second-moment matrix. -/
theorem block0 (c : Dev nD) (t : Fin cfg0.N) (i : Fin 256) (k : Fin 1536) :
    (iblk m c 0 t : S1x256x1536.Idx → EReal) (ix3 0 i k) = Spec.mat (m ((c : Thread nD τ).loc main_arg0)) (item t) (row t i) k :=
  Spec.mat_of (m ((c : Thread nD τ).loc main_arg0)) (((cfg0.win 0).blk t).view.emb (ix3 (n0 := 1) 0 i k)) (item t) (row t i) k
    (by show cc0_transform_0 (grid0.coords t) 0 * 1 + 1 * 0 = t.val / 6; rw [(at_rows t).1]; omega)
    (by show cc0_transform_0 (grid0.coords t) 1 * 256 + 1 * i.val = t.val % 6 * 256 + i.val; rw [(at_rows t).2.1]; omega)
    (by show cc0_transform_0 (grid0.coords t) 2 * 1536 + 1 * k.val = k.val; rw [(at_rows t).2.2]; omega)

/-- Input block 1 at a point is the batch item's old basis. -/
theorem block1 (c : Dev nD) (t : Fin cfg0.N) (k j : Fin 1536) :
    (iblk m c 1 t : S1x1536x1536.Idx → EReal) (ix3 0 k j) = Spec.mat (m ((c : Thread nD τ).loc main_arg1)) (item t) k j :=
  Spec.mat_of (m ((c : Thread nD τ).loc main_arg1)) (((cfg0.win 1).blk t).view.emb (ix3 (n0 := 1) 0 k j)) (item t) k j
    (by show cc0_transform_1 (grid0.coords t) 0 * 1 + 1 * 0 = t.val / 6; rw [(at_basis t).1]; omega)
    (by show cc0_transform_1 (grid0.coords t) 1 * 1536 + 1 * k.val = k.val; rw [(at_basis t).2.1]; omega)
    (by show cc0_transform_1 (grid0.coords t) 2 * 1536 + 1 * j.val = j.val; rw [(at_basis t).2.2]; omega)

/-- The first grid point of a batch item leaves the old basis, transposed, in the scratch buffer. -/
theorem kept_opening (c : Dev nD) (t : Fin cfg0.N) (h0 : t.val % 6 = 0) (y : S1536x1536.Idx) :
    (outsAt0 m c t.val t.isLt).2 y = Spec.mat (m ((c : Thread nD τ).loc main_arg1)) (item t) (y 1) (y 0) := by
  rw [outsAt0_A m c t h0]
  dsimp only
  rw [kept_first]
  exact block1 m c t (y 1) (y 0)

/-- The others leave it as it was. -/
theorem kept_later (c : Dev nD) (t : Fin cfg0.N) (h0 : ¬t.val % 6 = 0) :
    (outsAt0 m c t.val t.isLt).2 = (outsAt0 m c (t.val - 1) (Nat.lt_of_le_of_lt (Nat.sub_le _ _) t.isLt)).2 := by
  rw [outsAt0_B m c t h0]
  rfl

/-- After every grid point the scratch buffer holds the batch item's old basis, transposed. -/
theorem kept (c : Dev nD) (y : S1536x1536.Idx) : ∀ (n : ℕ) (t : Fin cfg0.N), t.val = n →
    (outsAt0 m c t.val t.isLt).2 y = Spec.mat (m ((c : Thread nD τ).loc main_arg1)) (item t) (y 1) (y 0) := by
  intro n
  induction n with
  | zero => exact fun t ht => kept_opening m c t (by rw [ht]) y
  | succ n ih =>
    intro t ht
    by_cases h0 : t.val % 6 = 0
    · exact kept_opening m c t h0 y
    · rw [kept_later m c t h0]
      refine (ih ⟨t.val - 1, Nat.lt_of_le_of_lt (Nat.sub_le _ _) t.isLt⟩ (by show t.val - 1 = n; omega)).trans ?_
      refine congrArg (fun b => Spec.mat (m ((c : Thread nD τ).loc main_arg1)) b (y 1) (y 0)) (Fin.ext ?_)
      show (t.val - 1) / 6 = t.val / 6
      omega

/-- The result of device `c`: the transposed products. -/
abbrev powers (c : Dev nD) : Buf (Elt Ideal) ((c : Thread nD τ).loc main_v0) :=
  Spec.allPowers (m ((c : Thread nD τ).loc main_arg0)) (m ((c : Thread nD τ).loc main_arg1))

section Finite

variable (hfin : ∀ c : Dev nD, Spec.Finite (ι := S6x1536x1536.Idx) (m ((c : Thread nD τ).loc main_arg0)))

include hfin

/-- Every block of rows is finite. -/
theorem finite_block (c : Dev nD) (t : Fin cfg0.N) : Spec.Finite (ι := S1x256x1536.Idx) (iblk m c 0 t) :=
  fun z => hfin c (((cfg0.win 0).blk t).view.emb z)

omit hfin in
/-- Entry `(j, i)` of the block of columns of a grid point is entry `(j, row i)` of the transposed product. -/
theorem in_place (c : Dev nD) (t : Fin cfg0.N) (y : S1x1536x256.Idx) :
    Spec.power (Spec.mat (m ((c : Thread nD τ).loc main_arg0)) (item t)) (Spec.mat (m ((c : Thread nD τ).loc main_arg1)) (item t)) (y 1) (row t (y 2))
      = powers m c (((cfg0.win 2).blk t).view.emb y) :=
  Spec.allPowers_of (m ((c : Thread nD τ).loc main_arg0)) (m ((c : Thread nD τ).loc main_arg1)) (((cfg0.win 2).blk t).view.emb y) (item t) _ _
    (by show cc0_transform_2 (grid0.coords t) 0 * 1 + 1 * (y 0).val = t.val / 6; rw [(at_columns t).1]; have : (y 0).val < 1 := (y 0).isLt; omega)
    (by show cc0_transform_2 (grid0.coords t) 1 * 1536 + 1 * (y 1).val = (y 1).val; rw [(at_columns t).2.1]; omega)
    (by show cc0_transform_2 (grid0.coords t) 2 * 256 + 1 * (y 2).val = t.val % 6 * 256 + (y 2).val; rw [(at_columns t).2.2]; omega)

omit hfin in
/-- What a later point finds in the scratch buffer. -/
theorem kept_before (c : Dev nD) (t : Fin cfg0.N) (h0 : ¬t.val % 6 = 0) (j k : Fin 1536) :
    (outsAt0 m c (t.val - 1) (Nat.lt_of_le_of_lt (Nat.sub_le _ _) t.isLt)).2 (ix2 j k)
      = Spec.mat (m ((c : Thread nD τ).loc main_arg1)) (item t) k j := by
  rw [← kept_later m c t h0]
  exact kept m c (ix2 j k) t.val t rfl

/-- What the first point of a batch item stores. -/
theorem stored_first (c : Dev nD) (t : Fin cfg0.N) (hc : cond0_0 (grid0.coords t)) (y : S1x1536x256.Idx) :
    out0_A_2 c (grid0.coords t) (ms0_0 t) (hs0_0 t) (ms0_1 t) (hs0_1 t) (ms0_2 t) (hs0_2 t) scM0_0 (Memref.isWhole_whole _) hc (iblk m c 0 t) (iblk m c 1 t) y
      = powers m c (((cfg0.win 2).blk t).view.emb y) := by
  rw [out_first _ _ _ _ _ _ _ _ _ _ _ _ _ (finite_block m hfin c t) y, ← in_place m c t y]
  exact Finset.sum_congr rfl fun k _ => congrArg₂ (· * ·) (block0 m c t (y 2) k) (block1 m c t k (y 1))

/-- What a later point stores. -/
theorem stored_later (c : Dev nD) (t : Fin cfg0.N) (h0 : ¬t.val % 6 = 0) (hc : ¬cond0_0 (grid0.coords t)) (y : S1x1536x256.Idx) :
    out0_B_2 c (grid0.coords t) (ms0_0 t) (hs0_0 t) (ms0_1 t) (hs0_1 t) (ms0_2 t) (hs0_2 t) scM0_0 (Memref.isWhole_whole _) hc (iblk m c 0 t) (iblk m c 1 t)
        (outsAt0 m c (t.val - 1) (Nat.lt_of_le_of_lt (Nat.sub_le _ _) t.isLt)).2 y
      = powers m c (((cfg0.win 2).blk t).view.emb y) := by
  rw [out_later _ _ _ _ _ _ _ _ _ _ _ _ _ _ (finite_block m hfin c t) y, ← in_place m c t y]
  exact Finset.sum_congr rfl fun k _ => congrArg₂ (· * ·) (block0 m c t (y 2) k) (kept_before m c t h0 (y 1) k)

/-- What a point writes back is its block of the result. -/
theorem flushed (c : Dev nD) (t : Fin cfg0.N) :
    (dats m 0 c).flushed 2 t = ((cfg0.win 2).blk t).view.read (Elt Ideal) (powers m c) := by
  by_cases h0 : t.val % 6 = 0
  · rw [flushed2_A m c t h0]
    funext y
    exact stored_first m hfin c t _ y
  · rw [flushed2_B m c t h0]
    funext y
    exact stored_later m hfin c t h0 _ y

omit hfin in
/-- The points' blocks cover the result. -/
theorem cover (i : S6x1536x1536.Idx) : ∃ t : Fin cfg0.N, (cfg0.win 2).flush t = true ∧ i ∈ ((cfg0.win 2).blk t).view.set := by
  have h0 : (i 0).val < 6 := (i 0).isLt
  have h1 : (i 1).val < 1536 := (i 1).isLt
  have h2 : (i 2).val < 1536 := (i 2).isLt
  have hr : (i 2).val / 256 < 6 := by omega
  refine ⟨point (i 0).val ((i 2).val / 256) h0 hr, flush0_2 _, ?_⟩
  have e : (point (i 0).val ((i 2).val / 256) h0 hr).val = 6 * (i 0).val + (i 2).val / 256 := rfl
  generalize point (i 0).val ((i 2).val / 256) h0 hr = t at e
  show i ∈ ((View.whole main_v0).slice (win0_2.rect t)).set
  rw [View.set_slice_whole, Rect.mem_set_unit]
  obtain ⟨e0, e1, e2⟩ := at_columns t
  intro a
  match a with
  | ⟨0, _⟩ => show cc0_transform_2 (grid0.coords t) 0 * 1 ≤ (i 0).val ∧ (i 0).val < cc0_transform_2 (grid0.coords t) 0 * 1 + 1; rw [e0]; omega
  | ⟨1, _⟩ => show cc0_transform_2 (grid0.coords t) 1 * 1536 ≤ (i 1).val ∧ (i 1).val < cc0_transform_2 (grid0.coords t) 1 * 1536 + 1536; rw [e1]; omega
  | ⟨2, _⟩ => show cc0_transform_2 (grid0.coords t) 2 * 256 ≤ (i 2).val ∧ (i 2).val < cc0_transform_2 (grid0.coords t) 2 * 256 + 256; rw [e2]; omega

/-- After the run the result is the transposed products. -/
theorem final (c : Dev nD) : (dats m 0 c).arrAt 2 cfg0.N = powers m c :=
  (dats m 0 c).arrAt_eq_of_cover 2 (powers m c) (fun t _ => flushed m hfin c t) cover

/-- The run: the result as a function of the arguments, the arguments unchanged. -/
theorem run : θ_run defs (onTc (τ := τ) (main (F := Ideal))) ⟨m, fun _ => 0, ρ⟩ fun r => ∀ c : Dev nD,
      r.2.mem ((c : Thread nD τ).loc main_v0) = powers m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m hfin c), (h c).2⟩) (run_blocks m ρ)

end Finite

end Cert.PowerIdeal.Arrays
-- ==== Proof.PowerRef.lean ====
module

public import proofs.«01_k».proof.Proof.PowerSpec
public import proofs.«01_k».proof.Proof.Gen.PowerRefIdeal.Value
public import Idealize.ShloMosaic.Lib.Pointwise

/-! # The power reference, element by element

At the ideal values its result is the transposed product. -/

@[expose] public section

set_option maxRecDepth 16384

noncomputable section

namespace Cert.PowerRefIdeal.Read

open Cert.PowerRefIdeal Cert.PowerRefIdeal.Gen Idealize.ShloMosaic Idealize.ShloMosaic.TcCoe Idealize.SL.Sem

/-- The reference's result: the product of every batch item, transposed. -/
theorem G2_eq (a0 : Vec Ideal S6x1536x1536 .f32) (a1 : Vec Ideal S6x1536x1536 .bf16) : Value.G2 a0 a1 = Spec.allPowers a0 a1 := by
  funext y
  unfold Value.G2 k0_pay1
  simp only [pointwise]
  simp only [zero_add]
  rfl
variable (m : (ℓ : Loc nD τ sig) → Buf (Elt Ideal) ℓ) (ρ : Dev nD → PrngReg)

/-- The reference's run: the result as a function of the arguments, the arguments unchanged. -/
theorem run : θ_run defs (onTc (τ := τ) (main (F := Ideal))) ⟨m, fun _ => 0, ρ⟩ fun r => ∀ c : Dev nD,
      r.2.mem ((c : Thread nD τ).loc main_v0) = Spec.allPowers (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (G2_eq _ _), (h c).2⟩) (Value.run m ρ)

end Cert.PowerRefIdeal.Read
-- ==== Proof.PowerRightKernel.lean ====
module

public import proofs.«01_k».proof.Proof.PowerSpec
public import proofs.«01_k».proof.Proof.Gen.PowerRightIdeal.Value
public import Idealize.ShloMosaic.Lib.Pointwise
public import Idealize.ShloMosaic.Lib.Pipeline.ValueKit.Acc

/-! # What a grid point of the right-side power kernel works on, element by element

At the ideal values. The kernel splits a block of rows into three parts, of which the ideal reading
leaves the first equal to the block and the other two zero where the block is finite; each part is
multiplied with the old basis, in four runs of 256 terms. -/

@[expose] public section

set_option maxRecDepth 16384

noncomputable section

namespace Cert.PowerRightIdeal.Blocks

open Cert.PowerRightIdeal Cert.PowerRightIdeal.Gen Idealize.ShloMosaic Idealize.ShloMosaic.TcCoe Idealize.ShloMosaic.Tactic

section Parts

variable (x : Vec Ideal S1x256x1024 .f32)

/-- The first part of a block is the block. -/
theorem pay7_apply (y : S256x1024.Idx) : k0_pay7 x y = x (ix3 0 (y 0) (y 1)) := by
  unfold k0_pay7 k0_pay4 k0_pay3
  simp only [pointwise]

/-- The second part of a finite block is zero. -/
theorem pay8_apply (y : S256x1024.Idx) (ht : x (ix3 0 (y 0) (y 1)) ≠ ⊤) (hb : x (ix3 0 (y 0) (y 1)) ≠ ⊥) : k0_pay8 x y = 0 := by
  unfold k0_pay8 k0_pay6 k0_pay5 k0_pay4 k0_pay3
  simp only [pointwise]
  exact Spec.sub_self_of_finite _ ht hb

/-- The third part of a block, as the kernel takes it. -/
def third : FVec Ideal S256x1024 .bf16 := truncf .bf16 (subf (k0_pay5 x) (k0_pay6 x)) bitsLt_bf16_f32

/-- The third part of a finite block is zero. -/
theorem third_apply (y : S256x1024.Idx) (ht : x (ix3 0 (y 0) (y 1)) ≠ ⊤) (hb : x (ix3 0 (y 0) (y 1)) ≠ ⊥) : third x y = 0 := by
  unfold third k0_pay6 k0_pay5 k0_pay4 k0_pay3
  simp only [pointwise]
  rw [Spec.sub_self_of_finite _ ht hb]
  exact sub_zero _

end Parts

section Sums

variable (w0 w1 w2 w3 : Vec Ideal S1024x256 .bf16) (p : FVec Ideal S256x1024 .bf16)

theorem pay9_apply (x : Vec Ideal S1x256x1024 .f32) (hp : third x = p) (j : Fin 1024) (i : Fin 256) :
    k0_pay9 x w0 w1 w2 w3 (ix2 j i) = Spec.term w0 p 0 (by omega) j i + Spec.term w1 p 1 (by omega) j i + Spec.term w2 p 2 (by omega) j i
      + Spec.term w3 p 3 (by omega) j i := by
  have e : truncf .bf16 (subf (k0_pay5 x) (k0_pay6 x)) bitsLt_bf16_f32 = p := hp
  unfold k0_pay9
  simp only [e]
  simp only [pointwise]
  simp only [zero_add]
  exact congrArg₂ (· + ·) (congrArg₂ (· + ·) (congrArg₂ (· + ·)
    (Spec.slice_term w0 p 0 (by omega) ![0, 0] rfl rfl j i) (Spec.slice_term w1 p 1 (by omega) ![0, 256] rfl rfl j i)) (Spec.slice_term w2 p 2 (by omega) ![0, 512] rfl rfl j i))
    (Spec.slice_term w3 p 3 (by omega) ![0, 768] rfl rfl j i)

theorem pay10_apply (x : Vec Ideal S1x256x1024 .f32) (hp : k0_pay8 x = p) (j : Fin 1024) (i : Fin 256) :
    k0_pay10 x w0 (ix2 j i) = Spec.term w0 p 0 (by omega) j i := by
  unfold k0_pay10
  rw [hp]
  simp only [pointwise]
  simp only [zero_add]
  exact Spec.slice_term w0 p 0 (by omega) ![0, 0] rfl rfl j i

theorem pay1_apply (l m : FVec Ideal S1024x256 .f32) (q : FVec Ideal S256x1024 .bf16) (u0 u1 u2 u3 : Vec Ideal S1024x256 .bf16) (j : Fin 1024) (i : Fin 256) :
    k0_pay1 p q l m w1 w2 w3 u0 u1 u2 u3 (ix3 0 j i) = l (ix2 j i)
      + (m (ix2 j i) + Spec.term w1 q 1 (by omega) j i + Spec.term w2 q 2 (by omega) j i + Spec.term w3 q 3 (by omega) j i)
      + (Spec.term u0 p 0 (by omega) j i + Spec.term u1 p 1 (by omega) j i + Spec.term u2 p 2 (by omega) j i + Spec.term u3 p 3 (by omega) j i) := by
  unfold k0_pay1
  simp only [pointwise]
  simp only [zero_add]
  exact congrArg₂ (· + ·) (congrArg₂ (· + ·) rfl (congrArg₂ (· + ·) (congrArg₂ (· + ·) (congrArg₂ (· + ·) rfl
      (Spec.slice_term w1 q 1 (by omega) ![0, 256] rfl rfl j i)) (Spec.slice_term w2 q 2 (by omega) ![0, 512] rfl rfl j i))
      (Spec.slice_term w3 q 3 (by omega) ![0, 768] rfl rfl j i)))
    (congrArg₂ (· + ·) (congrArg₂ (· + ·) (congrArg₂ (· + ·)
      (Spec.slice_term u0 p 0 (by omega) ![0, 0] rfl rfl j i) (Spec.slice_term u1 p 1 (by omega) ![0, 256] rfl rfl j i))
      (Spec.slice_term u2 p 2 (by omega) ![0, 512] rfl rfl j i)) (Spec.slice_term u3 p 3 (by omega) ![0, 768] rfl rfl j i))

end Sums

/-- What a grid point stores, of a finite block of rows `x` and the transposed basis `qt`. -/
theorem stored_apply (x : Vec Ideal S1x256x1024 .f32) (qt : Vec Ideal S1024x1024 .bf16) (w0 w1 w2 w3 : Vec Ideal S1024x256 .bf16)
    (h0 : ∀ j k, w0 (ix2 j k) = qt (ix2 j (Spec.run 0 (by omega) k))) (h1 : ∀ j k, w1 (ix2 j k) = qt (ix2 j (Spec.run 1 (by omega) k)))
    (h2 : ∀ j k, w2 (ix2 j k) = qt (ix2 j (Spec.run 2 (by omega) k))) (h3 : ∀ j k, w3 (ix2 j k) = qt (ix2 j (Spec.run 3 (by omega) k)))
    (hx : ∀ z, x z ≠ ⊤ ∧ x z ≠ ⊥) (j : Fin 1024) (i : Fin 256) :
    k0_pay1 (k0_pay7 x) (k0_pay8 x) (k0_pay9 x w0 w1 w2 w3) (k0_pay10 x w0) w1 w2 w3 w0 w1 w2 w3 (ix3 0 j i)
      = ∑ k : Fin 1024, x (ix3 0 i k) * qt (ix2 j k) := by
  have z9 : ∀ z, third x z = 0 := fun z => third_apply x z (hx _).1 (hx _).2
  have z8 : ∀ z, k0_pay8 x z = 0 := fun z => pay8_apply x z (hx _).1 (hx _).2
  have h7 : ∀ i k, k0_pay7 x (ix2 i k) = x (ix3 0 i k) := fun i k => pay7_apply x (ix2 i k)
  rw [pay1_apply, pay9_apply _ _ _ _ _ x rfl, pay10_apply _ _ x rfl]
  simp only [Spec.term_zero _ _ z9, Spec.term_zero _ _ z8, Spec.term_first _ _ x qt h7 _ _ h0, Spec.term_first _ _ x qt h7 _ _ h1,
    Spec.term_first _ _ x qt h7 _ _ h2, Spec.term_first _ _ x qt h7 _ _ h3, add_zero, zero_add]
  exact (Spec.sum_four (fun k => x (ix3 0 i k) * qt (ix2 j k))).symm

/-- The transposed basis, as a grid point that opens a batch item writes it. -/
theorem pay2_apply (q : Vec Ideal S1x1024x1024 .bf16) (y : S1024x1024.Idx) : k0_pay2 q y = q (ix3 0 (y 1) (y 0)) := by
  unfold k0_pay2
  simp only [pointwise]

end Cert.PowerRightIdeal.Blocks
-- ==== Proof.PowerRightRead.lean ====
module

public import proofs.«01_k».proof.Proof.PowerRightKernel

/-! # What a grid point of the right-side power kernel stores

At the ideal values: the first grid point of a batch item transposes the old basis into the scratch
buffer, the others find it there, and each stores its columns of the transposed product. -/

@[expose] public section

set_option maxRecDepth 16384

noncomputable section

namespace Cert.PowerRightIdeal.Blocks

open Cert.PowerRightIdeal Cert.PowerRightIdeal.Gen Idealize.ShloMosaic Idealize.ShloMosaic.TcCoe Idealize.ShloMosaic.Tactic

section Run

variable (c : Dev nD) (i : grid0.Coords)
  (arg2 : Memref sig .tc .vmem S1x256x1024 .f32) (harg2 : arg2.IsWhole)
  (arg3 : Memref sig .tc .vmem S1x1024x1024 .bf16) (harg3 : arg3.IsWhole)
  (arg4 : Memref sig .tc .vmem S1x1024x256 .f32) (harg4 : arg4.IsWhole)
  (arg5 : Memref sig .tc .vmem S1024x1024 .bf16) (harg5 : arg5.IsWhole)
  (x0 : Vec Ideal S1x256x1024 .f32) (x1 : Vec Ideal S1x1024x1024 .bf16)

/-- A load of the whole block of rows reads it. -/
theorem load_rows (inb : ∀ a, (![0, 0, 0] : Fin 3 → Nat) a + S1x256x1024.size a ≤ S1x256x1024.size a) :
    View.readAt (Elt Ideal) arg2.view (Rect.unit (s := S1x256x1024) ![0, 0, 0] S1x256x1024.size inb).toLoadRect (harg2.unread x0) = x0 := by
  rw [View.readAt_eq_ld, harg2.read_unread, View.ld_unit_lit' _ _ (by decide)]

/-- A load of columns `o` to `o + 255` of the transposed basis, from a scratch buffer that holds it. -/
theorem load_held (qt : Vec Ideal S1024x1024 .bf16) (r : ℕ) (hr : 256 * r + 256 ≤ 1024) (o : ℕ) (ho : o = 256 * r)
    (inb : ∀ a, (![0, o] : Fin 2 → Nat) a + S1024x256.size a ≤ S1024x1024.size a) (j : Fin 1024) (k : Fin 256) :
    View.readAt (Elt Ideal) arg5.view (Rect.unit (s := S1024x1024) ![0, o] S1024x256.size inb).toLoadRect (harg5.unread qt) (ix2 j k)
      = qt (ix2 j (Spec.run r hr k)) := by
  refine (congrFun (View.readAt_eq_ld arg5.view _ _) _).trans ?_
  rw [harg5.read_unread]
  refine congrArg qt ?_
  subst ho
  funext a
  match a with
  | ⟨0, _⟩ => apply Fin.ext; show 0 + 1 * j.val = j.val; omega
  | ⟨1, _⟩ => apply Fin.ext; show 256 * r + 1 * k.val = 256 * r + k.val; omega

/-- The transposed basis of a batch item, as its first grid point writes it. -/
def written : Vec Ideal S1024x1024 .bf16 :=
  k0_pay2 (View.readAt (Elt Ideal) arg3.view
    (Rect.unit (s := S1x1024x1024) ![0, 0, 0] S1x1024x1024.size inb_S1x1024x1024_S1x1024x1024_0_0_0).toLoadRect (harg3.unread x1))

theorem written_apply (y : S1024x1024.Idx) : written arg3 harg3 x1 y = x1 (ix3 0 (y 1) (y 0)) := by
  unfold written
  refine (pay2_apply _ _).trans ?_
  refine (congrFun (View.readAt_eq_ld arg3.view _ _) _).trans ?_
  rw [harg3.read_unread, View.ld_unit_lit' _ _ (by decide)]

/-- A load of the same columns at the first grid point of a batch item. -/
theorem load_written (r : ℕ) (hr : 256 * r + 256 ≤ 1024) (o : ℕ) (ho : o = 256 * r)
    (inb : ∀ a, (![0, o] : Fin 2 → Nat) a + S1024x256.size a ≤ S1024x1024.size a) (j : Fin 1024) (k : Fin 256) :
    arg5.view.readCov (kernelRun0_A.sl.HS0_1 c arg3 harg3 x1)
        (Rect.unit (s := S1024x1024) ![0, o] S1024x256.size inb).toLoadRect (ix2 j k)
      = written arg3 harg3 x1 (ix2 j (Spec.run r hr k)) := by
  have hcov := View.cover_of_tiledL (kernelRun0_A.sl.HS0_1 c arg3 harg3 x1) S1024x1024.size (by sl_kernel_rfl)
  refine (congrFun (View.readCov_eq_canon_ld arg5.view _ _ hcov) _).trans ?_
  unfold kernelRun0_A.sl.HS0_1
  rw [View.canon_cons_unit_lit' _ _ _ (by decide)]
  refine congrArg (written arg3 harg3 x1) ?_
  subst ho
  funext a
  match a with
  | ⟨0, _⟩ => apply Fin.ext; show 0 + 1 * j.val = j.val; omega
  | ⟨1, _⟩ => apply Fin.ext; show 256 * r + 1 * k.val = 256 * r + k.val; omega

/-- What a grid point stores that is not the first of its batch item. -/
theorem out_later (hc : ¬cond0_0 i) (xs : Vec Ideal S1024x1024 .bf16) (hx : ∀ z, x0 z ≠ ⊤ ∧ x0 z ≠ ⊥) (y : S1x1024x256.Idx) :
    out0_B_2 c i arg2 harg2 arg3 harg3 arg4 harg4 arg5 harg5 hc x0 x1 xs y = ∑ k : Fin 1024, x0 (ix3 0 (y 2) k) * xs (ix2 (y 1) k) := by
  obtain ⟨j, r, rfl⟩ : ∃ (j : Fin 1024) (r : Fin 256), y = ix3 0 j r := ⟨y 1, y 2, Spec.eq_ix3 y⟩
  unfold out0_B_2
  rw [View.read_writes_eq_canon _ _ _ (cover0_B_2 c i arg2 harg2 arg3 harg3 arg4 harg4 arg5 harg5 hc x0 x1 xs)]
  refine (congrFun (View.canon_cons_unit_lit' _ _ _ (by decide)) _).trans ?_
  unfold kernelRun0_B.sl.r_3 kernelRun0_B.sl.r_2 kernelRun0_B.sl.r_1 kernelRun0_B.sl.r
  rw [load_rows]
  exact stored_apply x0 xs _ _ _ _ (load_held arg5 harg5 xs 0 _ 0 rfl _) (load_held arg5 harg5 xs 1 _ 256 rfl _)
    (load_held arg5 harg5 xs 2 _ 512 rfl _) (load_held arg5 harg5 xs 3 _ 768 rfl _) hx j r

/-- What the first grid point of a batch item stores. -/
theorem out_first (hc : cond0_0 i) (hx : ∀ z, x0 z ≠ ⊤ ∧ x0 z ≠ ⊥) (y : S1x1024x256.Idx) :
    out0_A_2 c i arg2 harg2 arg3 harg3 arg4 harg4 arg5 harg5 hc x0 x1 y = ∑ k : Fin 1024, x0 (ix3 0 (y 2) k) * x1 (ix3 0 k (y 1)) := by
  obtain ⟨j, r, rfl⟩ : ∃ (j : Fin 1024) (r : Fin 256), y = ix3 0 j r := ⟨y 1, y 2, Spec.eq_ix3 y⟩
  unfold out0_A_2
  rw [View.read_writes_eq_canon _ _ _ (cover0_A_2 c i arg2 harg2 arg3 harg3 arg4 harg4 arg5 harg5 hc x0 x1)]
  refine (congrFun (View.canon_cons_unit_lit' _ _ _ (by decide)) _).trans ?_
  unfold kernelRun0_A.sl.r_3 kernelRun0_A.sl.r_2 kernelRun0_A.sl.r_1 kernelRun0_A.sl.r
  rw [load_rows]
  refine (stored_apply x0 (written arg3 harg3 x1) _ _ _ _ (load_written c arg3 harg3 arg5 x1 0 _ 0 rfl _) (load_written c arg3 harg3 arg5 x1 1 _ 256 rfl _)
    (load_written c arg3 harg3 arg5 x1 2 _ 512 rfl _) (load_written c arg3 harg3 arg5 x1 3 _ 768 rfl _) hx j r).trans ?_
  refine Finset.sum_congr rfl fun k _ => ?_
  rw [written_apply]
  rfl

/-- The scratch buffer the first grid point of a batch item leaves to the others. -/
theorem kept_first (hc : cond0_0 i) (y : S1024x1024.Idx) :
    sout0_A_0 c i arg2 harg2 arg3 harg3 arg4 harg4 arg5 harg5 hc x0 x1 y = x1 (ix3 0 (y 1) (y 0)) := by
  unfold sout0_A_0
  rw [View.read_writes_eq_canon _ _ _ (scover0_A_0 c i arg2 harg2 arg3 harg3 arg4 harg4 arg5 harg5 hc x0 x1)]
  refine (congrFun (View.canon_cons_unit_lit' _ _ _ (by decide)) y).trans ?_
  exact written_apply arg3 harg3 x1 y

end Run

end Cert.PowerRightIdeal.Blocks
-- ==== Proof.PowerRightValue.lean ====
module

public import proofs.«01_k».proof.Proof.PowerRightRead

/-! # What the right-side power kernel leaves in its result array

At the ideal values, where the second-moment matrices are finite: the transposed product of each of
them with its old basis. -/

@[expose] public section

set_option maxRecDepth 16384

noncomputable section

namespace Cert.PowerRightIdeal.Arrays

open Cert.PowerRightIdeal Cert.PowerRightIdeal.Gen Cert.PowerRightIdeal.Value Cert.PowerRightIdeal.Blocks Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem point_lt (t : Fin cfg0.N) : t.val < 24 := Nat.lt_of_lt_of_eq t.isLt N_0

/-- The batch item of a grid point. -/
def item (t : Fin cfg0.N) : Fin 6 := ⟨t.val / 4, by have := point_lt t; omega⟩

/-- Row `i` of the block of rows of a grid point. -/
def row (t : Fin cfg0.N) (i : Fin 256) : Fin 1024 := ⟨t.val % 4 * 256 + i.val, by have := i.isLt; omega⟩

/-- The grid point of batch item `b` and block `r` of rows. -/
def point (b r : ℕ) (hb : b < 6) (hr : r < 4) : Fin cfg0.N := (⟨4 * b + r, by omega⟩ : Fin 24).cast N_0.symm

theorem coords0 (t : Fin cfg0.N) : (grid0.coords t 0).val = t.val / 4 := by
  have e : (grid0.coords t 0).val = t.val / 4 % 6 := Pipeline.Grid.coords_val t 0 (by decide) rfl
  have := point_lt t
  omega

theorem coords1 (t : Fin cfg0.N) : (grid0.coords t 1).val = t.val % 4 := by
  have e : (grid0.coords t 1).val = t.val / 1 % 4 := Pipeline.Grid.coords_val t 1 (by decide) rfl
  omega

theorem word (n : ℕ) (hn : n < 6) : (BitVec.ofNat 32 n).toNat = n := by
  rw [BitVec.toNat_ofNat]; exact Nat.mod_eq_of_lt (by omega)

/-- The blocks of rows are at the point's batch item and rows, -/
theorem at_rows (t : Fin cfg0.N) :
    cc0_transform_0 (grid0.coords t) 0 = t.val / 4 ∧ cc0_transform_0 (grid0.coords t) 1 = t.val % 4 ∧ cc0_transform_0 (grid0.coords t) 2 = 0 :=
  ⟨(word _ (grid0.coords t 0).isLt).trans (coords0 t), (word _ (Nat.lt_of_lt_of_le (grid0.coords t 1).isLt (by decide))).trans (coords1 t), rfl⟩

/-- the bases at the point's batch item, -/
theorem at_basis (t : Fin cfg0.N) :
    cc0_transform_1 (grid0.coords t) 0 = t.val / 4 ∧ cc0_transform_1 (grid0.coords t) 1 = 0 ∧ cc0_transform_1 (grid0.coords t) 2 = 0 :=
  ⟨(word _ (grid0.coords t 0).isLt).trans (coords0 t), rfl, rfl⟩

/-- and the blocks of the result at the point's batch item and columns. -/
theorem at_columns (t : Fin cfg0.N) :
    cc0_transform_2 (grid0.coords t) 0 = t.val / 4 ∧ cc0_transform_2 (grid0.coords t) 1 = 0 ∧ cc0_transform_2 (grid0.coords t) 2 = t.val % 4 :=
  ⟨(word _ (grid0.coords t 0).isLt).trans (coords0 t), rfl, (word _ (Nat.lt_of_lt_of_le (grid0.coords t 1).isLt (by decide))).trans (coords1 t)⟩

/-- Input block 0 at a point is its rows of the batch item's second-moment matrix. -/
theorem block0 (c : Dev nD) (t : Fin cfg0.N) (i : Fin 256) (k : Fin 1024) :
    (iblk m c 0 t : S1x256x1024.Idx → EReal) (ix3 0 i k) = Spec.mat (m ((c : Thread nD τ).loc main_arg0)) (item t) (row t i) k :=
  Spec.mat_of (m ((c : Thread nD τ).loc main_arg0)) (((cfg0.win 0).blk t).view.emb (ix3 (n0 := 1) 0 i k)) (item t) (row t i) k
    (by show cc0_transform_0 (grid0.coords t) 0 * 1 + 1 * 0 = t.val / 4; rw [(at_rows t).1]; omega)
    (by show cc0_transform_0 (grid0.coords t) 1 * 256 + 1 * i.val = t.val % 4 * 256 + i.val; rw [(at_rows t).2.1]; omega)
    (by show cc0_transform_0 (grid0.coords t) 2 * 1024 + 1 * k.val = k.val; rw [(at_rows t).2.2]; omega)

/-- Input block 1 at a point is the batch item's old basis. -/
theorem block1 (c : Dev nD) (t : Fin cfg0.N) (k j : Fin 1024) :
    (iblk m c 1 t : S1x1024x1024.Idx → EReal) (ix3 0 k j) = Spec.mat (m ((c : Thread nD τ).loc main_arg1)) (item t) k j :=
  Spec.mat_of (m ((c : Thread nD τ).loc main_arg1)) (((cfg0.win 1).blk t).view.emb (ix3 (n0 := 1) 0 k j)) (item t) k j
    (by show cc0_transform_1 (grid0.coords t) 0 * 1 + 1 * 0 = t.val / 4; rw [(at_basis t).1]; omega)
    (by show cc0_transform_1 (grid0.coords t) 1 * 1024 + 1 * k.val = k.val; rw [(at_basis t).2.1]; omega)
    (by show cc0_transform_1 (grid0.coords t) 2 * 1024 + 1 * j.val = j.val; rw [(at_basis t).2.2]; omega)

/-- The first grid point of a batch item leaves the old basis, transposed, in the scratch buffer. -/
theorem kept_opening (c : Dev nD) (t : Fin cfg0.N) (h0 : t.val % 4 = 0) (y : S1024x1024.Idx) :
    (outsAt0 m c t.val t.isLt).2 y = Spec.mat (m ((c : Thread nD τ).loc main_arg1)) (item t) (y 1) (y 0) := by
  rw [outsAt0_A m c t h0]
  dsimp only
  rw [kept_first]
  exact block1 m c t (y 1) (y 0)

/-- The others leave it as it was. -/
theorem kept_later (c : Dev nD) (t : Fin cfg0.N) (h0 : ¬t.val % 4 = 0) :
    (outsAt0 m c t.val t.isLt).2 = (outsAt0 m c (t.val - 1) (Nat.lt_of_le_of_lt (Nat.sub_le _ _) t.isLt)).2 := by
  rw [outsAt0_B m c t h0]
  rfl

/-- After every grid point the scratch buffer holds the batch item's old basis, transposed. -/
theorem kept (c : Dev nD) (y : S1024x1024.Idx) : ∀ (n : ℕ) (t : Fin cfg0.N), t.val = n →
    (outsAt0 m c t.val t.isLt).2 y = Spec.mat (m ((c : Thread nD τ).loc main_arg1)) (item t) (y 1) (y 0) := by
  intro n
  induction n with
  | zero => exact fun t ht => kept_opening m c t (by rw [ht]) y
  | succ n ih =>
    intro t ht
    by_cases h0 : t.val % 4 = 0
    · exact kept_opening m c t h0 y
    · rw [kept_later m c t h0]
      refine (ih ⟨t.val - 1, Nat.lt_of_le_of_lt (Nat.sub_le _ _) t.isLt⟩ (by show t.val - 1 = n; omega)).trans ?_
      refine congrArg (fun b => Spec.mat (m ((c : Thread nD τ).loc main_arg1)) b (y 1) (y 0)) (Fin.ext ?_)
      show (t.val - 1) / 4 = t.val / 4
      omega

/-- The result of device `c`: the transposed products. -/
abbrev powers (c : Dev nD) : Buf (Elt Ideal) ((c : Thread nD τ).loc main_v0) :=
  Spec.allPowers (m ((c : Thread nD τ).loc main_arg0)) (m ((c : Thread nD τ).loc main_arg1))

section Finite

variable (hfin : ∀ c : Dev nD, Spec.Finite (ι := S6x1024x1024.Idx) (m ((c : Thread nD τ).loc main_arg0)))

include hfin

/-- Every block of rows is finite. -/
theorem finite_block (c : Dev nD) (t : Fin cfg0.N) : Spec.Finite (ι := S1x256x1024.Idx) (iblk m c 0 t) :=
  fun z => hfin c (((cfg0.win 0).blk t).view.emb z)

omit hfin in
/-- Entry `(j, i)` of the block of columns of a grid point is entry `(j, row i)` of the transposed product. -/
theorem in_place (c : Dev nD) (t : Fin cfg0.N) (y : S1x1024x256.Idx) :
    Spec.power (Spec.mat (m ((c : Thread nD τ).loc main_arg0)) (item t)) (Spec.mat (m ((c : Thread nD τ).loc main_arg1)) (item t)) (y 1) (row t (y 2))
      = powers m c (((cfg0.win 2).blk t).view.emb y) :=
  Spec.allPowers_of (m ((c : Thread nD τ).loc main_arg0)) (m ((c : Thread nD τ).loc main_arg1)) (((cfg0.win 2).blk t).view.emb y) (item t) _ _
    (by show cc0_transform_2 (grid0.coords t) 0 * 1 + 1 * (y 0).val = t.val / 4; rw [(at_columns t).1]; have : (y 0).val < 1 := (y 0).isLt; omega)
    (by show cc0_transform_2 (grid0.coords t) 1 * 1024 + 1 * (y 1).val = (y 1).val; rw [(at_columns t).2.1]; omega)
    (by show cc0_transform_2 (grid0.coords t) 2 * 256 + 1 * (y 2).val = t.val % 4 * 256 + (y 2).val; rw [(at_columns t).2.2]; omega)

omit hfin in
/-- What a later point finds in the scratch buffer. -/
theorem kept_before (c : Dev nD) (t : Fin cfg0.N) (h0 : ¬t.val % 4 = 0) (j k : Fin 1024) :
    (outsAt0 m c (t.val - 1) (Nat.lt_of_le_of_lt (Nat.sub_le _ _) t.isLt)).2 (ix2 j k)
      = Spec.mat (m ((c : Thread nD τ).loc main_arg1)) (item t) k j := by
  rw [← kept_later m c t h0]
  exact kept m c (ix2 j k) t.val t rfl

/-- What the first point of a batch item stores. -/
theorem stored_first (c : Dev nD) (t : Fin cfg0.N) (hc : cond0_0 (grid0.coords t)) (y : S1x1024x256.Idx) :
    out0_A_2 c (grid0.coords t) (ms0_0 t) (hs0_0 t) (ms0_1 t) (hs0_1 t) (ms0_2 t) (hs0_2 t) scM0_0 (Memref.isWhole_whole _) hc (iblk m c 0 t) (iblk m c 1 t) y
      = powers m c (((cfg0.win 2).blk t).view.emb y) := by
  rw [out_first _ _ _ _ _ _ _ _ _ _ _ _ _ (finite_block m hfin c t) y, ← in_place m c t y]
  exact Finset.sum_congr rfl fun k _ => congrArg₂ (· * ·) (block0 m c t (y 2) k) (block1 m c t k (y 1))

/-- What a later point stores. -/
theorem stored_later (c : Dev nD) (t : Fin cfg0.N) (h0 : ¬t.val % 4 = 0) (hc : ¬cond0_0 (grid0.coords t)) (y : S1x1024x256.Idx) :
    out0_B_2 c (grid0.coords t) (ms0_0 t) (hs0_0 t) (ms0_1 t) (hs0_1 t) (ms0_2 t) (hs0_2 t) scM0_0 (Memref.isWhole_whole _) hc (iblk m c 0 t) (iblk m c 1 t)
        (outsAt0 m c (t.val - 1) (Nat.lt_of_le_of_lt (Nat.sub_le _ _) t.isLt)).2 y
      = powers m c (((cfg0.win 2).blk t).view.emb y) := by
  rw [out_later _ _ _ _ _ _ _ _ _ _ _ _ _ _ (finite_block m hfin c t) y, ← in_place m c t y]
  exact Finset.sum_congr rfl fun k _ => congrArg₂ (· * ·) (block0 m c t (y 2) k) (kept_before m c t h0 (y 1) k)

/-- What a point writes back is its block of the result. -/
theorem flushed (c : Dev nD) (t : Fin cfg0.N) :
    (dats m 0 c).flushed 2 t = ((cfg0.win 2).blk t).view.read (Elt Ideal) (powers m c) := by
  by_cases h0 : t.val % 4 = 0
  · rw [flushed2_A m c t h0]
    funext y
    exact stored_first m hfin c t _ y
  · rw [flushed2_B m c t h0]
    funext y
    exact stored_later m hfin c t h0 _ y

omit hfin in
/-- The points' blocks cover the result. -/
theorem cover (i : S6x1024x1024.Idx) : ∃ t : Fin cfg0.N, (cfg0.win 2).flush t = true ∧ i ∈ ((cfg0.win 2).blk t).view.set := by
  have h0 : (i 0).val < 6 := (i 0).isLt
  have h1 : (i 1).val < 1024 := (i 1).isLt
  have h2 : (i 2).val < 1024 := (i 2).isLt
  have hr : (i 2).val / 256 < 4 := by omega
  refine ⟨point (i 0).val ((i 2).val / 256) h0 hr, flush0_2 _, ?_⟩
  have e : (point (i 0).val ((i 2).val / 256) h0 hr).val = 4 * (i 0).val + (i 2).val / 256 := rfl
  generalize point (i 0).val ((i 2).val / 256) h0 hr = t at e
  show i ∈ ((View.whole main_v0).slice (win0_2.rect t)).set
  rw [View.set_slice_whole, Rect.mem_set_unit]
  obtain ⟨e0, e1, e2⟩ := at_columns t
  intro a
  match a with
  | ⟨0, _⟩ => show cc0_transform_2 (grid0.coords t) 0 * 1 ≤ (i 0).val ∧ (i 0).val < cc0_transform_2 (grid0.coords t) 0 * 1 + 1; rw [e0]; omega
  | ⟨1, _⟩ => show cc0_transform_2 (grid0.coords t) 1 * 1024 ≤ (i 1).val ∧ (i 1).val < cc0_transform_2 (grid0.coords t) 1 * 1024 + 1024; rw [e1]; omega
  | ⟨2, _⟩ => show cc0_transform_2 (grid0.coords t) 2 * 256 ≤ (i 2).val ∧ (i 2).val < cc0_transform_2 (grid0.coords t) 2 * 256 + 256; rw [e2]; omega

/-- After the run the result is the transposed products. -/
theorem final (c : Dev nD) : (dats m 0 c).arrAt 2 cfg0.N = powers m c :=
  (dats m 0 c).arrAt_eq_of_cover 2 (powers m c) (fun t _ => flushed m hfin c t) cover

/-- The run: the result as a function of the arguments, the arguments unchanged. -/
theorem run : θ_run defs (onTc (τ := τ) (main (F := Ideal))) ⟨m, fun _ => 0, ρ⟩ fun r => ∀ c : Dev nD,
      r.2.mem ((c : Thread nD τ).loc main_v0) = powers m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m hfin c), (h c).2⟩) (run_blocks m ρ)

end Finite

end Cert.PowerRightIdeal.Arrays
-- ==== Proof.PowerRightRef.lean ====
module

public import proofs.«01_k».proof.Proof.PowerSpec
public import proofs.«01_k».proof.Proof.Gen.PowerRightRefIdeal.Value
public import Idealize.ShloMosaic.Lib.Pointwise

/-! # The right-side power reference, element by element

At the ideal values its result is the transposed product. -/

@[expose] public section

set_option maxRecDepth 16384

noncomputable section

namespace Cert.PowerRightRefIdeal.Read

open Cert.PowerRightRefIdeal Cert.PowerRightRefIdeal.Gen Idealize.ShloMosaic Idealize.ShloMosaic.TcCoe Idealize.SL.Sem

/-- The reference's result: the product of every batch item, transposed. -/
theorem G2_eq (a0 : Vec Ideal S6x1024x1024 .f32) (a1 : Vec Ideal S6x1024x1024 .bf16) : Value.G2 a0 a1 = Spec.allPowers a0 a1 := by
  funext y
  unfold Value.G2 k0_pay1
  simp only [pointwise]
  simp only [zero_add]
  rfl
variable (m : (ℓ : Loc nD τ sig) → Buf (Elt Ideal) ℓ) (ρ : Dev nD → PrngReg)

/-- The reference's run: the result as a function of the arguments, the arguments unchanged. -/
theorem run : θ_run defs (onTc (τ := τ) (main (F := Ideal))) ⟨m, fun _ => 0, ρ⟩ fun r => ∀ c : Dev nD,
      r.2.mem ((c : Thread nD τ).loc main_v0) = Spec.allPowers (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (G2_eq _ _), (h c).2⟩) (Value.run m ρ)

end Cert.PowerRightRefIdeal.Read
-- ==== Proof.PowerPre.lean ====
module

public import proofs.«01_k».proof.Proof.PowerSpec
public import proofs.«01_k».proof.Proof.Gen.Pre_finite_stat
public import proofs.«01_k».proof.Proof.Gen.Pre_finite_right
public import Idealize.ShloMosaic.Lib.ReduceAll
public import Idealize.ShloMosaic.Lib.Pointwise

/-! # What the preconditions of the power claims say

Every entry of the second-moment matrices is a real number. -/

@[expose] public section

set_option maxRecDepth 16384

noncomputable section

namespace Cert.Spec

open Idealize.ShloMosaic

instance : Subsingleton (⟨0, ![]⟩ : Shape).Idx := ⟨fun a b => funext fun x => x.elim0⟩

/-- A number whose absolute value compares below infinity is a real number. -/
theorem finite_of_below (x : EReal) (h : BitVec.ofBool (decide (max x (-x) < Ideal.ofBits .f32 0x7F800000#32)) = 1#1) : x ≠ ⊤ ∧ x ≠ ⊥ := by
  have e : Ideal.ofBits .f32 0x7F800000#32 = ⊤ := by simp [Ideal.ofBits, Ideal.ieee]
  rw [e] at h
  have hlt : max x (-x) < ⊤ := by
    by_contra hn
    rw [decide_eq_false hn] at h
    exact absurd h (by decide)
  exact ⟨(lt_of_le_of_lt (le_max_left _ _) hlt).ne, fun hb => (lt_of_le_of_lt (le_max_right _ _) hlt).ne (by rw [hb]; rfl)⟩

end Cert.Spec

namespace Cert.Pre_finite_stat.Read

open Idealize.ShloMosaic

/-- Where the precondition of the left side holds every second-moment entry is a real number. -/
theorem finite (a0 : FVec Ideal S6x1536x1536 .f32) (a1 : FVec Ideal S6x1536x1536 .bf16)
    (h : (letI := Gen.facts; fn (F := Ideal) a0 a1) = fun _ => 1#1) : Spec.Finite (ι := S6x1536x1536.Idx) a0 := by
  intro y
  letI := Gen.facts
  have e := Host.reduce_andi_all _ _ _ _ _ (congrFun h ix0) y
  simp only [pointwise] at e
  exact Spec.finite_of_below (a0 y) e

end Cert.Pre_finite_stat.Read

namespace Cert.Pre_finite_right.Read

open Idealize.ShloMosaic

/-- Where the precondition of the right side holds every second-moment entry is a real number. -/
theorem finite (a0 : FVec Ideal S6x1024x1024 .f32) (a1 : FVec Ideal S6x1024x1024 .bf16)
    (h : (letI := Gen.facts; fn (F := Ideal) a0 a1) = fun _ => 1#1) : Spec.Finite (ι := S6x1024x1024.Idx) a0 := by
  intro y
  letI := Gen.facts
  have e := Host.reduce_andi_all _ _ _ _ _ (congrFun h ix0) y
  simp only [pointwise] at e
  exact Spec.finite_of_below (a0 y) e

end Cert.Pre_finite_right.Read
-- ==== Proof.SolveRun.lean ====
module

public import proofs.«01_k».proof.Proof.Gen.Solve.Frame.Runs

@[expose] public section

-- membership in a rectangle of production extents (`View.cover_of_tiled`): the elaborator's structural look
-- recurses once per coordinate of the long axes
set_option maxRecDepth 16384

noncomputable section

namespace Cert.Solve.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

-- (the run's proof term is large: the definition's epilogue — `abstractNestedProofs` — walks it past the default budget)
set_option maxHeartbeats 40000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S1x1536x1536 .f32) (harg1 : arg1.IsWhole) (arg2 : Memref sig .tc .vmem S1x128x128 .f32) (harg2 : arg2.IsWhole) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S1x128x128 .f32) (harg12 : arg12.IsWhole) (arg13 : Memref sig .tc .vmem S1x128x128 .f32) (harg13 : arg13.IsWhole) (arg14 : Memref sig .tc .vmem S1x1408x128 .f32) (harg14 : arg14.IsWhole) (arg15 : Memref sig .tc .vmem S1x1280x128 .f32) (harg15 : arg15.IsWhole) (arg16 : Memref sig .tc .vmem S1x1152x128 .f32) (harg16 : arg16.IsWhole) (arg17 : Memref sig .tc .vmem S1x1024x128 .f32) (harg17 : arg17.IsWhole) (arg18 : Memref sig .tc .vmem S1x896x128 .f32) (harg18 : arg18.IsWhole) (arg19 : Memref sig .tc .vmem S1x768x128 .f32) (harg19 : arg19.IsWhole) (arg20 : Memref sig .tc .vmem S1x640x128 .f32) (harg20 : arg20.IsWhole) (arg21 : Memref sig .tc .vmem S1x512x128 .f32) (harg21 : arg21.IsWhole) (arg22 : Memref sig .tc .vmem S1x384x128 .f32) (harg22 : arg22.IsWhole) (arg23 : Memref sig .tc .vmem S1x256x128 .f32) (harg23 : arg23.IsWhole) (arg24 : Memref sig .tc .vmem S1x128x128 .f32) (harg24 : arg24.IsWhole) (arg25 : Memref sig .tc .vmem S1x1536x1536 .bf16) (harg25 : arg25.IsWhole) (arg26 : Memref sig .tc .vmem S1408x1536 .bf16) (harg26 : arg26.IsWhole) (arg27 : Memref sig .tc .vmem S1408x1536 .bf16) (harg27 : arg27.IsWhole) (arg28 : Memref sig .tc .vmem S1408x1536 .bf16) (harg28 : arg28.IsWhole) (arg29 : Memref sig .tc .vmem S1408x1536 .bf16) (harg29 : arg29.IsWhole)
    (x0 : Vec F S1x1536x1536 .f32) (x1 : Vec F S1x128x128 .f32) (x2 : Vec F S1x128x128 .f32) (x3 : Vec F S1x128x128 .f32) (x4 : Vec F S1x128x128 .f32) (x5 : Vec F S1x128x128 .f32) (x6 : Vec F S1x128x128 .f32) (x7 : Vec F S1x128x128 .f32) (x8 : Vec F S1x128x128 .f32) (x9 : Vec F S1x128x128 .f32) (x10 : Vec F S1x128x128 .f32) (x11 : Vec F S1x128x128 .f32) (x12 : Vec F S1x128x128 .f32) (x13 : Vec F S1x1408x128 .f32) (x14 : Vec F S1x1280x128 .f32) (x15 : Vec F S1x1152x128 .f32) (x16 : Vec F S1x1024x128 .f32) (x17 : Vec F S1x896x128 .f32) (x18 : Vec F S1x768x128 .f32) (x19 : Vec F S1x640x128 .f32) (x20 : Vec F S1x512x128 .f32) (x21 : Vec F S1x384x128 .f32) (x22 : Vec F S1x256x128 .f32) (x23 : Vec F S1x128x128 .f32) :
    Σ' (L24 : List (View.Piece (Elt F) S1x1536x1536 .bf16)), Σ' (LT0 : List (View.Piece (Elt F) S1408x1536 .bf16)), Σ' (LT1 : List (View.Piece (Elt F) S1408x1536 .bf16)), Σ' (LT2 : List (View.Piece (Elt F) S1408x1536 .bf16)), { LT3 : List (View.Piece (Elt F) S1408x1536 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f LT0) ∗ (∃ f, arg27.view.loc (c : Thread nD τ) ↦[arg27.view.set]{fullShare} arg27.view.writes (Elt F) f LT1) ∗ (∃ f, arg28.view.loc (c : Thread nD τ) ↦[arg28.view.set]{fullShare} arg28.view.writes (Elt F) f LT2) ∗ (∃ f, arg29.view.loc (c : Thread nD τ) ↦[arg29.view.set]{fullShare} arg29.view.writes (Elt F) f LT3)) -∗ K ⟨⟩))
          ⊢ wp frame (wpE (defs₀ (F := F)) Variants.none c none) E (cc0_solve_1536 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, fun E K => ?run⟩
  case run =>
    simp only [cc0_solve_1536_eq_skeleton]; unfold cc0_solve_1536_skel
    simp only [k0_part35_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]; · iexists _; iexact H24
    isplitl [HS0]; · iexists _; iexact HS0
    isplitl [HS1]; · iexists _; iexact HS1
    isplitl [HS2]; · iexists _; iexact HS2
    iexists _; iexact HS3

end Cert.Solve.Gen

end
-- ==== Proof.SolveFrame.lean ====
module

public import proofs.«01_k».proof.Proof.SolveRun
public import Idealize.ShloMosaic.Lib.Claim

/-! # The solve kernel runs to the end

As it is computed with machine numbers: from the body's run (Proof/SolveRun.lean), the whole call's. -/

@[expose] public section

set_option maxRecDepth 16384

noncomputable section

namespace Cert.Solve.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)
/-- The run's pieces for output 24 tile its block (12 stores of `S1x128x1536`, checked by the kernel's evaluation: Lib/Ring.lean `Piece.tiledL`, linear in the pieces, through a loop's `@[irreducible]` trip theorem too), so they cover it. -/
theorem cover0_A_24 (c : Dev nD) (i : grid0.Coords) (arg1 : Memref sig .tc .vmem S1x1536x1536 .f32) (harg1 : arg1.IsWhole) (arg2 : Memref sig .tc .vmem S1x128x128 .f32) (harg2 : arg2.IsWhole) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S1x128x128 .f32) (harg12 : arg12.IsWhole) (arg13 : Memref sig .tc .vmem S1x128x128 .f32) (harg13 : arg13.IsWhole) (arg14 : Memref sig .tc .vmem S1x1408x128 .f32) (harg14 : arg14.IsWhole) (arg15 : Memref sig .tc .vmem S1x1280x128 .f32) (harg15 : arg15.IsWhole) (arg16 : Memref sig .tc .vmem S1x1152x128 .f32) (harg16 : arg16.IsWhole) (arg17 : Memref sig .tc .vmem S1x1024x128 .f32) (harg17 : arg17.IsWhole) (arg18 : Memref sig .tc .vmem S1x896x128 .f32) (harg18 : arg18.IsWhole) (arg19 : Memref sig .tc .vmem S1x768x128 .f32) (harg19 : arg19.IsWhole) (arg20 : Memref sig .tc .vmem S1x640x128 .f32) (harg20 : arg20.IsWhole) (arg21 : Memref sig .tc .vmem S1x512x128 .f32) (harg21 : arg21.IsWhole) (arg22 : Memref sig .tc .vmem S1x384x128 .f32) (harg22 : arg22.IsWhole) (arg23 : Memref sig .tc .vmem S1x256x128 .f32) (harg23 : arg23.IsWhole) (arg24 : Memref sig .tc .vmem S1x128x128 .f32) (harg24 : arg24.IsWhole) (arg25 : Memref sig .tc .vmem S1x1536x1536 .bf16) (harg25 : arg25.IsWhole) (arg26 : Memref sig .tc .vmem S1408x1536 .bf16) (harg26 : arg26.IsWhole) (arg27 : Memref sig .tc .vmem S1408x1536 .bf16) (harg27 : arg27.IsWhole) (arg28 : Memref sig .tc .vmem S1408x1536 .bf16) (harg28 : arg28.IsWhole) (arg29 : Memref sig .tc .vmem S1408x1536 .bf16) (harg29 : arg29.IsWhole)
    (x0 : Vec F S1x1536x1536 .f32) (x1 : Vec F S1x128x128 .f32) (x2 : Vec F S1x128x128 .f32) (x3 : Vec F S1x128x128 .f32) (x4 : Vec F S1x128x128 .f32) (x5 : Vec F S1x128x128 .f32) (x6 : Vec F S1x128x128 .f32) (x7 : Vec F S1x128x128 .f32) (x8 : Vec F S1x128x128 .f32) (x9 : Vec F S1x128x128 .f32) (x10 : Vec F S1x128x128 .f32) (x11 : Vec F S1x128x128 .f32) (x12 : Vec F S1x128x128 .f32) (x13 : Vec F S1x1408x128 .f32) (x14 : Vec F S1x1280x128 .f32) (x15 : Vec F S1x1152x128 .f32) (x16 : Vec F S1x1024x128 .f32) (x17 : Vec F S1x896x128 .f32) (x18 : Vec F S1x768x128 .f32) (x19 : Vec F S1x640x128 .f32) (x20 : Vec F S1x512x128 .f32) (x21 : Vec F S1x384x128 .f32) (x22 : Vec F S1x256x128 .f32) (x23 : Vec F S1x128x128 .f32) (y : S1x1536x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 x22 x23).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 x22 x23).1 S1x128x1536.size (by sl_kernel_rfl) y

/-- What the run leaves in output 24's staging buffer: its pieces read back over junk. -/
def out0_A_24 (c : Dev nD) (i : grid0.Coords) (arg1 : Memref sig .tc .vmem S1x1536x1536 .f32) (harg1 : arg1.IsWhole) (arg2 : Memref sig .tc .vmem S1x128x128 .f32) (harg2 : arg2.IsWhole) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S1x128x128 .f32) (harg12 : arg12.IsWhole) (arg13 : Memref sig .tc .vmem S1x128x128 .f32) (harg13 : arg13.IsWhole) (arg14 : Memref sig .tc .vmem S1x1408x128 .f32) (harg14 : arg14.IsWhole) (arg15 : Memref sig .tc .vmem S1x1280x128 .f32) (harg15 : arg15.IsWhole) (arg16 : Memref sig .tc .vmem S1x1152x128 .f32) (harg16 : arg16.IsWhole) (arg17 : Memref sig .tc .vmem S1x1024x128 .f32) (harg17 : arg17.IsWhole) (arg18 : Memref sig .tc .vmem S1x896x128 .f32) (harg18 : arg18.IsWhole) (arg19 : Memref sig .tc .vmem S1x768x128 .f32) (harg19 : arg19.IsWhole) (arg20 : Memref sig .tc .vmem S1x640x128 .f32) (harg20 : arg20.IsWhole) (arg21 : Memref sig .tc .vmem S1x512x128 .f32) (harg21 : arg21.IsWhole) (arg22 : Memref sig .tc .vmem S1x384x128 .f32) (harg22 : arg22.IsWhole) (arg23 : Memref sig .tc .vmem S1x256x128 .f32) (harg23 : arg23.IsWhole) (arg24 : Memref sig .tc .vmem S1x128x128 .f32) (harg24 : arg24.IsWhole) (arg25 : Memref sig .tc .vmem S1x1536x1536 .bf16) (harg25 : arg25.IsWhole) (arg26 : Memref sig .tc .vmem S1408x1536 .bf16) (harg26 : arg26.IsWhole) (arg27 : Memref sig .tc .vmem S1408x1536 .bf16) (harg27 : arg27.IsWhole) (arg28 : Memref sig .tc .vmem S1408x1536 .bf16) (harg28 : arg28.IsWhole) (arg29 : Memref sig .tc .vmem S1408x1536 .bf16) (harg29 : arg29.IsWhole)
    (x0 : Vec F S1x1536x1536 .f32) (x1 : Vec F S1x128x128 .f32) (x2 : Vec F S1x128x128 .f32) (x3 : Vec F S1x128x128 .f32) (x4 : Vec F S1x128x128 .f32) (x5 : Vec F S1x128x128 .f32) (x6 : Vec F S1x128x128 .f32) (x7 : Vec F S1x128x128 .f32) (x8 : Vec F S1x128x128 .f32) (x9 : Vec F S1x128x128 .f32) (x10 : Vec F S1x128x128 .f32) (x11 : Vec F S1x128x128 .f32) (x12 : Vec F S1x128x128 .f32) (x13 : Vec F S1x1408x128 .f32) (x14 : Vec F S1x1280x128 .f32) (x15 : Vec F S1x1152x128 .f32) (x16 : Vec F S1x1024x128 .f32) (x17 : Vec F S1x896x128 .f32) (x18 : Vec F S1x768x128 .f32) (x19 : Vec F S1x640x128 .f32) (x20 : Vec F S1x512x128 .f32) (x21 : Vec F S1x384x128 .f32) (x22 : Vec F S1x256x128 .f32) (x23 : Vec F S1x128x128 .f32) : Vec F S1x1536x1536 .bf16 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 x22 x23).1)

/-! ## What the outputs hold after each point -/

/-- What the outputs' staging buffers hold after the body at point `t`: the run's contents at
    the point's memrefs and input blocks. -/
def outsAt0 (c : Dev nD) (t : Fin cfg0.N) : Vec F S1x1536x1536 .bf16 :=
  out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => (outsAt0 m c t)
    | ⟨_ + 25, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t))

set_option maxHeartbeats 40000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  rw [show (dats m 0 c).Φ t.castSucc = Pipeline.ΦA spec0 c from rfl, PhiA0_eq]
  unfold outsAt0
  unfold out0_A_24
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, H17, H18, H19, H20, H21, H22, H23, ⟨%e24, H24⟩, ⟨%fT0, HS0⟩, ⟨%fT1, HS1⟩, ⟨%fT2, HS2⟩, ⟨%fT3, HS3⟩⟩
  isplitl [HS0 HS1 HS2 HS3 Hg]
  · isplitl [HS0 HS1 HS2 HS3]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      iexists _; unfold owns; iexists _; isplitr
      swap; · iexact HS3
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  unfold owns; iexists _; isplitr
  swap; · iexact H24
  ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_of m ρ (dats m) (A_eq m) (run_main m ρ)

/-- THE FRAME: `Cert.quiescent_Solve`'s statement (Defs.lean) at any `F` — Proof.lean cites it at `Bits`:
    `theorem Cert.Proof.claim : Cert.Claim := ⟨Cert.Solve.Gen.facts, fun m ρ _ => Cert.Solve.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23))
      ∧ r.2.sem = fun _ => 0) :=
  θ_run_and (unchanged m ρ) ((θ_run defs _ _).mono (fun _ h => h.2) (run_main_quiescent m ρ))

end Cert.Solve.Gen

end
-- ==== Proof.SolveSpec.lean ====
module

public import proofs.«01_k».proof.Proof.PowerSpec

/-! # Forward substitution as a function of its arguments

Over the extended reals. A lower triangular matrix of `n` blocks of 128 rows is given by the inverses
`D j` of its diagonal blocks and by one panel `C i` for each block column, the rows below the diagonal
block. For a right-hand side `y` the rows of the solution come block by block:
`x j = D j * (y j - the sum over i < j of C i at block row j * x i)`. -/

@[expose] public section

noncomputable section

namespace Cert.Spec

open Idealize.ShloMosaic

/-- Row `q` of block `j` of the solution for one right-hand side. -/
def solved (D : ℕ → Fin 128 → Fin 128 → EReal) (C : ℕ → ℕ → Fin 128 → EReal) (y : ℕ → EReal) (j : ℕ) (q : Fin 128) : EReal :=
  ∑ k, D j q k * (y (128 * j + k) - ∑ i : Fin j, ∑ l, C i (128 * (j - i - 1) + k) l * solved D C y i l)
termination_by j
decreasing_by exact i.isLt

/-- Row `r` of the solution. -/
def solvedRow (D : ℕ → Fin 128 → Fin 128 → EReal) (C : ℕ → ℕ → Fin 128 → EReal) (y : ℕ → EReal) (r : ℕ) : EReal :=
  solved D C y (r / 128) ⟨r % 128, Nat.mod_lt _ (by decide)⟩

theorem solvedRow_block (D : ℕ → Fin 128 → Fin 128 → EReal) (C : ℕ → ℕ → Fin 128 → EReal) (y : ℕ → EReal) (j : ℕ) (q : Fin 128) :
    solvedRow D C y (128 * j + q) = solved D C y j q := by
  have hq := q.isLt
  have h1 : (128 * j + q.val) / 128 = j := by omega
  have h2 : (128 * j + q.val) % 128 = q.val := by omega
  unfold solvedRow
  exact congr (congrArg _ h1) (Fin.ext h2)

/-- A real number among the extended reals. -/
def Real (x : EReal) : Prop := x ≠ ⊤ ∧ x ≠ ⊥

theorem Real.exists {x : EReal} (h : Real x) : ∃ r : ℝ, x = r := ⟨x.toReal, (EReal.coe_toReal h.1 h.2).symm⟩

theorem Real.coe (r : ℝ) : Real (r : EReal) := ⟨EReal.coe_ne_top r, EReal.coe_ne_bot r⟩

theorem Real.zero : Real 0 := Real.coe 0

theorem Real.add {x y : EReal} (hx : Real x) (hy : Real y) : Real (x + y) := by
  obtain ⟨a, rfl⟩ := hx.exists
  obtain ⟨b, rfl⟩ := hy.exists
  rw [← EReal.coe_add]; exact .coe _

theorem Real.sub {x y : EReal} (hx : Real x) (hy : Real y) : Real (x - y) := by
  obtain ⟨a, rfl⟩ := hx.exists
  obtain ⟨b, rfl⟩ := hy.exists
  rw [← EReal.coe_sub]; exact .coe _

theorem Real.mul {x y : EReal} (hx : Real x) (hy : Real y) : Real (x * y) := by
  obtain ⟨a, rfl⟩ := hx.exists
  obtain ⟨b, rfl⟩ := hy.exists
  rw [← EReal.coe_mul]; exact .coe _

theorem Real.sum {ι : Type} [Fintype ι] {f : ι → EReal} (h : ∀ i, Real (f i)) : Real (∑ i, f i) :=
  Finset.sum_induction f Real (fun _ _ => Real.add) Real.zero fun i _ => h i

theorem Real.sub_self {x : EReal} (h : Real x) : x - x = 0 := EReal.sub_self h.1 h.2

section Finite

variable {D : ℕ → Fin 128 → Fin 128 → EReal} {C : ℕ → ℕ → Fin 128 → EReal} {y : ℕ → EReal}

/-- The solution of a finite system is finite. -/
theorem Real.solved (hD : ∀ j q k, Real (D j q k)) (hC : ∀ i r l, Real (C i r l)) (hy : ∀ r, Real (y r)) (j : ℕ) :
    ∀ q, Real (solved D C y j q) := by
  induction j using Nat.strong_induction_on with
  | _ j ih =>
    intro q
    rw [Spec.solved]
    exact .sum fun k => (hD _ _ _).mul ((hy _).sub (.sum fun i => .sum fun l => (hC _ _ _).mul (ih i i.isLt l)))

end Finite

/-- A sum over `128 * j` indices is the sum over the blocks of the sums within each. -/
theorem sum_blocks {j K : ℕ} (hK : K = 128 * j) (f : Fin K → EReal) :
    ∑ k, f k = ∑ i : Fin j, ∑ l : Fin 128, f ⟨128 * i + l, by have := i.isLt; have := l.isLt; omega⟩ := by
  subst hK
  rw [← Fintype.sum_prod_type', ← Equiv.sum_comp (finProdFinEquiv.trans (finCongr (Nat.mul_comm j 128)))]
  refine Finset.sum_congr rfl fun x _ => congrArg f (Fin.ext ?_)
  show x.2.val + 128 * x.1.val = 128 * x.1.val + x.2.val
  omega

/-- Row `r` of a batch item, zero past the end. -/
def rowAt {m n w : ℕ} (x : (⟨3, ![m, n, w]⟩ : Shape).Idx → EReal) (b : Fin m) (r : ℕ) (l : Fin w) : EReal :=
  if h : r < n then x (ix3 b ⟨r, h⟩ l) else 0

theorem rowAt_of_lt {m n w : ℕ} (x : (⟨3, ![m, n, w]⟩ : Shape).Idx → EReal) (b : Fin m) {r : ℕ} (l : Fin w) (h : r < n) :
    rowAt x b r l = x (ix3 b ⟨r, h⟩ l) := dif_pos h

theorem Real.rowAt {m n w : ℕ} {x : (⟨3, ![m, n, w]⟩ : Shape).Idx → EReal} (hx : Finite x) (b : Fin m) (r : ℕ) (l : Fin w) :
    Real (rowAt x b r l) := by
  unfold Spec.rowAt
  split
  · exact hx _
  · exact .zero

/-- A triangular system for each of `m` batch items: the right-hand sides, the inverses of the diagonal blocks, and the panels below them. -/
structure System (m : ℕ) where
  y : (⟨3, ![m, 1536, 1536]⟩ : Shape).Idx → EReal
  d : Fin 12 → (⟨3, ![m, 128, 128]⟩ : Shape).Idx → EReal
  c : (i : Fin 11) → (⟨3, ![m, 1408 - 128 * i.val, 128]⟩ : Shape).Idx → EReal

namespace System

variable {m : ℕ} (s : System m)

/-- The inverse of diagonal block `j` of batch item `b`. -/
def diag (b : Fin m) (j : ℕ) (q k : Fin 128) : EReal := if h : j < 12 then s.d ⟨j, h⟩ (ix3 b q k) else 0

/-- Row `r` of panel `i` of batch item `b`. -/
def below (b : Fin m) (i r : ℕ) (l : Fin 128) : EReal := if h : i < 11 then rowAt (s.c ⟨i, h⟩) b r l else 0

/-- Right-hand side `p` of batch item `b`. -/
def right (b : Fin m) (p : Fin 1536) (r : ℕ) : EReal := rowAt s.y b r p

/-- The solutions of every batch item. -/
def solution : (⟨3, ![m, 1536, 1536]⟩ : Shape).Idx → EReal := fun z =>
  solvedRow (s.diag (z 0)) (s.below (z 0)) (s.right (z 0) (z 2)) (z 1).val

theorem diag_of_lt (b : Fin m) (j : Fin 12) (q k : Fin 128) : s.diag b j q k = s.d j (ix3 b q k) := dif_pos j.isLt

theorem below_of_lt (b : Fin m) (i : Fin 11) (r : ℕ) (l : Fin 128) : s.below b i r l = rowAt (s.c i) b r l := dif_pos i.isLt

/-- All the numbers given are finite. -/
structure AllFinite : Prop where
  y : Spec.Finite s.y
  d : ∀ j, Spec.Finite (s.d j)
  c : ∀ i, Spec.Finite (s.c i)

variable {s}

theorem AllFinite.diag (h : s.AllFinite) (b : Fin m) (j : ℕ) (q k : Fin 128) : Real (s.diag b j q k) := by
  unfold System.diag
  split
  · exact h.d _ _
  · exact .zero

theorem AllFinite.below (h : s.AllFinite) (b : Fin m) (i r : ℕ) (l : Fin 128) : Real (s.below b i r l) := by
  unfold System.below
  split
  · exact .rowAt (h.c _) _ _ _
  · exact .zero

theorem AllFinite.right (h : s.AllFinite) (b : Fin m) (p : Fin 1536) (r : ℕ) : Real (s.right b p r) := .rowAt h.y _ _ _

/-- The system whose right-hand sides are `a0`, whose inverse diagonal blocks are `a1` to `a12` and whose panels are `a13` to `a23`. -/
abbrev of (a0 : (⟨3, ![m, 1536, 1536]⟩ : Shape).Idx → EReal)
    (a1 a2 a3 a4 a5 a6 a7 a8 a9 a10 a11 a12 : (⟨3, ![m, 128, 128]⟩ : Shape).Idx → EReal)
    (a13 : (⟨3, ![m, 1408, 128]⟩ : Shape).Idx → EReal) (a14 : (⟨3, ![m, 1280, 128]⟩ : Shape).Idx → EReal)
    (a15 : (⟨3, ![m, 1152, 128]⟩ : Shape).Idx → EReal) (a16 : (⟨3, ![m, 1024, 128]⟩ : Shape).Idx → EReal)
    (a17 : (⟨3, ![m, 896, 128]⟩ : Shape).Idx → EReal) (a18 : (⟨3, ![m, 768, 128]⟩ : Shape).Idx → EReal)
    (a19 : (⟨3, ![m, 640, 128]⟩ : Shape).Idx → EReal) (a20 : (⟨3, ![m, 512, 128]⟩ : Shape).Idx → EReal)
    (a21 : (⟨3, ![m, 384, 128]⟩ : Shape).Idx → EReal) (a22 : (⟨3, ![m, 256, 128]⟩ : Shape).Idx → EReal)
    (a23 : (⟨3, ![m, 128, 128]⟩ : Shape).Idx → EReal) : System m where
  y := a0
  d := fun
    | ⟨0, _⟩ => a1
    | ⟨1, _⟩ => a2
    | ⟨2, _⟩ => a3
    | ⟨3, _⟩ => a4
    | ⟨4, _⟩ => a5
    | ⟨5, _⟩ => a6
    | ⟨6, _⟩ => a7
    | ⟨7, _⟩ => a8
    | ⟨8, _⟩ => a9
    | ⟨9, _⟩ => a10
    | ⟨10, _⟩ => a11
    | ⟨11, _⟩ => a12
  c := fun
    | ⟨0, _⟩ => a13
    | ⟨1, _⟩ => a14
    | ⟨2, _⟩ => a15
    | ⟨3, _⟩ => a16
    | ⟨4, _⟩ => a17
    | ⟨5, _⟩ => a18
    | ⟨6, _⟩ => a19
    | ⟨7, _⟩ => a20
    | ⟨8, _⟩ => a21
    | ⟨9, _⟩ => a22
    | ⟨10, _⟩ => a23

/-- A system `t` of one batch item that is item `b` of `s`. -/
structure IsItem (t : System 1) (s : System m) (b : Fin m) : Prop where
  y : ∀ r p, t.y (ix3 0 r p) = s.y (ix3 b r p)
  d : ∀ j q k, t.d j (ix3 0 q k) = s.d j (ix3 b q k)
  c : ∀ i r l, t.c i (ix3 0 r l) = s.c i (ix3 b r l)

theorem rowAt_item {n w : ℕ} {x : (⟨3, ![1, n, w]⟩ : Shape).Idx → EReal} {x' : (⟨3, ![m, n, w]⟩ : Shape).Idx → EReal} {b : Fin m}
    (h : ∀ r l, x (ix3 0 r l) = x' (ix3 b r l)) (r : ℕ) (l : Fin w) : rowAt x 0 r l = rowAt x' b r l := by
  unfold rowAt
  split
  · exact h _ _
  · rfl

/-- It is finite where `s` is. -/
theorem IsItem.finite {t : System 1} {b : Fin m} (h : IsItem t s b) (hs : s.AllFinite) : t.AllFinite where
  y z := by rw [eq_ix3 z]; exact (h.y _ _).symm ▸ hs.y _
  d j z := by rw [eq_ix3 z]; exact (h.d j _ _).symm ▸ hs.d j _
  c i z := by rw [eq_ix3 z]; exact (h.c i _ _).symm ▸ hs.c i _

/-- Its solution is that item's. -/
theorem IsItem.solution {t : System 1} {b : Fin m} (h : IsItem t s b) (r p : Fin 1536) :
    t.solution (ix3 0 r p) = s.solution (ix3 b r p) := by
  have hd : t.diag 0 = s.diag b := by
    funext j q k
    unfold System.diag
    split
    · exact h.d _ _ _
    · rfl
  have hc : t.below 0 = s.below b := by
    funext i r l
    unfold System.below
    split
    · exact rowAt_item (h.c _) r l
    · rfl
  have hy : t.right 0 p = s.right b p := funext fun r => rowAt_item h.y r p
  show solvedRow (t.diag 0) (t.below 0) (t.right 0 p) r.val = solvedRow (s.diag b) (s.below b) (s.right b p) r.val
  rw [hd, hc, hy]

end System

end Cert.Spec
-- ==== Proof.SolveStep.lean ====
module

public import proofs.«01_k».proof.Proof.SolveSpec
public import Idealize.ShloMosaic.Lib.Pointwise
public import Idealize.ShloMosaic.Lib.Pipeline.Value

/-! # One block row of the solve, element by element

At the ideal values. The kernel splits a block into four parts and multiplies two blocks by six products
of parts; over the extended reals the first part of a finite block is the block and the others are zero,
so that the six products leave one. -/

@[expose] public section

noncomputable section

namespace Cert.Solve

open Idealize.ShloMosaic Idealize.ShloMosaic.TcCoe Idealize.ShloMosaic.Tactic

section Parts

variable {s : Shape}

/-- The nearest `bf16` values. -/
def near (v : FVec Ideal s .f32) : FVec Ideal s .f32 := extf .f32 (truncf .bf16 v)
/-- What they leave. -/
def rest (v : FVec Ideal s .f32) : FVec Ideal s .f32 := subf v (near v)

/-- The four parts of a block: the nearest `bf16` values, what they leave rounded, and that remainder once more in two parts. -/
def part (v : FVec Ideal s .f32) : Fin 4 → FVec Ideal s .bf16
  | 0 => truncf .bf16 (near v)
  | 1 => truncf .bf16 (rest v)
  | 2 => truncf .bf16 (near (rest v))
  | 3 => truncf .bf16 (subf (rest v) (near (rest v)))

/-- Over the extended reals: the value, and zero. -/
def whole (x : EReal) : Fin 4 → EReal
  | 0 => x
  | _ => 0

theorem part_apply {v : FVec Ideal s .f32} {z : s.Idx} (hv : Spec.Real (v z)) (k : Fin 4) : part v k z = whole (v z) k := by
  match k with
  | 0 => rfl
  | 1 => exact hv.sub_self
  | 2 => exact hv.sub_self
  | 3 =>
    show (v z - v z) - (v z - v z) = 0
    rw [hv.sub_self]; exact sub_zero _

end Parts

section Product

variable {K : ℕ}

/-- The contraction of the columns of 128 rows with `K` rows of 1536 columns. -/
abbrev dims (wf : DotDims.WF ⟨2, ![128, K]⟩ ⟨2, ![K, 1536]⟩ ⟨2, ![128, 1536]⟩ [1] [0] [0] [1] [] []) :
    DotDims ⟨2, ![128, K]⟩ ⟨2, ![K, 1536]⟩ ⟨2, ![128, 1536]⟩ where
  lhsContracting := [1]
  rhsContracting := [0]
  lhsNonContracting := [0]
  rhsNonContracting := [1]
  lhsBatch := []
  rhsBatch := []
  wf := wf

variable (wf : DotDims.WF ⟨2, ![128, K]⟩ ⟨2, ![K, 1536]⟩ ⟨2, ![128, 1536]⟩ [1] [0] [0] [1] [] [])
  (a : Fin 4 → FVec Ideal ⟨2, ![128, K]⟩ .bf16) (b : Fin 4 → FVec Ideal ⟨2, ![K, 1536]⟩ .bf16)

/-- One product of parts. -/
def dot (a : FVec Ideal ⟨2, ![128, K]⟩ .bf16) (b : FVec Ideal ⟨2, ![K, 1536]⟩ .bf16) : FVec Ideal ⟨2, ![128, 1536]⟩ .f32 :=
  matmul (dims wf) none a b (constant ⟨2, ![128, 1536]⟩ .f32 0x00000000#32)

theorem dot_apply (a : FVec Ideal ⟨2, ![128, K]⟩ .bf16) (b : FVec Ideal ⟨2, ![K, 1536]⟩ .bf16) (q : Fin 128) (p : Fin 1536) :
    dot wf a b (ix2 q p) = ∑ k : Fin K, a (ix2 q k) * b (ix2 k p) := by
  unfold dot
  simp only [pointwise]
  rw [Ideal.matmul_apply₁_of (dims wf) rfl rfl a b _ _ (fun k => ix2 q k) (fun k => ix2 k p) (fun k => ?_) (fun k => ?_)]
  · simp only [pointwise]
    simp only [zero_add]
    rfl
  · funext x
    match x with
    | ⟨0, _⟩ => rfl
    | ⟨1, _⟩ => rfl
  · funext x
    match x with
    | ⟨0, _⟩ => rfl
    | ⟨1, _⟩ => rfl

/-- The six products of parts the kernel adds up, in its order. -/
def product : FVec Ideal ⟨2, ![128, 1536]⟩ .f32 :=
  addf (addf (addf (addf (addf (dot wf (a 3) (b 0)) (dot wf (a 0) (b 3))) (dot wf (a 1) (b 1))) (dot wf (a 2) (b 0)))
    (dot wf (a 0) (b 2))) (dot wf (a 0) (b 0))

theorem product_apply {A : Fin K → EReal} {B : Fin K → EReal} (q : Fin 128) (p : Fin 1536)
    (ha : ∀ n k, a n (ix2 q k) = whole (A k) n) (hb : ∀ n k, b n (ix2 k p) = whole (B k) n) :
    product wf a b (ix2 q p) = ∑ k : Fin K, A k * B k := by
  show dot wf (a 3) (b 0) (ix2 q p) + dot wf (a 0) (b 3) (ix2 q p) + dot wf (a 1) (b 1) (ix2 q p) + dot wf (a 2) (b 0) (ix2 q p)
    + dot wf (a 0) (b 2) (ix2 q p) + dot wf (a 0) (b 0) (ix2 q p) = _
  simp only [dot_apply, ha, hb, whole, zero_mul, mul_zero, Finset.sum_const_zero, zero_add, add_zero]

end Product

section Step

variable {D : ℕ → Fin 128 → Fin 128 → EReal} {C : ℕ → ℕ → Fin 128 → EReal} {Y : Fin 1536 → ℕ → EReal}
  (hD : ∀ j q k, Spec.Real (D j q k)) (hC : ∀ i r l, Spec.Real (C i r l)) (hY : ∀ p r, Spec.Real (Y p r))

/-- The panels of the block columns to the left, side by side. -/
def panels {j K : ℕ} (f : Fin j → FVec Ideal ⟨2, ![128, 128]⟩ .f32)
    (h : Shape.Concatenates ((List.ofFn fun n : Fin j => (⟨⟨2, ![128, 128]⟩, f n⟩ : (s : Shape) × (s.Idx → EReal))).map (·.1)) ⟨2, ![128, K]⟩ 1) :
    FVec Ideal ⟨2, ![128, K]⟩ .f32 :=
  concatenate ⟨2, ![128, K]⟩ 1 (List.ofFn fun n : Fin j => (⟨⟨2, ![128, 128]⟩, f n⟩ : (s : Shape) × (s.Idx → EReal))) h

theorem panels_apply {j K : ℕ} (f : Fin j → FVec Ideal ⟨2, ![128, 128]⟩ .f32) (h) (q : Fin 128) (i : Fin j) (l : Fin 128)
    (hk : 128 * i.val + l.val < K) :
    panels (K := K) f h (ix2 q ⟨128 * i + l, hk⟩) = f i (ix2 q l) := by
  have hl := l.isLt
  refine concatenate_ofFn_apply (t := ⟨2, ![128, K]⟩) (s₁ := ⟨2, ![128, 128]⟩) 1 f h rfl 128 rfl _ i ?_ (ix2 q l) ?_ ?_
  · show (128 * i.val + l.val) / 128 = i.val
    omega
  · show l.val = (128 * i.val + l.val) % 128
    omega
  · intro b hb
    match b with
    | ⟨0, _⟩ => rfl
    | ⟨1, _⟩ => exact absurd rfl hb

include hD hC hY in
/-- A block row of the solution from the residual: the product with the inverse of the diagonal block. -/
theorem solved_apply (wf) (j : ℕ) (d : FVec Ideal ⟨2, ![128, 128]⟩ .f32) (w : FVec Ideal ⟨2, ![128, 1536]⟩ .f32)
    (hd : ∀ q k, d (ix2 q k) = D j q k)
    (hw : ∀ k p, w (ix2 k p) = Y p (128 * j + k) - ∑ i : Fin j, ∑ l, C i (128 * (j - i - 1) + k) l * Spec.solved D C (Y p) i l)
    (q : Fin 128) (p : Fin 1536) : product wf (part d) (part w) (ix2 q p) = Spec.solved D C (Y p) j q := by
  have hwr : ∀ k p, Spec.Real (w (ix2 k p)) := fun k p => by
    rw [hw]; exact (hY _ _).sub (.sum fun i => .sum fun l => (hC _ _ _).mul (.solved hD hC (hY p) i l))
  rw [Spec.solved, product_apply wf _ _ (A := fun k => d (ix2 q k)) (B := fun k => w (ix2 k p)) q p
    (fun n k => part_apply (by rw [hd]; exact hD _ _ _) n) (fun n k => part_apply (hwr k p) n)]
  exact Finset.sum_congr rfl fun k _ => congrArg₂ (· * ·) (hd q k) (hw k p)

include hC in
/-- The residual of block row `j`: its right-hand side less the panels times the rows solved so far, which `b` holds. -/
theorem residual_apply {K : ℕ} (wf) (j : ℕ) (hK : K = 128 * j) (g : FVec Ideal ⟨2, ![128, K]⟩ .f32)
    (y : FVec Ideal ⟨2, ![128, 1536]⟩ .f32) (b : Fin 4 → FVec Ideal ⟨2, ![K, 1536]⟩ .bf16)
    (hg : ∀ q (i : Fin j) (l : Fin 128) (hk : 128 * i.val + l.val < K), g (ix2 q ⟨128 * i + l, hk⟩) = C i (128 * (j - i - 1) + q) l)
    (hy : ∀ k p, y (ix2 k p) = Y p (128 * j + k))
    (hb : ∀ n (s : Fin K) p, b n (ix2 s p) = whole (Spec.solvedRow D C (Y p) s) n) (k : Fin 128) (p : Fin 1536) :
    subf y (product wf (part g) b) (ix2 k p)
      = Y p (128 * j + k) - ∑ i : Fin j, ∑ l, C i (128 * (j - i - 1) + k) l * Spec.solved D C (Y p) i l := by
  have hp : ∀ s : Fin K, g (ix2 k s) = C (s / 128) (128 * (j - s / 128 - 1) + k) ⟨s % 128, Nat.mod_lt _ (by decide)⟩ := fun s => by
    have hs := s.isLt
    have e : s = ⟨128 * (⟨s / 128, by omega⟩ : Fin j) + (⟨s % 128, Nat.mod_lt _ (by decide)⟩ : Fin 128), by show 128 * (s.val / 128) + s.val % 128 < K; omega⟩ :=
      Fin.ext (by show s.val = 128 * (s.val / 128) + s.val % 128; omega)
    refine (congrArg (fun s => g (ix2 k s)) e).trans ?_
    rw [hg]
  refine congrArg₂ (· - ·) (hy k p) ?_
  rw [product_apply wf _ _ (A := fun s => g (ix2 k s)) (B := fun s => Spec.solvedRow D C (Y p) s) k p
    (fun n s => part_apply (by rw [hp]; exact hC _ _ _) n) (fun n s => hb n s p), Spec.sum_blocks hK]
  refine Finset.sum_congr rfl fun i _ => Finset.sum_congr rfl fun l _ => congrArg₂ (· * ·) ?_ ?_
  · exact hg k i l _
  · exact Spec.solvedRow_block D C (Y p) i l

end Step

end Cert.Solve
-- ==== Proof.SolveRead.lean ====
module

public import proofs.«01_k».proof.Proof.SolveStep
public import proofs.«01_k».proof.Proof.Gen.SolveIdeal.Frame

/-! # What a grid point of the solve kernel stores

At the ideal values. The body solves twelve block rows one after the other and keeps the four parts of
each in four scratch buffers, out of which the later rows read them. -/

@[expose] public section

set_option maxRecDepth 16384

noncomputable section

namespace Cert.SolveIdeal.Blocks

open Cert.SolveIdeal Cert.SolveIdeal.Gen Cert.Solve Idealize.ShloMosaic Idealize.ShloMosaic.TcCoe Idealize.ShloMosaic.Tactic

/-- Block row `k` of a block of `n` rows of 128 columns, as the body loads it. -/
def block {n : ℕ} (arg : Memref sig .tc .vmem ⟨3, ![1, n, 128]⟩ .f32) (harg : arg.IsWhole) (x : Vec Ideal ⟨3, ![1, n, 128]⟩ .f32)
    (k : ℕ) (h : 128 * k + 128 ≤ n) : FVec Ideal S128x128 .f32 :=
  shapeCast S128x128 (View.readAt (Elt Ideal) arg.view (Rect.unit (s := ⟨3, ![1, n, 128]⟩) ![0, 128 * k, 0] S1x128x128.size fun a => match a with
    | ⟨0, _⟩ => Nat.le_of_eq (Nat.zero_add 1)
    | ⟨1, _⟩ => h
    | ⟨2, _⟩ => Nat.le_of_eq (Nat.zero_add 128)).toLoadRect (harg.unread x)) shapeCasts_S1x128x128_S128x128

theorem block_apply {n : ℕ} (arg : Memref sig .tc .vmem ⟨3, ![1, n, 128]⟩ .f32) (harg : arg.IsWhole) (x : Vec Ideal ⟨3, ![1, n, 128]⟩ .f32)
    (k : ℕ) (h : 128 * k + 128 ≤ n) (q l : Fin 128) :
    block arg harg x k h (ix2 q l) = x (ix3 0 ⟨128 * k + q, by have := q.isLt; omega⟩ l) := by
  unfold block
  rw [View.readAt_eq_ld, harg.read_unread]
  simp only [pointwise]
  refine congrArg x ?_
  funext a
  match a with
  | ⟨0, _⟩ => rfl
  | ⟨1, _⟩ => apply Fin.ext; show 128 * k + 1 * q.val = 128 * k + q.val; omega
  | ⟨2, _⟩ => apply Fin.ext; show 0 + 1 * l.val = l.val; omega

/-- A grid point: the staging buffers and what the inputs hold. -/
structure Point where
  c : Dev nD
  i : grid0.Coords
  arg1 : Memref sig .tc .vmem S1x1536x1536 .f32
  harg1 : arg1.IsWhole
  arg2 : Memref sig .tc .vmem S1x128x128 .f32
  harg2 : arg2.IsWhole
  arg3 : Memref sig .tc .vmem S1x128x128 .f32
  harg3 : arg3.IsWhole
  arg4 : Memref sig .tc .vmem S1x128x128 .f32
  harg4 : arg4.IsWhole
  arg5 : Memref sig .tc .vmem S1x128x128 .f32
  harg5 : arg5.IsWhole
  arg6 : Memref sig .tc .vmem S1x128x128 .f32
  harg6 : arg6.IsWhole
  arg7 : Memref sig .tc .vmem S1x128x128 .f32
  harg7 : arg7.IsWhole
  arg8 : Memref sig .tc .vmem S1x128x128 .f32
  harg8 : arg8.IsWhole
  arg9 : Memref sig .tc .vmem S1x128x128 .f32
  harg9 : arg9.IsWhole
  arg10 : Memref sig .tc .vmem S1x128x128 .f32
  harg10 : arg10.IsWhole
  arg11 : Memref sig .tc .vmem S1x128x128 .f32
  harg11 : arg11.IsWhole
  arg12 : Memref sig .tc .vmem S1x128x128 .f32
  harg12 : arg12.IsWhole
  arg13 : Memref sig .tc .vmem S1x128x128 .f32
  harg13 : arg13.IsWhole
  arg14 : Memref sig .tc .vmem S1x1408x128 .f32
  harg14 : arg14.IsWhole
  arg15 : Memref sig .tc .vmem S1x1280x128 .f32
  harg15 : arg15.IsWhole
  arg16 : Memref sig .tc .vmem S1x1152x128 .f32
  harg16 : arg16.IsWhole
  arg17 : Memref sig .tc .vmem S1x1024x128 .f32
  harg17 : arg17.IsWhole
  arg18 : Memref sig .tc .vmem S1x896x128 .f32
  harg18 : arg18.IsWhole
  arg19 : Memref sig .tc .vmem S1x768x128 .f32
  harg19 : arg19.IsWhole
  arg20 : Memref sig .tc .vmem S1x640x128 .f32
  harg20 : arg20.IsWhole
  arg21 : Memref sig .tc .vmem S1x512x128 .f32
  harg21 : arg21.IsWhole
  arg22 : Memref sig .tc .vmem S1x384x128 .f32
  harg22 : arg22.IsWhole
  arg23 : Memref sig .tc .vmem S1x256x128 .f32
  harg23 : arg23.IsWhole
  arg24 : Memref sig .tc .vmem S1x128x128 .f32
  harg24 : arg24.IsWhole
  arg25 : Memref sig .tc .vmem S1x1536x1536 .bf16
  harg25 : arg25.IsWhole
  arg26 : Memref sig .tc .vmem S1408x1536 .bf16
  harg26 : arg26.IsWhole
  arg27 : Memref sig .tc .vmem S1408x1536 .bf16
  harg27 : arg27.IsWhole
  arg28 : Memref sig .tc .vmem S1408x1536 .bf16
  harg28 : arg28.IsWhole
  arg29 : Memref sig .tc .vmem S1408x1536 .bf16
  harg29 : arg29.IsWhole
  x0 : Vec Ideal S1x1536x1536 .f32
  x1 : Vec Ideal S1x128x128 .f32
  x2 : Vec Ideal S1x128x128 .f32
  x3 : Vec Ideal S1x128x128 .f32
  x4 : Vec Ideal S1x128x128 .f32
  x5 : Vec Ideal S1x128x128 .f32
  x6 : Vec Ideal S1x128x128 .f32
  x7 : Vec Ideal S1x128x128 .f32
  x8 : Vec Ideal S1x128x128 .f32
  x9 : Vec Ideal S1x128x128 .f32
  x10 : Vec Ideal S1x128x128 .f32
  x11 : Vec Ideal S1x128x128 .f32
  x12 : Vec Ideal S1x128x128 .f32
  x13 : Vec Ideal S1x1408x128 .f32
  x14 : Vec Ideal S1x1280x128 .f32
  x15 : Vec Ideal S1x1152x128 .f32
  x16 : Vec Ideal S1x1024x128 .f32
  x17 : Vec Ideal S1x896x128 .f32
  x18 : Vec Ideal S1x768x128 .f32
  x19 : Vec Ideal S1x640x128 .f32
  x20 : Vec Ideal S1x512x128 .f32
  x21 : Vec Ideal S1x384x128 .f32
  x22 : Vec Ideal S1x256x128 .f32
  x23 : Vec Ideal S1x128x128 .f32

namespace Point

variable (P : Point)

/-- The inputs as a system of one batch item. -/
abbrev system : Spec.System 1 where
  y := P.x0
  d := fun
    | ⟨0, _⟩ => P.x1
    | ⟨1, _⟩ => P.x2
    | ⟨2, _⟩ => P.x3
    | ⟨3, _⟩ => P.x4
    | ⟨4, _⟩ => P.x5
    | ⟨5, _⟩ => P.x6
    | ⟨6, _⟩ => P.x7
    | ⟨7, _⟩ => P.x8
    | ⟨8, _⟩ => P.x9
    | ⟨9, _⟩ => P.x10
    | ⟨10, _⟩ => P.x11
    | ⟨11, _⟩ => P.x12
  c := fun
    | ⟨0, _⟩ => P.x13
    | ⟨1, _⟩ => P.x14
    | ⟨2, _⟩ => P.x15
    | ⟨3, _⟩ => P.x16
    | ⟨4, _⟩ => P.x17
    | ⟨5, _⟩ => P.x18
    | ⟨6, _⟩ => P.x19
    | ⟨7, _⟩ => P.x20
    | ⟨8, _⟩ => P.x21
    | ⟨9, _⟩ => P.x22
    | ⟨10, _⟩ => P.x23

/-- The right-hand side of block row `k`, as the body loads it. -/
def load (k : ℕ) (h : 128 * k + 128 ≤ 1536) : FVec Ideal S128x1536 .f32 :=
  shapeCast S128x1536 (View.readAt (Elt Ideal) P.arg1.view (Rect.unit (s := S1x1536x1536) ![0, 128 * k, 0] S1x128x1536.size fun a => match a with
    | ⟨0, _⟩ => Nat.le_of_eq (Nat.zero_add 1)
    | ⟨1, _⟩ => h
    | ⟨2, _⟩ => Nat.le_of_eq (Nat.zero_add 1536)).toLoadRect (P.harg1.unread P.x0)) shapeCasts_S1x128x1536_S128x1536

theorem load_apply (k : ℕ) (h : 128 * k + 128 ≤ 1536) (q : Fin 128) (p : Fin 1536) :
    P.load k h (ix2 q p) = P.system.right 0 p (128 * k + q) := by
  have hq := q.isLt
  unfold load
  rw [View.readAt_eq_ld, P.harg1.read_unread]
  simp only [pointwise]
  refine Eq.trans (congrArg P.x0 ?_) (Spec.rowAt_of_lt P.x0 0 p (show 128 * k + q.val < 1536 by omega)).symm
  funext a
  match a with
  | ⟨0, _⟩ => rfl
  | ⟨1, _⟩ => apply Fin.ext; show 128 * k + 1 * q.val = 128 * k + q.val; omega
  | ⟨2, _⟩ => apply Fin.ext; show 0 + 1 * p.val = p.val; omega

/-- The inverse of diagonal block `j`. -/
def inverse (j : Fin 12) : FVec Ideal S128x128 .f32 :=
  match j with
  | ⟨0, _⟩ => block P.arg2 P.harg2 P.x1 0 (by decide)
  | ⟨1, _⟩ => block P.arg3 P.harg3 P.x2 0 (by decide)
  | ⟨2, _⟩ => block P.arg4 P.harg4 P.x3 0 (by decide)
  | ⟨3, _⟩ => block P.arg5 P.harg5 P.x4 0 (by decide)
  | ⟨4, _⟩ => block P.arg6 P.harg6 P.x5 0 (by decide)
  | ⟨5, _⟩ => block P.arg7 P.harg7 P.x6 0 (by decide)
  | ⟨6, _⟩ => block P.arg8 P.harg8 P.x7 0 (by decide)
  | ⟨7, _⟩ => block P.arg9 P.harg9 P.x8 0 (by decide)
  | ⟨8, _⟩ => block P.arg10 P.harg10 P.x9 0 (by decide)
  | ⟨9, _⟩ => block P.arg11 P.harg11 P.x10 0 (by decide)
  | ⟨10, _⟩ => block P.arg12 P.harg12 P.x11 0 (by decide)
  | ⟨11, _⟩ => block P.arg13 P.harg13 P.x12 0 (by decide)

theorem inverse_apply (j : Fin 12) (q k : Fin 128) : P.inverse j (ix2 q k) = P.system.diag 0 j q k := by
  have e : P.inverse j (ix2 q k) = P.system.d j (ix3 0 ⟨128 * 0 + q, by have := q.isLt; omega⟩ k) := by
    fin_cases j <;> exact block_apply _ _ _ 0 (by decide) q k
  rw [e, P.system.diag_of_lt]
  exact congrArg (fun q => P.system.d j (ix3 0 q k)) (Fin.ext (by show 128 * 0 + q.val = q.val; omega))

/-- The rows of panel `i` that meet block row `j`. -/
def panel (j : ℕ) (hj : j ≤ 11) (i : Fin j) : FVec Ideal S128x128 .f32 :=
  match i with
  | ⟨0, h⟩ => block P.arg14 P.harg14 P.x13 (j - 0 - 1) (by omega)
  | ⟨1, h⟩ => block P.arg15 P.harg15 P.x14 (j - 1 - 1) (by omega)
  | ⟨2, h⟩ => block P.arg16 P.harg16 P.x15 (j - 2 - 1) (by omega)
  | ⟨3, h⟩ => block P.arg17 P.harg17 P.x16 (j - 3 - 1) (by omega)
  | ⟨4, h⟩ => block P.arg18 P.harg18 P.x17 (j - 4 - 1) (by omega)
  | ⟨5, h⟩ => block P.arg19 P.harg19 P.x18 (j - 5 - 1) (by omega)
  | ⟨6, h⟩ => block P.arg20 P.harg20 P.x19 (j - 6 - 1) (by omega)
  | ⟨7, h⟩ => block P.arg21 P.harg21 P.x20 (j - 7 - 1) (by omega)
  | ⟨8, h⟩ => block P.arg22 P.harg22 P.x21 (j - 8 - 1) (by omega)
  | ⟨9, h⟩ => block P.arg23 P.harg23 P.x22 (j - 9 - 1) (by omega)
  | ⟨10, h⟩ => block P.arg24 P.harg24 P.x23 (j - 10 - 1) (by omega)
  | ⟨k + 11, h⟩ => absurd h (by omega)

theorem panel_apply (j : ℕ) (hj : j ≤ 11) (i : Fin j) (q l : Fin 128) :
    P.panel j hj i (ix2 q l) = P.system.below 0 i (128 * (j - i - 1) + q) l := by
  have hq := q.isLt
  have hi := i.isLt
  refine Eq.trans ?_ (P.system.below_of_lt 0 ⟨i, by omega⟩ _ l).symm
  match i with
  | ⟨0, h⟩ => exact (block_apply P.arg14 P.harg14 P.x13 (j - 0 - 1) (by omega) q l).trans (Spec.rowAt_of_lt P.x13 0 l (show 128 * (j - 0 - 1) + q.val < 1408 by omega)).symm
  | ⟨1, h⟩ => exact (block_apply P.arg15 P.harg15 P.x14 (j - 1 - 1) (by omega) q l).trans (Spec.rowAt_of_lt P.x14 0 l (show 128 * (j - 1 - 1) + q.val < 1280 by omega)).symm
  | ⟨2, h⟩ => exact (block_apply P.arg16 P.harg16 P.x15 (j - 2 - 1) (by omega) q l).trans (Spec.rowAt_of_lt P.x15 0 l (show 128 * (j - 2 - 1) + q.val < 1152 by omega)).symm
  | ⟨3, h⟩ => exact (block_apply P.arg17 P.harg17 P.x16 (j - 3 - 1) (by omega) q l).trans (Spec.rowAt_of_lt P.x16 0 l (show 128 * (j - 3 - 1) + q.val < 1024 by omega)).symm
  | ⟨4, h⟩ => exact (block_apply P.arg18 P.harg18 P.x17 (j - 4 - 1) (by omega) q l).trans (Spec.rowAt_of_lt P.x17 0 l (show 128 * (j - 4 - 1) + q.val < 896 by omega)).symm
  | ⟨5, h⟩ => exact (block_apply P.arg19 P.harg19 P.x18 (j - 5 - 1) (by omega) q l).trans (Spec.rowAt_of_lt P.x18 0 l (show 128 * (j - 5 - 1) + q.val < 768 by omega)).symm
  | ⟨6, h⟩ => exact (block_apply P.arg20 P.harg20 P.x19 (j - 6 - 1) (by omega) q l).trans (Spec.rowAt_of_lt P.x19 0 l (show 128 * (j - 6 - 1) + q.val < 640 by omega)).symm
  | ⟨7, h⟩ => exact (block_apply P.arg21 P.harg21 P.x20 (j - 7 - 1) (by omega) q l).trans (Spec.rowAt_of_lt P.x20 0 l (show 128 * (j - 7 - 1) + q.val < 512 by omega)).symm
  | ⟨8, h⟩ => exact (block_apply P.arg22 P.harg22 P.x21 (j - 8 - 1) (by omega) q l).trans (Spec.rowAt_of_lt P.x21 0 l (show 128 * (j - 8 - 1) + q.val < 384 by omega)).symm
  | ⟨9, h⟩ => exact (block_apply P.arg23 P.harg23 P.x22 (j - 9 - 1) (by omega) q l).trans (Spec.rowAt_of_lt P.x22 0 l (show 128 * (j - 9 - 1) + q.val < 256 by omega)).symm
  | ⟨10, h⟩ => exact (block_apply P.arg24 P.harg24 P.x23 (j - 10 - 1) (by omega) q l).trans (Spec.rowAt_of_lt P.x23 0 l (show 128 * (j - 10 - 1) + q.val < 128 by omega)).symm
  | ⟨k + 11, h⟩ => exact absurd h (by omega)

/-- The scratch buffers: the high parts, then the three remainders. -/
def buffer : Fin 4 → Memref sig .tc .vmem S1408x1536 .bf16
  | 0 => P.arg26
  | 1 => P.arg27
  | 2 => P.arg28
  | 3 => P.arg29

/-- What was written to each of them once `j` block rows are solved. -/
def scratch : Fin 4 → ℕ → List (View.Piece (Elt Ideal) S1408x1536 .bf16)
  | 0, 1 => kernelRun0_A.sl.HS0_1 P.c P.arg1 P.harg1 P.arg2 P.harg2 P.x0 P.x1
  | 0, 2 => kernelRun0_A.sl.HS0_2 P.c P.arg1 P.harg1 P.arg2 P.harg2 P.arg3 P.harg3 P.arg14 P.harg14 P.arg26 P.arg27 P.arg28 P.arg29 P.x0 P.x1 P.x2 P.x13
  | 0, 3 => kernelRun0_A.sl.HS0_3 P.c P.arg1 P.harg1 P.arg2 P.harg2 P.arg3 P.harg3 P.arg4 P.harg4 P.arg14 P.harg14 P.arg15 P.harg15 P.arg26 P.arg27 P.arg28 P.arg29 P.x0 P.x1 P.x2 P.x3 P.x13 P.x14
  | 0, 4 => kernelRun0_A.sl.HS0_4 P.c P.arg1 P.harg1 P.arg2 P.harg2 P.arg3 P.harg3 P.arg4 P.harg4 P.arg5 P.harg5 P.arg14 P.harg14 P.arg15 P.harg15 P.arg16 P.harg16 P.arg26 P.arg27 P.arg28 P.arg29 P.x0 P.x1 P.x2 P.x3 P.x4 P.x13 P.x14 P.x15
  | 0, 5 => kernelRun0_A.sl.HS0_5 P.c P.arg1 P.harg1 P.arg2 P.harg2 P.arg3 P.harg3 P.arg4 P.harg4 P.arg5 P.harg5 P.arg6 P.harg6 P.arg14 P.harg14 P.arg15 P.harg15 P.arg16 P.harg16 P.arg17 P.harg17 P.arg26 P.arg27 P.arg28 P.arg29 P.x0 P.x1 P.x2 P.x3 P.x4 P.x5 P.x13 P.x14 P.x15 P.x16
  | 0, 6 => kernelRun0_A.sl.HS0_6 P.c P.arg1 P.harg1 P.arg2 P.harg2 P.arg3 P.harg3 P.arg4 P.harg4 P.arg5 P.harg5 P.arg6 P.harg6 P.arg7 P.harg7 P.arg14 P.harg14 P.arg15 P.harg15 P.arg16 P.harg16 P.arg17 P.harg17 P.arg18 P.harg18 P.arg26 P.arg27 P.arg28 P.arg29 P.x0 P.x1 P.x2 P.x3 P.x4 P.x5 P.x6 P.x13 P.x14 P.x15 P.x16 P.x17
  | 0, 7 => kernelRun0_A.sl.HS0_7 P.c P.arg1 P.harg1 P.arg2 P.harg2 P.arg3 P.harg3 P.arg4 P.harg4 P.arg5 P.harg5 P.arg6 P.harg6 P.arg7 P.harg7 P.arg8 P.harg8 P.arg14 P.harg14 P.arg15 P.harg15 P.arg16 P.harg16 P.arg17 P.harg17 P.arg18 P.harg18 P.arg19 P.harg19 P.arg26 P.arg27 P.arg28 P.arg29 P.x0 P.x1 P.x2 P.x3 P.x4 P.x5 P.x6 P.x7 P.x13 P.x14 P.x15 P.x16 P.x17 P.x18
  | 0, 8 => kernelRun0_A.sl.HS0_8 P.c P.arg1 P.harg1 P.arg2 P.harg2 P.arg3 P.harg3 P.arg4 P.harg4 P.arg5 P.harg5 P.arg6 P.harg6 P.arg7 P.harg7 P.arg8 P.harg8 P.arg9 P.harg9 P.arg14 P.harg14 P.arg15 P.harg15 P.arg16 P.harg16 P.arg17 P.harg17 P.arg18 P.harg18 P.arg19 P.harg19 P.arg20 P.harg20 P.arg26 P.arg27 P.arg28 P.arg29 P.x0 P.x1 P.x2 P.x3 P.x4 P.x5 P.x6 P.x7 P.x8 P.x13 P.x14 P.x15 P.x16 P.x17 P.x18 P.x19
  | 0, 9 => kernelRun0_A.sl.HS0_9 P.c P.arg1 P.harg1 P.arg2 P.harg2 P.arg3 P.harg3 P.arg4 P.harg4 P.arg5 P.harg5 P.arg6 P.harg6 P.arg7 P.harg7 P.arg8 P.harg8 P.arg9 P.harg9 P.arg10 P.harg10 P.arg14 P.harg14 P.arg15 P.harg15 P.arg16 P.harg16 P.arg17 P.harg17 P.arg18 P.harg18 P.arg19 P.harg19 P.arg20 P.harg20 P.arg21 P.harg21 P.arg26 P.arg27 P.arg28 P.arg29 P.x0 P.x1 P.x2 P.x3 P.x4 P.x5 P.x6 P.x7 P.x8 P.x9 P.x13 P.x14 P.x15 P.x16 P.x17 P.x18 P.x19 P.x20
  | 0, 10 => kernelRun0_A.sl.HS0_10 P.c P.arg1 P.harg1 P.arg2 P.harg2 P.arg3 P.harg3 P.arg4 P.harg4 P.arg5 P.harg5 P.arg6 P.harg6 P.arg7 P.harg7 P.arg8 P.harg8 P.arg9 P.harg9 P.arg10 P.harg10 P.arg11 P.harg11 P.arg14 P.harg14 P.arg15 P.harg15 P.arg16 P.harg16 P.arg17 P.harg17 P.arg18 P.harg18 P.arg19 P.harg19 P.arg20 P.harg20 P.arg21 P.harg21 P.arg22 P.harg22 P.arg26 P.arg27 P.arg28 P.arg29 P.x0 P.x1 P.x2 P.x3 P.x4 P.x5 P.x6 P.x7 P.x8 P.x9 P.x10 P.x13 P.x14 P.x15 P.x16 P.x17 P.x18 P.x19 P.x20 P.x21
  | 0, 11 => kernelRun0_A.sl.HS0_11 P.c P.arg1 P.harg1 P.arg2 P.harg2 P.arg3 P.harg3 P.arg4 P.harg4 P.arg5 P.harg5 P.arg6 P.harg6 P.arg7 P.harg7 P.arg8 P.harg8 P.arg9 P.harg9 P.arg10 P.harg10 P.arg11 P.harg11 P.arg12 P.harg12 P.arg14 P.harg14 P.arg15 P.harg15 P.arg16 P.harg16 P.arg17 P.harg17 P.arg18 P.harg18 P.arg19 P.harg19 P.arg20 P.harg20 P.arg21 P.harg21 P.arg22 P.harg22 P.arg23 P.harg23 P.arg26 P.arg27 P.arg28 P.arg29 P.x0 P.x1 P.x2 P.x3 P.x4 P.x5 P.x6 P.x7 P.x8 P.x9 P.x10 P.x11 P.x13 P.x14 P.x15 P.x16 P.x17 P.x18 P.x19 P.x20 P.x21 P.x22
  | 1, 1 => kernelRun0_A.sl.HS1_1 P.c P.arg1 P.harg1 P.arg2 P.harg2 P.x0 P.x1
  | 1, 2 => kernelRun0_A.sl.HS1_2 P.c P.arg1 P.harg1 P.arg2 P.harg2 P.arg3 P.harg3 P.arg14 P.harg14 P.arg26 P.arg27 P.arg28 P.arg29 P.x0 P.x1 P.x2 P.x13
  | 1, 3 => kernelRun0_A.sl.HS1_3 P.c P.arg1 P.harg1 P.arg2 P.harg2 P.arg3 P.harg3 P.arg4 P.harg4 P.arg14 P.harg14 P.arg15 P.harg15 P.arg26 P.arg27 P.arg28 P.arg29 P.x0 P.x1 P.x2 P.x3 P.x13 P.x14
  | 1, 4 => kernelRun0_A.sl.HS1_4 P.c P.arg1 P.harg1 P.arg2 P.harg2 P.arg3 P.harg3 P.arg4 P.harg4 P.arg5 P.harg5 P.arg14 P.harg14 P.arg15 P.harg15 P.arg16 P.harg16 P.arg26 P.arg27 P.arg28 P.arg29 P.x0 P.x1 P.x2 P.x3 P.x4 P.x13 P.x14 P.x15
  | 1, 5 => kernelRun0_A.sl.HS1_5 P.c P.arg1 P.harg1 P.arg2 P.harg2 P.arg3 P.harg3 P.arg4 P.harg4 P.arg5 P.harg5 P.arg6 P.harg6 P.arg14 P.harg14 P.arg15 P.harg15 P.arg16 P.harg16 P.arg17 P.harg17 P.arg26 P.arg27 P.arg28 P.arg29 P.x0 P.x1 P.x2 P.x3 P.x4 P.x5 P.x13 P.x14 P.x15 P.x16
  | 1, 6 => kernelRun0_A.sl.HS1_6 P.c P.arg1 P.harg1 P.arg2 P.harg2 P.arg3 P.harg3 P.arg4 P.harg4 P.arg5 P.harg5 P.arg6 P.harg6 P.arg7 P.harg7 P.arg14 P.harg14 P.arg15 P.harg15 P.arg16 P.harg16 P.arg17 P.harg17 P.arg18 P.harg18 P.arg26 P.arg27 P.arg28 P.arg29 P.x0 P.x1 P.x2 P.x3 P.x4 P.x5 P.x6 P.x13 P.x14 P.x15 P.x16 P.x17
  | 1, 7 => kernelRun0_A.sl.HS1_7 P.c P.arg1 P.harg1 P.arg2 P.harg2 P.arg3 P.harg3 P.arg4 P.harg4 P.arg5 P.harg5 P.arg6 P.harg6 P.arg7 P.harg7 P.arg8 P.harg8 P.arg14 P.harg14 P.arg15 P.harg15 P.arg16 P.harg16 P.arg17 P.harg17 P.arg18 P.harg18 P.arg19 P.harg19 P.arg26 P.arg27 P.arg28 P.arg29 P.x0 P.x1 P.x2 P.x3 P.x4 P.x5 P.x6 P.x7 P.x13 P.x14 P.x15 P.x16 P.x17 P.x18
  | 1, 8 => kernelRun0_A.sl.HS1_8 P.c P.arg1 P.harg1 P.arg2 P.harg2 P.arg3 P.harg3 P.arg4 P.harg4 P.arg5 P.harg5 P.arg6 P.harg6 P.arg7 P.harg7 P.arg8 P.harg8 P.arg9 P.harg9 P.arg14 P.harg14 P.arg15 P.harg15 P.arg16 P.harg16 P.arg17 P.harg17 P.arg18 P.harg18 P.arg19 P.harg19 P.arg20 P.harg20 P.arg26 P.arg27 P.arg28 P.arg29 P.x0 P.x1 P.x2 P.x3 P.x4 P.x5 P.x6 P.x7 P.x8 P.x13 P.x14 P.x15 P.x16 P.x17 P.x18 P.x19
  | 1, 9 => kernelRun0_A.sl.HS1_9 P.c P.arg1 P.harg1 P.arg2 P.harg2 P.arg3 P.harg3 P.arg4 P.harg4 P.arg5 P.harg5 P.arg6 P.harg6 P.arg7 P.harg7 P.arg8 P.harg8 P.arg9 P.harg9 P.arg10 P.harg10 P.arg14 P.harg14 P.arg15 P.harg15 P.arg16 P.harg16 P.arg17 P.harg17 P.arg18 P.harg18 P.arg19 P.harg19 P.arg20 P.harg20 P.arg21 P.harg21 P.arg26 P.arg27 P.arg28 P.arg29 P.x0 P.x1 P.x2 P.x3 P.x4 P.x5 P.x6 P.x7 P.x8 P.x9 P.x13 P.x14 P.x15 P.x16 P.x17 P.x18 P.x19 P.x20
  | 1, 10 => kernelRun0_A.sl.HS1_10 P.c P.arg1 P.harg1 P.arg2 P.harg2 P.arg3 P.harg3 P.arg4 P.harg4 P.arg5 P.harg5 P.arg6 P.harg6 P.arg7 P.harg7 P.arg8 P.harg8 P.arg9 P.harg9 P.arg10 P.harg10 P.arg11 P.harg11 P.arg14 P.harg14 P.arg15 P.harg15 P.arg16 P.harg16 P.arg17 P.harg17 P.arg18 P.harg18 P.arg19 P.harg19 P.arg20 P.harg20 P.arg21 P.harg21 P.arg22 P.harg22 P.arg26 P.arg27 P.arg28 P.arg29 P.x0 P.x1 P.x2 P.x3 P.x4 P.x5 P.x6 P.x7 P.x8 P.x9 P.x10 P.x13 P.x14 P.x15 P.x16 P.x17 P.x18 P.x19 P.x20 P.x21
  | 1, 11 => kernelRun0_A.sl.HS1_11 P.c P.arg1 P.harg1 P.arg2 P.harg2 P.arg3 P.harg3 P.arg4 P.harg4 P.arg5 P.harg5 P.arg6 P.harg6 P.arg7 P.harg7 P.arg8 P.harg8 P.arg9 P.harg9 P.arg10 P.harg10 P.arg11 P.harg11 P.arg12 P.harg12 P.arg14 P.harg14 P.arg15 P.harg15 P.arg16 P.harg16 P.arg17 P.harg17 P.arg18 P.harg18 P.arg19 P.harg19 P.arg20 P.harg20 P.arg21 P.harg21 P.arg22 P.harg22 P.arg23 P.harg23 P.arg26 P.arg27 P.arg28 P.arg29 P.x0 P.x1 P.x2 P.x3 P.x4 P.x5 P.x6 P.x7 P.x8 P.x9 P.x10 P.x11 P.x13 P.x14 P.x15 P.x16 P.x17 P.x18 P.x19 P.x20 P.x21 P.x22
  | 2, 1 => kernelRun0_A.sl.HS2_1 P.c P.arg1 P.harg1 P.arg2 P.harg2 P.x0 P.x1
  | 2, 2 => kernelRun0_A.sl.HS2_2 P.c P.arg1 P.harg1 P.arg2 P.harg2 P.arg3 P.harg3 P.arg14 P.harg14 P.arg26 P.arg27 P.arg28 P.arg29 P.x0 P.x1 P.x2 P.x13
  | 2, 3 => kernelRun0_A.sl.HS2_3 P.c P.arg1 P.harg1 P.arg2 P.harg2 P.arg3 P.harg3 P.arg4 P.harg4 P.arg14 P.harg14 P.arg15 P.harg15 P.arg26 P.arg27 P.arg28 P.arg29 P.x0 P.x1 P.x2 P.x3 P.x13 P.x14
  | 2, 4 => kernelRun0_A.sl.HS2_4 P.c P.arg1 P.harg1 P.arg2 P.harg2 P.arg3 P.harg3 P.arg4 P.harg4 P.arg5 P.harg5 P.arg14 P.harg14 P.arg15 P.harg15 P.arg16 P.harg16 P.arg26 P.arg27 P.arg28 P.arg29 P.x0 P.x1 P.x2 P.x3 P.x4 P.x13 P.x14 P.x15
  | 2, 5 => kernelRun0_A.sl.HS2_5 P.c P.arg1 P.harg1 P.arg2 P.harg2 P.arg3 P.harg3 P.arg4 P.harg4 P.arg5 P.harg5 P.arg6 P.harg6 P.arg14 P.harg14 P.arg15 P.harg15 P.arg16 P.harg16 P.arg17 P.harg17 P.arg26 P.arg27 P.arg28 P.arg29 P.x0 P.x1 P.x2 P.x3 P.x4 P.x5 P.x13 P.x14 P.x15 P.x16
  | 2, 6 => kernelRun0_A.sl.HS2_6 P.c P.arg1 P.harg1 P.arg2 P.harg2 P.arg3 P.harg3 P.arg4 P.harg4 P.arg5 P.harg5 P.arg6 P.harg6 P.arg7 P.harg7 P.arg14 P.harg14 P.arg15 P.harg15 P.arg16 P.harg16 P.arg17 P.harg17 P.arg18 P.harg18 P.arg26 P.arg27 P.arg28 P.arg29 P.x0 P.x1 P.x2 P.x3 P.x4 P.x5 P.x6 P.x13 P.x14 P.x15 P.x16 P.x17
  | 2, 7 => kernelRun0_A.sl.HS2_7 P.c P.arg1 P.harg1 P.arg2 P.harg2 P.arg3 P.harg3 P.arg4 P.harg4 P.arg5 P.harg5 P.arg6 P.harg6 P.arg7 P.harg7 P.arg8 P.harg8 P.arg14 P.harg14 P.arg15 P.harg15 P.arg16 P.harg16 P.arg17 P.harg17 P.arg18 P.harg18 P.arg19 P.harg19 P.arg26 P.arg27 P.arg28 P.arg29 P.x0 P.x1 P.x2 P.x3 P.x4 P.x5 P.x6 P.x7 P.x13 P.x14 P.x15 P.x16 P.x17 P.x18
  | 2, 8 => kernelRun0_A.sl.HS2_8 P.c P.arg1 P.harg1 P.arg2 P.harg2 P.arg3 P.harg3 P.arg4 P.harg4 P.arg5 P.harg5 P.arg6 P.harg6 P.arg7 P.harg7 P.arg8 P.harg8 P.arg9 P.harg9 P.arg14 P.harg14 P.arg15 P.harg15 P.arg16 P.harg16 P.arg17 P.harg17 P.arg18 P.harg18 P.arg19 P.harg19 P.arg20 P.harg20 P.arg26 P.arg27 P.arg28 P.arg29 P.x0 P.x1 P.x2 P.x3 P.x4 P.x5 P.x6 P.x7 P.x8 P.x13 P.x14 P.x15 P.x16 P.x17 P.x18 P.x19
  | 2, 9 => kernelRun0_A.sl.HS2_9 P.c P.arg1 P.harg1 P.arg2 P.harg2 P.arg3 P.harg3 P.arg4 P.harg4 P.arg5 P.harg5 P.arg6 P.harg6 P.arg7 P.harg7 P.arg8 P.harg8 P.arg9 P.harg9 P.arg10 P.harg10 P.arg14 P.harg14 P.arg15 P.harg15 P.arg16 P.harg16 P.arg17 P.harg17 P.arg18 P.harg18 P.arg19 P.harg19 P.arg20 P.harg20 P.arg21 P.harg21 P.arg26 P.arg27 P.arg28 P.arg29 P.x0 P.x1 P.x2 P.x3 P.x4 P.x5 P.x6 P.x7 P.x8 P.x9 P.x13 P.x14 P.x15 P.x16 P.x17 P.x18 P.x19 P.x20
  | 2, 10 => kernelRun0_A.sl.HS2_10 P.c P.arg1 P.harg1 P.arg2 P.harg2 P.arg3 P.harg3 P.arg4 P.harg4 P.arg5 P.harg5 P.arg6 P.harg6 P.arg7 P.harg7 P.arg8 P.harg8 P.arg9 P.harg9 P.arg10 P.harg10 P.arg11 P.harg11 P.arg14 P.harg14 P.arg15 P.harg15 P.arg16 P.harg16 P.arg17 P.harg17 P.arg18 P.harg18 P.arg19 P.harg19 P.arg20 P.harg20 P.arg21 P.harg21 P.arg22 P.harg22 P.arg26 P.arg27 P.arg28 P.arg29 P.x0 P.x1 P.x2 P.x3 P.x4 P.x5 P.x6 P.x7 P.x8 P.x9 P.x10 P.x13 P.x14 P.x15 P.x16 P.x17 P.x18 P.x19 P.x20 P.x21
  | 2, 11 => kernelRun0_A.sl.HS2_11 P.c P.arg1 P.harg1 P.arg2 P.harg2 P.arg3 P.harg3 P.arg4 P.harg4 P.arg5 P.harg5 P.arg6 P.harg6 P.arg7 P.harg7 P.arg8 P.harg8 P.arg9 P.harg9 P.arg10 P.harg10 P.arg11 P.harg11 P.arg12 P.harg12 P.arg14 P.harg14 P.arg15 P.harg15 P.arg16 P.harg16 P.arg17 P.harg17 P.arg18 P.harg18 P.arg19 P.harg19 P.arg20 P.harg20 P.arg21 P.harg21 P.arg22 P.harg22 P.arg23 P.harg23 P.arg26 P.arg27 P.arg28 P.arg29 P.x0 P.x1 P.x2 P.x3 P.x4 P.x5 P.x6 P.x7 P.x8 P.x9 P.x10 P.x11 P.x13 P.x14 P.x15 P.x16 P.x17 P.x18 P.x19 P.x20 P.x21 P.x22
  | 3, 1 => kernelRun0_A.sl.HS3_1 P.c P.arg1 P.harg1 P.arg2 P.harg2 P.x0 P.x1
  | 3, 2 => kernelRun0_A.sl.HS3_2 P.c P.arg1 P.harg1 P.arg2 P.harg2 P.arg3 P.harg3 P.arg14 P.harg14 P.arg26 P.arg27 P.arg28 P.arg29 P.x0 P.x1 P.x2 P.x13
  | 3, 3 => kernelRun0_A.sl.HS3_3 P.c P.arg1 P.harg1 P.arg2 P.harg2 P.arg3 P.harg3 P.arg4 P.harg4 P.arg14 P.harg14 P.arg15 P.harg15 P.arg26 P.arg27 P.arg28 P.arg29 P.x0 P.x1 P.x2 P.x3 P.x13 P.x14
  | 3, 4 => kernelRun0_A.sl.HS3_4 P.c P.arg1 P.harg1 P.arg2 P.harg2 P.arg3 P.harg3 P.arg4 P.harg4 P.arg5 P.harg5 P.arg14 P.harg14 P.arg15 P.harg15 P.arg16 P.harg16 P.arg26 P.arg27 P.arg28 P.arg29 P.x0 P.x1 P.x2 P.x3 P.x4 P.x13 P.x14 P.x15
  | 3, 5 => kernelRun0_A.sl.HS3_5 P.c P.arg1 P.harg1 P.arg2 P.harg2 P.arg3 P.harg3 P.arg4 P.harg4 P.arg5 P.harg5 P.arg6 P.harg6 P.arg14 P.harg14 P.arg15 P.harg15 P.arg16 P.harg16 P.arg17 P.harg17 P.arg26 P.arg27 P.arg28 P.arg29 P.x0 P.x1 P.x2 P.x3 P.x4 P.x5 P.x13 P.x14 P.x15 P.x16
  | 3, 6 => kernelRun0_A.sl.HS3_6 P.c P.arg1 P.harg1 P.arg2 P.harg2 P.arg3 P.harg3 P.arg4 P.harg4 P.arg5 P.harg5 P.arg6 P.harg6 P.arg7 P.harg7 P.arg14 P.harg14 P.arg15 P.harg15 P.arg16 P.harg16 P.arg17 P.harg17 P.arg18 P.harg18 P.arg26 P.arg27 P.arg28 P.arg29 P.x0 P.x1 P.x2 P.x3 P.x4 P.x5 P.x6 P.x13 P.x14 P.x15 P.x16 P.x17
  | 3, 7 => kernelRun0_A.sl.HS3_7 P.c P.arg1 P.harg1 P.arg2 P.harg2 P.arg3 P.harg3 P.arg4 P.harg4 P.arg5 P.harg5 P.arg6 P.harg6 P.arg7 P.harg7 P.arg8 P.harg8 P.arg14 P.harg14 P.arg15 P.harg15 P.arg16 P.harg16 P.arg17 P.harg17 P.arg18 P.harg18 P.arg19 P.harg19 P.arg26 P.arg27 P.arg28 P.arg29 P.x0 P.x1 P.x2 P.x3 P.x4 P.x5 P.x6 P.x7 P.x13 P.x14 P.x15 P.x16 P.x17 P.x18
  | 3, 8 => kernelRun0_A.sl.HS3_8 P.c P.arg1 P.harg1 P.arg2 P.harg2 P.arg3 P.harg3 P.arg4 P.harg4 P.arg5 P.harg5 P.arg6 P.harg6 P.arg7 P.harg7 P.arg8 P.harg8 P.arg9 P.harg9 P.arg14 P.harg14 P.arg15 P.harg15 P.arg16 P.harg16 P.arg17 P.harg17 P.arg18 P.harg18 P.arg19 P.harg19 P.arg20 P.harg20 P.arg26 P.arg27 P.arg28 P.arg29 P.x0 P.x1 P.x2 P.x3 P.x4 P.x5 P.x6 P.x7 P.x8 P.x13 P.x14 P.x15 P.x16 P.x17 P.x18 P.x19
  | 3, 9 => kernelRun0_A.sl.HS3_9 P.c P.arg1 P.harg1 P.arg2 P.harg2 P.arg3 P.harg3 P.arg4 P.harg4 P.arg5 P.harg5 P.arg6 P.harg6 P.arg7 P.harg7 P.arg8 P.harg8 P.arg9 P.harg9 P.arg10 P.harg10 P.arg14 P.harg14 P.arg15 P.harg15 P.arg16 P.harg16 P.arg17 P.harg17 P.arg18 P.harg18 P.arg19 P.harg19 P.arg20 P.harg20 P.arg21 P.harg21 P.arg26 P.arg27 P.arg28 P.arg29 P.x0 P.x1 P.x2 P.x3 P.x4 P.x5 P.x6 P.x7 P.x8 P.x9 P.x13 P.x14 P.x15 P.x16 P.x17 P.x18 P.x19 P.x20
  | 3, 10 => kernelRun0_A.sl.HS3_10 P.c P.arg1 P.harg1 P.arg2 P.harg2 P.arg3 P.harg3 P.arg4 P.harg4 P.arg5 P.harg5 P.arg6 P.harg6 P.arg7 P.harg7 P.arg8 P.harg8 P.arg9 P.harg9 P.arg10 P.harg10 P.arg11 P.harg11 P.arg14 P.harg14 P.arg15 P.harg15 P.arg16 P.harg16 P.arg17 P.harg17 P.arg18 P.harg18 P.arg19 P.harg19 P.arg20 P.harg20 P.arg21 P.harg21 P.arg22 P.harg22 P.arg26 P.arg27 P.arg28 P.arg29 P.x0 P.x1 P.x2 P.x3 P.x4 P.x5 P.x6 P.x7 P.x8 P.x9 P.x10 P.x13 P.x14 P.x15 P.x16 P.x17 P.x18 P.x19 P.x20 P.x21
  | 3, 11 => kernelRun0_A.sl.HS3_11 P.c P.arg1 P.harg1 P.arg2 P.harg2 P.arg3 P.harg3 P.arg4 P.harg4 P.arg5 P.harg5 P.arg6 P.harg6 P.arg7 P.harg7 P.arg8 P.harg8 P.arg9 P.harg9 P.arg10 P.harg10 P.arg11 P.harg11 P.arg12 P.harg12 P.arg14 P.harg14 P.arg15 P.harg15 P.arg16 P.harg16 P.arg17 P.harg17 P.arg18 P.harg18 P.arg19 P.harg19 P.arg20 P.harg20 P.arg21 P.harg21 P.arg22 P.harg22 P.arg23 P.harg23 P.arg26 P.arg27 P.arg28 P.arg29 P.x0 P.x1 P.x2 P.x3 P.x4 P.x5 P.x6 P.x7 P.x8 P.x9 P.x10 P.x11 P.x13 P.x14 P.x15 P.x16 P.x17 P.x18 P.x19 P.x20 P.x21 P.x22
  | _, _ => []

/-- The rows solved so far, read back. -/
def held (j : ℕ) (hj : j ≤ 11) (n : Fin 4) : FVec Ideal ⟨2, ![128 * j, 1536]⟩ .bf16 :=
  (P.buffer n).view.readCov (P.scratch n j) (Rect.unit (s := S1408x1536) ![0, 0] (⟨2, ![128 * j, 1536]⟩ : Shape).size fun a => match a with
    | ⟨0, _⟩ => by show 0 + 128 * j ≤ 1408; omega
    | ⟨1, _⟩ => Nat.le_of_eq (Nat.zero_add 1536)).toLoadRect

/-- The block row the body computes from the parts `a` of the panels to the left and the rows solved so far. -/
def solve (j : ℕ) (hj : j ≤ 11) (wf : DotDims.WF ⟨2, ![128, 128 * j]⟩ ⟨2, ![128 * j, 1536]⟩ ⟨2, ![128, 1536]⟩ [1] [0] [0] [1] [] [])
    (a : Fin 4 → FVec Ideal ⟨2, ![128, 128 * j]⟩ .bf16) : FVec Ideal S128x1536 .f32 :=
  product dot_S128x128_S128x1536_S128x1536_1_0_0_1_n_n_wf (part (P.inverse ⟨j, by omega⟩))
    (part (subf (P.load j (by omega)) (product wf a (P.held j hj))))

/-- The block rows the body computes. -/
def row : ℕ → FVec Ideal S128x1536 .f32
  | 0 => product dot_S128x128_S128x1536_S128x1536_1_0_0_1_n_n_wf (part (P.inverse 0)) (part (P.load 0 (by decide)))
  | 1 => P.solve 1 (by decide) dot_S128x128_S128x1536_S128x1536_1_0_0_1_n_n_wf (part (P.panel 1 (by decide) 0))
  | 2 => P.solve 2 (by decide) dot_S128x256_S256x1536_S128x1536_1_0_0_1_n_n_wf (part (panels (P.panel 2 (by decide)) concatenates_S128x128_S128x128_S128x256_d1))
  | 3 => P.solve 3 (by decide) dot_S128x384_S384x1536_S128x1536_1_0_0_1_n_n_wf (part (panels (P.panel 3 (by decide)) concatenates_S128x128_S128x128_S128x128_S128x384_d1))
  | 4 => P.solve 4 (by decide) dot_S128x512_S512x1536_S128x1536_1_0_0_1_n_n_wf (part (panels (P.panel 4 (by decide)) concatenates_S128x128_S128x128_S128x128_S128x128_S128x512_d1))
  | 5 => P.solve 5 (by decide) dot_S128x640_S640x1536_S128x1536_1_0_0_1_n_n_wf (part (panels (P.panel 5 (by decide)) concatenates_S128x128_S128x128_S128x128_S128x128_S128x128_S128x640_d1))
  | 6 => P.solve 6 (by decide) dot_S128x768_S768x1536_S128x1536_1_0_0_1_n_n_wf (part (panels (P.panel 6 (by decide)) concatenates_S128x128_S128x128_S128x128_S128x128_S128x128_S128x128_S128x768_d1))
  | 7 => P.solve 7 (by decide) dot_S128x896_S896x1536_S128x1536_1_0_0_1_n_n_wf (part (panels (P.panel 7 (by decide)) concatenates_S128x128_S128x128_S128x128_S128x128_S128x128_S128x128_S128x128_S128x896_d1))
  | 8 => P.solve 8 (by decide) dot_S128x1024_S1024x1536_S128x1536_1_0_0_1_n_n_wf (part (panels (P.panel 8 (by decide)) concatenates_S128x128_S128x128_S128x128_S128x128_S128x128_S128x128_S128x128_S128x128_S128x1024_d1))
  | 9 => P.solve 9 (by decide) dot_S128x1152_S1152x1536_S128x1536_1_0_0_1_n_n_wf (part (panels (P.panel 9 (by decide)) concatenates_S128x128_S128x128_S128x128_S128x128_S128x128_S128x128_S128x128_S128x128_S128x128_S128x1152_d1))
  | 10 => P.solve 10 (by decide) dot_S128x1280_S1280x1536_S128x1536_1_0_0_1_n_n_wf (part (panels (P.panel 10 (by decide)) concatenates_S128x128_S128x128_S128x128_S128x128_S128x128_S128x128_S128x128_S128x128_S128x128_S128x128_S128x1280_d1))
  | 11 => P.solve 11 (by decide) dot_S128x1408_S1408x1536_S128x1536_1_0_0_1_n_n_wf (part (panels (P.panel 11 (by decide)) concatenates_S128x128_S128x128_S128x128_S128x128_S128x128_S128x128_S128x128_S128x128_S128x128_S128x128_S128x128_S128x1408_d1))
  | _ => fun _ => 0

/-- A solved block row joins the others: its parts are written below theirs. -/
theorem scratch_succ (j : ℕ) (hj : j < 11) (n : Fin 4) :
    P.scratch n (j + 1) = ⟨Rect.unit (s := S1408x1536) ![128 * j, 0] S128x1536.size fun a => match a with
      | ⟨0, _⟩ => by show 128 * j + 128 ≤ 1408; omega
      | ⟨1, _⟩ => Nat.le_of_eq (Nat.zero_add 1536), shapeCast S128x1536 (part (P.row j) n) shapeCasts_S128x1536_S128x1536⟩ :: P.scratch n j := by
  interval_cases j <;> match n with
    | 0 => rfl
    | 1 => rfl
    | 2 => rfl
    | 3 => rfl

end Point

end Cert.SolveIdeal.Blocks
-- ==== Proof.SolveStored.lean ====
module

public import proofs.«01_k».proof.Proof.SolveRead

/-! # The block rows a grid point of the solve kernel computes are the solution's

At the ideal values, where all numbers of the system are finite. -/

@[expose] public section

set_option maxRecDepth 16384

noncomputable section

namespace Cert.SolveIdeal.Blocks

open Cert.SolveIdeal Cert.SolveIdeal.Gen Cert.Solve Idealize.ShloMosaic Idealize.ShloMosaic.TcCoe Idealize.ShloMosaic.Tactic

namespace Point

variable (P : Point)

/-- Row `r` of solution `p`. -/
abbrev entry (p : Fin 1536) (r : ℕ) : EReal := Spec.solvedRow (P.system.diag 0) (P.system.below 0) (P.system.right 0 p) r

/-- Block row `j` is the solution's. -/
abbrev Solves (j : ℕ) : Prop :=
  ∀ (q : Fin 128) (p : Fin 1536), P.row j (ix2 q p) = Spec.solved (P.system.diag 0) (P.system.below 0) (P.system.right 0 p) j q

variable (hfin : P.system.AllFinite)

include hfin

/-- The scratch buffers hold the parts of the rows solved so far. -/
theorem scratch_apply (n : Fin 4) (j : ℕ) : j ≤ 11 → (∀ i < j, P.Solves i) → ∀ (r : Fin 1408) (p : Fin 1536), r.val < 128 * j →
    View.canon (P.scratch n j) (ix2 r p) = whole (P.entry p r) n := by
  induction j with
  | zero => intro _ _ r p hr; omega
  | succ j ih =>
    intro hj hs r p hr
    rw [P.scratch_succ j (by omega) n]
    by_cases h : r.val < 128 * j
    · rw [View.canon_cons_of_not_mem _ _ (Rect.not_mem_set_of_axis _ _ 0 (128 * j) 128 rfl rfl rfl (Or.inl h))]
      exact ih (by omega) (fun i hi => hs i (by omega)) r p h
    · obtain ⟨q, hq⟩ : ∃ q : Fin 128, r.val = 128 * j + q.val := ⟨⟨r.val - 128 * j, by omega⟩, by show r.val = 128 * j + (r.val - 128 * j); omega⟩
      have e : (ix2 r p : S1408x1536.Idx) = (Rect.unit (s := S1408x1536) ![128 * j, 0] S128x1536.size fun a => match a with
          | ⟨0, _⟩ => by show 128 * j + 128 ≤ 1408; omega
          | ⟨1, _⟩ => Nat.le_of_eq (Nat.zero_add 1536)).emb (ix2 q p) := by
        funext a
        match a with
        | ⟨0, _⟩ => apply Fin.ext; show r.val = 128 * j + 1 * q.val; omega
        | ⟨1, _⟩ => apply Fin.ext; show p.val = 0 + 1 * p.val; omega
      refine (congrArg _ e).trans ((View.canon_cons_emb _ _ _ _).trans ?_)
      rw [shapeCast_self]
      have hv := hs j (by omega) q p
      rw [part_apply (by rw [hv]; exact .solved (hfin.diag 0) (hfin.below 0) (hfin.right 0 p) j q), hv, entry, hq, Spec.solvedRow_block]

/-- What the body reads back of them. -/
theorem held_apply (j : ℕ) (hj : j ≤ 11) (hs : ∀ i < j, P.Solves i) (n : Fin 4) (r : Fin (128 * j)) (p : Fin 1536) :
    P.held j hj n (ix2 r p) = whole (P.entry p r) n := by
  have hr := r.isLt
  unfold held
  rw [View.readCov_eq_canon']
  refine Eq.trans (congrArg _ ?_) (P.scratch_apply hfin n j hj hs ⟨r.val, by omega⟩ p hr)
  funext a
  match a with
  | ⟨0, _⟩ => apply Fin.ext; show 0 + 1 * r.val = r.val; omega
  | ⟨1, _⟩ => apply Fin.ext; show 0 + 1 * p.val = p.val; omega

/-- A block row computed from the panels to the left, side by side. -/
theorem solve_apply (j : ℕ) (hj : j ≤ 11) (hs : ∀ i < j, P.Solves i) (wf) (g : FVec Ideal ⟨2, ![128, 128 * j]⟩ .f32)
    (hg : ∀ q (i : Fin j) (l : Fin 128) (hk : 128 * i.val + l.val < 128 * j), g (ix2 q ⟨128 * i + l, hk⟩) = P.panel j hj i (ix2 q l))
    (q : Fin 128) (p : Fin 1536) :
    P.solve j hj wf (part g) (ix2 q p) = Spec.solved (P.system.diag 0) (P.system.below 0) (P.system.right 0 p) j q :=
  solved_apply (hfin.diag 0) (hfin.below 0) (hfin.right 0) _ j _ _ (fun q k => P.inverse_apply ⟨j, by omega⟩ q k)
    (fun k p => residual_apply (Y := P.system.right 0) (hfin.below 0) wf j rfl g (P.load j (by omega)) (P.held j hj)
      (fun q i l hk => (hg q i l hk).trans (P.panel_apply j hj i q l)) (fun k p => P.load_apply j (by omega) k p)
      (fun n s p => P.held_apply hfin j hj hs n s p) k p) q p

/-- The first block row has nothing to its left. -/
theorem first_solves : P.Solves 0 := fun q p =>
  solved_apply (hfin.diag 0) (hfin.below 0) (hfin.right 0) _ 0 _ _ (fun q k => P.inverse_apply 0 q k)
    (fun k p => by
      rw [P.load_apply, Finset.univ_eq_empty, Finset.sum_empty, sub_zero]) q p

/-- Every block row is the solution's. -/
theorem solves (j : ℕ) : j < 12 → P.Solves j := by
  induction j using Nat.strong_induction_on with
  | _ j ih =>
    intro hj
    have hs : ∀ i < j, P.Solves i := fun i hi => ih i hi (by omega)
    clear ih
    by_cases h0 : j = 0
    · subst h0; exact P.first_solves hfin
    by_cases h1 : j = 1
    · subst h1
      intro q p
      refine P.solve_apply hfin 1 (by decide) hs _ _ (fun q i l hk => ?_) q p
      obtain rfl : i = 0 := Subsingleton.elim _ _
      exact congrArg (fun l => P.panel 1 (by decide) 0 (ix2 q l)) (Fin.ext (by show 128 * 0 + l.val = l.val; omega))
    intro q p
    have h2 : 2 ≤ j := by omega
    interval_cases j <;> exact P.solve_apply hfin _ (by decide) hs _ _ (fun q i l hk => panels_apply _ _ q i l hk) q p

end Point

end Cert.SolveIdeal.Blocks
-- ==== Proof.SolveOut.lean ====
module

public import proofs.«01_k».proof.Proof.SolveStored

/-! # What a grid point of the solve kernel leaves in its result block

The twelve block rows, one below the other: the solution of the system its inputs hold. -/

@[expose] public section

set_option maxRecDepth 16384

noncomputable section

namespace Cert.SolveIdeal.Blocks

open Cert.SolveIdeal Cert.SolveIdeal.Gen Cert.Solve Idealize.ShloMosaic Idealize.ShloMosaic.TcCoe Idealize.ShloMosaic.Tactic

/-- A block row as the body stores it. -/
def stored (v : FVec Ideal S128x1536 .f32) : FVec Ideal S1x128x1536 .bf16 := shapeCast S1x128x1536 (truncf .bf16 v) shapeCasts_S128x1536_S1x128x1536

theorem stored_apply (v : FVec Ideal S128x1536 .f32) (q : Fin 128) (p : Fin 1536) : stored v (ix3 0 q p) = v (ix2 q p) := by
  unfold stored
  simp only [pointwise]

namespace Point

variable (P : Point)

/-- The store of block row `j`. -/
def piece (j : ℕ) (hj : j < 12) : View.Piece (Elt Ideal) S1x1536x1536 .bf16 :=
  ⟨Rect.unit (s := S1x1536x1536) ![0, 128 * j, 0] S1x128x1536.size fun a => match a with
    | ⟨0, _⟩ => Nat.le_of_eq (Nat.zero_add 1)
    | ⟨1, _⟩ => by show 128 * j + 128 ≤ 1536; omega
    | ⟨2, _⟩ => Nat.le_of_eq (Nat.zero_add 1536), stored (P.row j)⟩

/-- The stores of a grid point, the last one first. -/
def pieces : List (View.Piece (Elt Ideal) S1x1536x1536 .bf16) :=
  [P.piece 11 (by decide), P.piece 10 (by decide), P.piece 9 (by decide), P.piece 8 (by decide), P.piece 7 (by decide), P.piece 6 (by decide), P.piece 5 (by decide), P.piece 4 (by decide), P.piece 3 (by decide), P.piece 2 (by decide), P.piece 1 (by decide), P.piece 0 (by decide)]

theorem pieces_eq : (kernelRun0_A P.c P.i P.arg1 P.harg1 P.arg2 P.harg2 P.arg3 P.harg3 P.arg4 P.harg4 P.arg5 P.harg5 P.arg6 P.harg6 P.arg7 P.harg7 P.arg8 P.harg8 P.arg9 P.harg9 P.arg10 P.harg10 P.arg11 P.harg11 P.arg12 P.harg12 P.arg13 P.harg13 P.arg14 P.harg14 P.arg15 P.harg15 P.arg16 P.harg16 P.arg17 P.harg17 P.arg18 P.harg18 P.arg19 P.harg19 P.arg20 P.harg20 P.arg21 P.harg21 P.arg22 P.harg22 P.arg23 P.harg23 P.arg24 P.harg24 P.arg25 P.harg25 P.arg26 P.harg26 P.arg27 P.harg27 P.arg28 P.harg28 P.arg29 P.harg29 P.x0 P.x1 P.x2 P.x3 P.x4 P.x5 P.x6 P.x7 P.x8 P.x9 P.x10 P.x11 P.x12 P.x13 P.x14 P.x15 P.x16 P.x17 P.x18 P.x19 P.x20 P.x21 P.x22 P.x23).1 = P.pieces := rfl

/-- Each of them stores its rows of the solution. -/
theorem piece_apply (hfin : P.system.AllFinite) (j : ℕ) (hj : j < 12) (x : (P.piece j hj).1.shape.Idx) :
    (P.piece j hj).2 x = P.system.solution ((P.piece j hj).1.emb x) := by
  obtain ⟨q, p, rfl⟩ : ∃ (q : Fin 128) (p : Fin 1536), x = (ix3 0 q p : S1x128x1536.Idx) := ⟨x 1, x 2, Spec.eq_ix3 x⟩
  have hq := q.isLt
  have e : (P.piece j hj).1.emb (ix3 0 q p : S1x128x1536.Idx) = (ix3 0 ⟨128 * j + q.val, by omega⟩ p : S1x1536x1536.Idx) := by
    funext a
    match a with
    | ⟨0, _⟩ => rfl
    | ⟨1, _⟩ => apply Fin.ext; show 128 * j + 1 * q.val = 128 * j + q.val; omega
    | ⟨2, _⟩ => apply Fin.ext; show 0 + 1 * p.val = p.val; omega
  refine Eq.trans ?_ (congrArg P.system.solution e).symm
  refine (stored_apply (P.row j) q p).trans ((P.solves hfin j hj q p).trans ?_)
  exact (Spec.solvedRow_block (P.system.diag 0) (P.system.below 0) (P.system.right 0 p) j q).symm

theorem mem_pieces (x : View.Piece (Elt Ideal) S1x1536x1536 .bf16) (h : x ∈ P.pieces) : ∃ (j : ℕ) (hj : j < 12), x = P.piece j hj := by
  simp only [pieces, List.mem_cons, List.not_mem_nil, or_false] at h
  rcases h with h | h | h | h | h | h | h | h | h | h | h | h <;> exact ⟨_, _, h⟩

/-- The result block is the solution. -/
theorem out_eq (hfin : P.system.AllFinite) :
    out0_A_24 P.c P.i P.arg1 P.harg1 P.arg2 P.harg2 P.arg3 P.harg3 P.arg4 P.harg4 P.arg5 P.harg5 P.arg6 P.harg6 P.arg7 P.harg7 P.arg8 P.harg8 P.arg9 P.harg9 P.arg10 P.harg10 P.arg11 P.harg11 P.arg12 P.harg12 P.arg13 P.harg13 P.arg14 P.harg14 P.arg15 P.harg15 P.arg16 P.harg16 P.arg17 P.harg17 P.arg18 P.harg18 P.arg19 P.harg19 P.arg20 P.harg20 P.arg21 P.harg21 P.arg22 P.harg22 P.arg23 P.harg23 P.arg24 P.harg24 P.arg25 P.harg25 P.arg26 P.harg26 P.arg27 P.harg27 P.arg28 P.harg28 P.arg29 P.harg29 P.x0 P.x1 P.x2 P.x3 P.x4 P.x5 P.x6 P.x7 P.x8 P.x9 P.x10 P.x11 P.x12 P.x13 P.x14 P.x15 P.x16 P.x17 P.x18 P.x19 P.x20 P.x21 P.x22 P.x23 = P.system.solution := by
  funext y
  unfold out0_A_24
  rw [View.read_writes_eq_canon _ _ _ (cover0_A_24 P.c P.i P.arg1 P.harg1 P.arg2 P.harg2 P.arg3 P.harg3 P.arg4 P.harg4 P.arg5 P.harg5 P.arg6 P.harg6 P.arg7 P.harg7 P.arg8 P.harg8 P.arg9 P.harg9 P.arg10 P.harg10 P.arg11 P.harg11 P.arg12 P.harg12 P.arg13 P.harg13 P.arg14 P.harg14 P.arg15 P.harg15 P.arg16 P.harg16 P.arg17 P.harg17 P.arg18 P.harg18 P.arg19 P.harg19 P.arg20 P.harg20 P.arg21 P.harg21 P.arg22 P.harg22 P.arg23 P.harg23 P.arg24 P.harg24 P.arg25 P.harg25 P.arg26 P.harg26 P.arg27 P.harg27 P.arg28 P.harg28 P.arg29 P.harg29 P.x0 P.x1 P.x2 P.x3 P.x4 P.x5 P.x6 P.x7 P.x8 P.x9 P.x10 P.x11 P.x12 P.x13 P.x14 P.x15 P.x16 P.x17 P.x18 P.x19 P.x20 P.x21 P.x22 P.x23)]
  refine View.canon_apply_of_pieces P.system.solution _ (fun x hx => ?_) y (cover0_A_24 P.c P.i P.arg1 P.harg1 P.arg2 P.harg2 P.arg3 P.harg3 P.arg4 P.harg4 P.arg5 P.harg5 P.arg6 P.harg6 P.arg7 P.harg7 P.arg8 P.harg8 P.arg9 P.harg9 P.arg10 P.harg10 P.arg11 P.harg11 P.arg12 P.harg12 P.arg13 P.harg13 P.arg14 P.harg14 P.arg15 P.harg15 P.arg16 P.harg16 P.arg17 P.harg17 P.arg18 P.harg18 P.arg19 P.harg19 P.arg20 P.harg20 P.arg21 P.harg21 P.arg22 P.harg22 P.arg23 P.harg23 P.arg24 P.harg24 P.arg25 P.harg25 P.arg26 P.harg26 P.arg27 P.harg27 P.arg28 P.harg28 P.arg29 P.harg29 P.x0 P.x1 P.x2 P.x3 P.x4 P.x5 P.x6 P.x7 P.x8 P.x9 P.x10 P.x11 P.x12 P.x13 P.x14 P.x15 P.x16 P.x17 P.x18 P.x19 P.x20 P.x21 P.x22 P.x23 y)
  rw [P.pieces_eq] at hx
  obtain ⟨j, hj, rfl⟩ := P.mem_pieces x hx
  exact P.piece_apply hfin j hj

end Point

end Cert.SolveIdeal.Blocks
-- ==== Proof.SolveValue.lean ====
module

public import proofs.«01_k».proof.Proof.SolveOut
public import proofs.«01_k».proof.Proof.Gen.SolveIdeal.Value

/-! # What the solve kernel leaves in its result array

At the ideal values, where all its arguments are finite: the solution of the system they hold, one batch
item to a grid point. -/

@[expose] public section

set_option maxRecDepth 16384

noncomputable section

namespace Cert.SolveIdeal.Arrays

open Cert.SolveIdeal Cert.SolveIdeal.Gen Cert.SolveIdeal.Value Cert.SolveIdeal.Blocks Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The arguments as a system. -/
abbrev system (c : Dev nD) : Spec.System 6 :=
  .of (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14)) (m ((c : Thread nD τ).loc main_arg15))
    (m ((c : Thread nD τ).loc main_arg16)) (m ((c : Thread nD τ).loc main_arg17)) (m ((c : Thread nD τ).loc main_arg18)) (m ((c : Thread nD τ).loc main_arg19))
    (m ((c : Thread nD τ).loc main_arg20)) (m ((c : Thread nD τ).loc main_arg21)) (m ((c : Thread nD τ).loc main_arg22)) (m ((c : Thread nD τ).loc main_arg23))

/-- The result of device `c`. -/
abbrev result (c : Dev nD) : Buf (Elt Ideal) ((c : Thread nD τ).loc main_v0) := (system m c).solution

/-- The batch item of a grid point. -/
def item (t : Fin cfg0.N) : Fin 6 := ⟨t.val, Nat.lt_of_lt_of_eq t.isLt N_0⟩

/-- The word that names the batch item in the index maps. -/
theorem item_word (t : Fin cfg0.N) : (BitVec.ofNat 32 (grid0.coords t 0).val).toNat = t.val := by
  have e : (grid0.coords t 0).val = t.val / 1 % 6 := Pipeline.Grid.coords_val t 0 (by decide) rfl
  have : t.val < 6 := (item t).isLt
  rw [BitVec.toNat_ofNat]
  omega

/-- A place of a grid point's block is the same place of its batch item in the array. -/
theorem in_item {n w : ℕ} (x : (⟨3, ![6, n, w]⟩ : Shape).Idx → EReal) (z : (⟨3, ![6, n, w]⟩ : Shape).Idx) (t : Fin cfg0.N) (r : Fin n) (l : Fin w)
    (h0 : (z 0).val = (BitVec.ofNat 32 (grid0.coords t 0).val).toNat * 1 + 1 * 0) (h1 : (z 1).val = 0 * n + 1 * r.val)
    (h2 : (z 2).val = 0 * w + 1 * l.val) : x z = x (ix3 (item t) r l) := by
  refine congrArg x (funext fun a => ?_)
  match a with
  | ⟨0, _⟩ => exact Fin.ext (h0.trans (by rw [item_word]; show t.val * 1 + 1 * 0 = t.val; omega))
  | ⟨1, _⟩ => exact Fin.ext (h1.trans (by show 0 * n + 1 * r.val = r.val; omega))
  | ⟨2, _⟩ => exact Fin.ext (h2.trans (by show 0 * w + 1 * l.val = l.val; omega))

/-- A grid point: its staging buffers and its blocks. -/
def point (c : Dev nD) (t : Fin cfg0.N) : Point where
  c := c
  i := grid0.coords t
  arg1 := ms0_0 t
  harg1 := hs0_0 t
  arg2 := ms0_1 t
  harg2 := hs0_1 t
  arg3 := ms0_2 t
  harg3 := hs0_2 t
  arg4 := ms0_3 t
  harg4 := hs0_3 t
  arg5 := ms0_4 t
  harg5 := hs0_4 t
  arg6 := ms0_5 t
  harg6 := hs0_5 t
  arg7 := ms0_6 t
  harg7 := hs0_6 t
  arg8 := ms0_7 t
  harg8 := hs0_7 t
  arg9 := ms0_8 t
  harg9 := hs0_8 t
  arg10 := ms0_9 t
  harg10 := hs0_9 t
  arg11 := ms0_10 t
  harg11 := hs0_10 t
  arg12 := ms0_11 t
  harg12 := hs0_11 t
  arg13 := ms0_12 t
  harg13 := hs0_12 t
  arg14 := ms0_13 t
  harg14 := hs0_13 t
  arg15 := ms0_14 t
  harg15 := hs0_14 t
  arg16 := ms0_15 t
  harg16 := hs0_15 t
  arg17 := ms0_16 t
  harg17 := hs0_16 t
  arg18 := ms0_17 t
  harg18 := hs0_17 t
  arg19 := ms0_18 t
  harg19 := hs0_18 t
  arg20 := ms0_19 t
  harg20 := hs0_19 t
  arg21 := ms0_20 t
  harg21 := hs0_20 t
  arg22 := ms0_21 t
  harg22 := hs0_21 t
  arg23 := ms0_22 t
  harg23 := hs0_22 t
  arg24 := ms0_23 t
  harg24 := hs0_23 t
  arg25 := ms0_24 t
  harg25 := hs0_24 t
  arg26 := scM0_0
  harg26 := Memref.isWhole_whole _
  arg27 := scM0_1
  harg27 := Memref.isWhole_whole _
  arg28 := scM0_2
  harg28 := Memref.isWhole_whole _
  arg29 := scM0_3
  harg29 := Memref.isWhole_whole _
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t
  x16 := iblk m c 16 t
  x17 := iblk m c 17 t
  x18 := iblk m c 18 t
  x19 := iblk m c 19 t
  x20 := iblk m c 20 t
  x21 := iblk m c 21 t
  x22 := iblk m c 22 t
  x23 := iblk m c 23 t

/-- Its blocks are its batch item of the arguments. -/
theorem point_item (c : Dev nD) (t : Fin cfg0.N) : (point m c t).system.IsItem (system m c) (item t) where
  y r p := in_item (m ((c : Thread nD τ).loc main_arg0)) (((cfg0.win 0).blk t).view.emb (ix3 (n0 := 1) 0 r p)) t r p rfl rfl rfl
  d j q k := match j with
    | ⟨0, _⟩ => in_item (m ((c : Thread nD τ).loc main_arg1)) (((cfg0.win 1).blk t).view.emb (ix3 (n0 := 1) 0 q k)) t q k rfl rfl rfl
    | ⟨1, _⟩ => in_item (m ((c : Thread nD τ).loc main_arg2)) (((cfg0.win 2).blk t).view.emb (ix3 (n0 := 1) 0 q k)) t q k rfl rfl rfl
    | ⟨2, _⟩ => in_item (m ((c : Thread nD τ).loc main_arg3)) (((cfg0.win 3).blk t).view.emb (ix3 (n0 := 1) 0 q k)) t q k rfl rfl rfl
    | ⟨3, _⟩ => in_item (m ((c : Thread nD τ).loc main_arg4)) (((cfg0.win 4).blk t).view.emb (ix3 (n0 := 1) 0 q k)) t q k rfl rfl rfl
    | ⟨4, _⟩ => in_item (m ((c : Thread nD τ).loc main_arg5)) (((cfg0.win 5).blk t).view.emb (ix3 (n0 := 1) 0 q k)) t q k rfl rfl rfl
    | ⟨5, _⟩ => in_item (m ((c : Thread nD τ).loc main_arg6)) (((cfg0.win 6).blk t).view.emb (ix3 (n0 := 1) 0 q k)) t q k rfl rfl rfl
    | ⟨6, _⟩ => in_item (m ((c : Thread nD τ).loc main_arg7)) (((cfg0.win 7).blk t).view.emb (ix3 (n0 := 1) 0 q k)) t q k rfl rfl rfl
    | ⟨7, _⟩ => in_item (m ((c : Thread nD τ).loc main_arg8)) (((cfg0.win 8).blk t).view.emb (ix3 (n0 := 1) 0 q k)) t q k rfl rfl rfl
    | ⟨8, _⟩ => in_item (m ((c : Thread nD τ).loc main_arg9)) (((cfg0.win 9).blk t).view.emb (ix3 (n0 := 1) 0 q k)) t q k rfl rfl rfl
    | ⟨9, _⟩ => in_item (m ((c : Thread nD τ).loc main_arg10)) (((cfg0.win 10).blk t).view.emb (ix3 (n0 := 1) 0 q k)) t q k rfl rfl rfl
    | ⟨10, _⟩ => in_item (m ((c : Thread nD τ).loc main_arg11)) (((cfg0.win 11).blk t).view.emb (ix3 (n0 := 1) 0 q k)) t q k rfl rfl rfl
    | ⟨11, _⟩ => in_item (m ((c : Thread nD τ).loc main_arg12)) (((cfg0.win 12).blk t).view.emb (ix3 (n0 := 1) 0 q k)) t q k rfl rfl rfl
  c i r l := match i with
    | ⟨0, _⟩ => in_item (m ((c : Thread nD τ).loc main_arg13)) (((cfg0.win 13).blk t).view.emb (ix3 (n0 := 1) 0 r l)) t r l rfl rfl rfl
    | ⟨1, _⟩ => in_item (m ((c : Thread nD τ).loc main_arg14)) (((cfg0.win 14).blk t).view.emb (ix3 (n0 := 1) 0 r l)) t r l rfl rfl rfl
    | ⟨2, _⟩ => in_item (m ((c : Thread nD τ).loc main_arg15)) (((cfg0.win 15).blk t).view.emb (ix3 (n0 := 1) 0 r l)) t r l rfl rfl rfl
    | ⟨3, _⟩ => in_item (m ((c : Thread nD τ).loc main_arg16)) (((cfg0.win 16).blk t).view.emb (ix3 (n0 := 1) 0 r l)) t r l rfl rfl rfl
    | ⟨4, _⟩ => in_item (m ((c : Thread nD τ).loc main_arg17)) (((cfg0.win 17).blk t).view.emb (ix3 (n0 := 1) 0 r l)) t r l rfl rfl rfl
    | ⟨5, _⟩ => in_item (m ((c : Thread nD τ).loc main_arg18)) (((cfg0.win 18).blk t).view.emb (ix3 (n0 := 1) 0 r l)) t r l rfl rfl rfl
    | ⟨6, _⟩ => in_item (m ((c : Thread nD τ).loc main_arg19)) (((cfg0.win 19).blk t).view.emb (ix3 (n0 := 1) 0 r l)) t r l rfl rfl rfl
    | ⟨7, _⟩ => in_item (m ((c : Thread nD τ).loc main_arg20)) (((cfg0.win 20).blk t).view.emb (ix3 (n0 := 1) 0 r l)) t r l rfl rfl rfl
    | ⟨8, _⟩ => in_item (m ((c : Thread nD τ).loc main_arg21)) (((cfg0.win 21).blk t).view.emb (ix3 (n0 := 1) 0 r l)) t r l rfl rfl rfl
    | ⟨9, _⟩ => in_item (m ((c : Thread nD τ).loc main_arg22)) (((cfg0.win 22).blk t).view.emb (ix3 (n0 := 1) 0 r l)) t r l rfl rfl rfl
    | ⟨10, _⟩ => in_item (m ((c : Thread nD τ).loc main_arg23)) (((cfg0.win 23).blk t).view.emb (ix3 (n0 := 1) 0 r l)) t r l rfl rfl rfl

section Finite

variable (hfin : ∀ c : Dev nD, (system m c).AllFinite)

include hfin

/-- What a point writes back is its block of the result. -/
theorem flushed (c : Dev nD) (t : Fin cfg0.N) :
    (dats m 0 c).flushed 24 t = ((cfg0.win 24).blk t).view.read (Elt Ideal) (result m c) := by
  rw [flushed24_A m c t]
  funext y
  obtain ⟨r, p, rfl⟩ : ∃ (r p : Fin 1536), y = (ix3 0 r p : S1x1536x1536.Idx) := ⟨y 1, y 2, Spec.eq_ix3 y⟩
  refine (congrFun ((point m c t).out_eq ((point_item m c t).finite (hfin c))) (ix3 0 r p : S1x1536x1536.Idx)).trans ?_
  refine ((point_item m c t).solution r p).trans ?_
  exact (in_item (system m c).solution (((cfg0.win 24).blk t).view.emb (ix3 (n0 := 1) 0 r p)) t r p rfl rfl rfl).symm

omit hfin in
/-- The points' blocks cover the result. -/
theorem cover (i : S6x1536x1536.Idx) : ∃ t : Fin cfg0.N, (cfg0.win 24).flush t = true ∧ i ∈ ((cfg0.win 24).blk t).view.set := by
  have h0 : (i 0).val < 6 := (i 0).isLt
  have h1 : (i 1).val < 1536 := (i 1).isLt
  have h2 : (i 2).val < 1536 := (i 2).isLt
  refine ⟨(⟨(i 0).val, h0⟩ : Fin 6).cast N_0.symm, flush0_24 _, ?_⟩
  have e : ((⟨(i 0).val, h0⟩ : Fin 6).cast N_0.symm : Fin cfg0.N).val = (i 0).val := rfl
  generalize ((⟨(i 0).val, h0⟩ : Fin 6).cast N_0.symm : Fin cfg0.N) = t at e
  have ht := item_word t
  show i ∈ ((View.whole main_v0).slice (win0_24.rect t)).set
  rw [View.set_slice_whole, Rect.mem_set_unit]
  intro a
  match a with
  | ⟨0, _⟩ => show (BitVec.ofNat 32 (grid0.coords t 0).val).toNat * 1 ≤ (i 0).val ∧ (i 0).val < (BitVec.ofNat 32 (grid0.coords t 0).val).toNat * 1 + 1; omega
  | ⟨1, _⟩ => show 0 * 1536 ≤ (i 1).val ∧ (i 1).val < 0 * 1536 + 1536; omega
  | ⟨2, _⟩ => show 0 * 1536 ≤ (i 2).val ∧ (i 2).val < 0 * 1536 + 1536; omega

/-- After the run the result is the solution. -/
theorem final (c : Dev nD) : (dats m 0 c).arrAt 24 cfg0.N = result m c :=
  (dats m 0 c).arrAt_eq_of_cover 24 (result m c) (fun t _ => flushed m hfin c t) cover

/-- The run: the result as a function of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23) :=
  (θ_run defs _ _).mono (fun _ h c => ⟨(h c).1.trans (final m hfin c), (h c).2⟩) (run_blocks m ρ)

end Finite

end Cert.SolveIdeal.Arrays
-- ==== Proof.SolveRef.lean ====
module

public import proofs.«01_k».proof.Proof.SolveSpec
public import proofs.«01_k».proof.Proof.Gen.SolveRefIdeal.Frame
public import Idealize.ShloMosaic.Lib.Pointwise
public import Idealize.ShloMosaic.Lib.Pipeline.Value

/-! # The solve reference, element by element

At the ideal values its result is the solution of every batch item. -/

@[expose] public section

set_option maxRecDepth 16384

noncomputable section

namespace Cert.SolveRefIdeal.Read

open Cert.SolveRefIdeal Cert.SolveRefIdeal.Gen Idealize.ShloMosaic Idealize.ShloMosaic.TcCoe Idealize.SL.Sem

/-- Block row `k` of every batch item. -/
def slab {n w : ℕ} (x : (⟨3, ![6, n, w]⟩ : Shape).Idx → EReal) (k : ℕ) : (⟨3, ![6, 128, w]⟩ : Shape).Idx → EReal :=
  if h : k < n / 128 then
    View.ld (Val := Elt Ideal) (e' := .f32) x (Rect.unit (s := ⟨3, ![6, n, w]⟩) ![0, 128 * k, 0] (⟨3, ![6, 128, w]⟩ : Shape).size fun a => match a with
      | ⟨0, _⟩ => Nat.le_of_eq (Nat.zero_add 6)
      | ⟨1, _⟩ => by show 128 * k + 128 ≤ n; omega
      | ⟨2, _⟩ => Nat.le_of_eq (Nat.zero_add w))
  else fun _ => 0

theorem slab_apply {n w : ℕ} (x : (⟨3, ![6, n, w]⟩ : Shape).Idx → EReal) (k : ℕ) (h : 128 * k + 128 ≤ n) (b : Fin 6) (q : Fin 128) (l : Fin w) :
    slab x k (ix3 b q l) = Spec.rowAt x b (128 * k + q) l := by
  have hq := q.isLt
  rw [Spec.rowAt_of_lt x b l (show 128 * k + q.val < n by omega)]
  unfold slab
  rw [dif_pos (show k < n / 128 by omega)]
  refine congrArg x ?_
  funext a
  match a with
  | ⟨0, _⟩ => apply Fin.ext; show 0 + 1 * b.val = b.val; omega
  | ⟨1, _⟩ => apply Fin.ext; show 128 * k + 1 * q.val = 128 * k + q.val; omega
  | ⟨2, _⟩ => apply Fin.ext; show 0 + 1 * l.val = l.val; omega

/-- The reference's product of blocks. -/
def dot (a : FVec Ideal S6x128x128 .f32) (w : FVec Ideal S6x128x1536 .f32) : FVec Ideal S6x128x1536 .f32 :=
  matmul dot_S6x128x128_S6x128x1536_S6x128x1536_2_1_1_2_0_0 (some .fp32) a w (constant S6x128x1536 .f32 0x00000000#32)

theorem dot_apply (a : FVec Ideal S6x128x128 .f32) (w : FVec Ideal S6x128x1536 .f32) (b : Fin 6) (q : Fin 128) (p : Fin 1536) :
    dot a w (ix3 b q p) = ∑ k : Fin 128, a (ix3 b q k) * w (ix3 b k p) := by
  unfold dot
  simp only [pointwise]
  simp only [zero_add]

/-- The sum of the products of `n` panels with `n` block rows. -/
def total (c : ℕ → FVec Ideal S6x128x128 .f32) (x : ℕ → FVec Ideal S6x128x1536 .f32) : ℕ → FVec Ideal S6x128x1536 .f32
  | 0 => broadcast S6x128x1536 (Scalar.ofBits .f32 0x00000000#32)
  | n + 1 => addf (total c x n) (dot (c n) (x n))

theorem total_apply (c : ℕ → FVec Ideal S6x128x128 .f32) (x : ℕ → FVec Ideal S6x128x1536 .f32) (n : ℕ) (b : Fin 6) (q : Fin 128) (p : Fin 1536) :
    total c x n (ix3 b q p) = ∑ i : Fin n, ∑ l : Fin 128, c i (ix3 b q l) * x i (ix3 b l p) := by
  induction n with
  | zero =>
    unfold total
    simp only [pointwise]
    rfl
  | succ n ih =>
    rw [Fin.sum_univ_castSucc]
    exact congrArg₂ (· + ·) ih (dot_apply (c n) (x n) b q p)

section Rows

variable (s : Spec.System 6)

/-- The rows of panel `i` that meet block row `j`. -/
def panel (j i : ℕ) : FVec Ideal S6x128x128 .f32 := if h : i < 11 then slab (s.c ⟨i, h⟩) (j - i - 1) else fun _ => 0

theorem panel_apply (j i : ℕ) (hi : i < j) (hj : j < 12) (b : Fin 6) (q l : Fin 128) :
    panel s j i (ix3 b q l) = s.below b i (128 * (j - i - 1) + q) l := by
  have h : i < 11 := by omega
  unfold panel Spec.System.below
  rw [dif_pos h, dif_pos h]
  exact slab_apply _ _ (by show 128 * (j - i - 1) + 128 ≤ 1408 - 128 * i; omega) b q l

/-- What is left of the right-hand side of block row `j`, the rows before it being `x`. -/
def residual (x : ℕ → FVec Ideal S6x128x1536 .f32) : ℕ → FVec Ideal S6x128x1536 .f32
  | 0 => slab s.y 0
  | j + 1 => subf (slab s.y (j + 1)) (total (panel s (j + 1)) x (j + 1))

theorem residual_apply (x : ℕ → FVec Ideal S6x128x1536 .f32) (j : ℕ) (hj : j < 12) (b : Fin 6) (q : Fin 128) (p : Fin 1536) :
    residual s x j (ix3 b q p) = s.right b p (128 * j + q) - ∑ i : Fin j, ∑ l : Fin 128, s.below b i (128 * (j - i - 1) + q) l * x i (ix3 b l p) := by
  match j with
  | 0 => exact (slab_apply _ _ (by omega) b q p).trans (sub_zero _).symm
  | j + 1 =>
    refine congrArg₂ (· - ·) (slab_apply _ _ (by omega) b q p) ?_
    rw [total_apply]
    exact Finset.sum_congr rfl fun i _ => Finset.sum_congr rfl fun l _ => congrArg (· * _) (panel_apply s (j + 1) i i.isLt hj b q l)

/-- Block rows that each are the inverse of a diagonal block times what is left of the right-hand side are the solution. -/
theorem rows_solved (x : ℕ → FVec Ideal S6x128x1536 .f32) (hx : ∀ j : Fin 12, x j = dot (slab (s.d j) 0) (residual s x j)) (j : ℕ) :
    j < 12 → ∀ (b : Fin 6) (q : Fin 128) (p : Fin 1536), x j (ix3 b q p) = Spec.solved (s.diag b) (s.below b) (s.right b p) j q := by
  induction j using Nat.strong_induction_on with
  | _ j ih =>
    intro hj b q p
    rw [hx ⟨j, hj⟩, dot_apply, Spec.solved]
    refine Finset.sum_congr rfl fun k _ => congrArg₂ (· * ·) ?_ ?_
    · rw [slab_apply _ _ (by omega), s.diag_of_lt b ⟨j, hj⟩, Spec.rowAt_of_lt _ _ _ (by have := q.isLt; omega)]
      exact congrArg (fun q => s.d ⟨j, hj⟩ (ix3 b q k)) (Fin.ext (Nat.zero_add q.val))
    · rw [residual_apply s x j hj]
      refine congrArg (_ - ·) ?_
      exact Finset.sum_congr rfl fun i _ => Finset.sum_congr rfl fun l _ => congrArg (_ * ·) (ih i i.isLt (by have := i.isLt; omega) b l p)

end Rows

section Result

variable (a0 : Vec Ideal S6x1536x1536 .f32) (a1 : Vec Ideal S6x128x128 .f32) (a2 : Vec Ideal S6x128x128 .f32) (a3 : Vec Ideal S6x128x128 .f32) (a4 : Vec Ideal S6x128x128 .f32) (a5 : Vec Ideal S6x128x128 .f32) (a6 : Vec Ideal S6x128x128 .f32) (a7 : Vec Ideal S6x128x128 .f32) (a8 : Vec Ideal S6x128x128 .f32) (a9 : Vec Ideal S6x128x128 .f32) (a10 : Vec Ideal S6x128x128 .f32) (a11 : Vec Ideal S6x128x128 .f32) (a12 : Vec Ideal S6x128x128 .f32) (a13 : Vec Ideal S6x1408x128 .f32) (a14 : Vec Ideal S6x1280x128 .f32) (a15 : Vec Ideal S6x1152x128 .f32) (a16 : Vec Ideal S6x1024x128 .f32) (a17 : Vec Ideal S6x896x128 .f32) (a18 : Vec Ideal S6x768x128 .f32) (a19 : Vec Ideal S6x640x128 .f32) (a20 : Vec Ideal S6x512x128 .f32) (a21 : Vec Ideal S6x384x128 .f32) (a22 : Vec Ideal S6x256x128 .f32) (a23 : Vec Ideal S6x128x128 .f32)

/-- The arguments as a system. -/
abbrev system : Spec.System 6 := .of a0 a1 a2 a3 a4 a5 a6 a7 a8 a9 a10 a11 a12 a13 a14 a15 a16 a17 a18 a19 a20 a21 a22 a23

/-- The block rows the reference computes. -/
def row : ℕ → FVec Ideal S6x128x1536 .f32
  | 0 => k0_pay21 a0 a1 a2 a3 a4 a5 a6 a7 a8 a9 a10 a11 a12 a13 a14 a15 a16 a17 a18 a19 a20 a21 a22 a23
  | 1 => k0_pay22 a0 a1 a2 a3 a4 a5 a6 a7 a8 a9 a10 a11 a12 a13 a14 a15 a16 a17 a18 a19 a20 a21 a22 a23
  | 2 => k0_pay23 a0 a1 a2 a3 a4 a5 a6 a7 a8 a9 a10 a11 a12 a13 a14 a15 a16 a17 a18 a19 a20 a21 a22 a23
  | 3 => k0_pay24 a0 a1 a2 a3 a4 a5 a6 a7 a8 a9 a10 a11 a12 a13 a14 a15 a16 a17 a18 a19 a20 a21 a22 a23
  | 4 => k0_pay26 a0 a1 a2 a3 a4 a5 a6 a7 a8 a9 a10 a11 a12 a13 a14 a15 a16 a17 a18 a19 a20 a21 a22 a23
  | 5 => k0_pay27 a0 a1 a2 a3 a4 a5 a6 a7 a8 a9 a10 a11 a12 a13 a14 a15 a16 a17 a18 a19 a20 a21 a22 a23
  | 6 => k0_pay28 a0 a1 a2 a3 a4 a5 a6 a7 a8 a9 a10 a11 a12 a13 a14 a15 a16 a17 a18 a19 a20 a21 a22 a23
  | 7 => k0_pay29 a0 a1 a2 a3 a4 a5 a6 a7 a8 a9 a10 a11 a12 a13 a14 a15 a16 a17 a18 a19 a20 a21 a22 a23
  | 8 => k0_pay30 a0 a1 a2 a3 a4 a5 a6 a7 a8 a9 a10 a11 a12 a13 a14 a15 a16 a17 a18 a19 a20 a21 a22 a23
  | 9 => k0_pay31 a0 a1 a2 a3 a4 a5 a6 a7 a8 a9 a10 a11 a12 a13 a14 a15 a16 a17 a18 a19 a20 a21 a22 a23
  | 10 => k0_pay17 (k0_pay26 a0 a1 a2 a3 a4 a5 a6 a7 a8 a9 a10 a11 a12 a13 a14 a15 a16 a17 a18 a19 a20 a21 a22 a23) (k0_pay27 a0 a1 a2 a3 a4 a5 a6 a7 a8 a9 a10 a11 a12 a13 a14 a15 a16 a17 a18 a19 a20 a21 a22 a23) (k0_pay28 a0 a1 a2 a3 a4 a5 a6 a7 a8 a9 a10 a11 a12 a13 a14 a15 a16 a17 a18 a19 a20 a21 a22 a23) (k0_pay29 a0 a1 a2 a3 a4 a5 a6 a7 a8 a9 a10 a11 a12 a13 a14 a15 a16 a17 a18 a19 a20 a21 a22 a23) (k0_pay30 a0 a1 a2 a3 a4 a5 a6 a7 a8 a9 a10 a11 a12 a13 a14 a15 a16 a17 a18 a19 a20 a21 a22 a23) (k0_pay31 a0 a1 a2 a3 a4 a5 a6 a7 a8 a9 a10 a11 a12 a13 a14 a15 a16 a17 a18 a19 a20 a21 a22 a23) (View.ld a0 r0_56) (k0_pay16 (k0_pay21 a0 a1 a2 a3 a4 a5 a6 a7 a8 a9 a10 a11 a12 a13 a14 a15 a16 a17 a18 a19 a20 a21 a22 a23) (k0_pay22 a0 a1 a2 a3 a4 a5 a6 a7 a8 a9 a10 a11 a12 a13 a14 a15 a16 a17 a18 a19 a20 a21 a22 a23) (k0_pay23 a0 a1 a2 a3 a4 a5 a6 a7 a8 a9 a10 a11 a12 a13 a14 a15 a16 a17 a18 a19 a20 a21 a22 a23) (k0_pay24 a0 a1 a2 a3 a4 a5 a6 a7 a8 a9 a10 a11 a12 a13 a14 a15 a16 a17 a18 a19 a20 a21 a22 a23) (View.ld a13 r0_57) (View.ld a14 r0_58) (View.ld a15 r0_59) (View.ld a16 r0_60)) (View.ld a17 r0_61) (View.ld a18 r0_62) (View.ld a19 r0_63) (View.ld a20 r0_64) (View.ld a21 r0_65) (View.ld a22 r0_66) (View.ld a11 r0_1)
  | _ => dot (View.ld a12 r0_1) (subf (View.ld a0 r0_67) (addf (addf (k0_pay19 (k0_pay22 a0 a1 a2 a3 a4 a5 a6 a7 a8 a9 a10 a11 a12 a13 a14 a15 a16 a17 a18 a19 a20 a21 a22 a23) (k0_pay23 a0 a1 a2 a3 a4 a5 a6 a7 a8 a9 a10 a11 a12 a13 a14 a15 a16 a17 a18 a19 a20 a21 a22 a23) (k0_pay24 a0 a1 a2 a3 a4 a5 a6 a7 a8 a9 a10 a11 a12 a13 a14 a15 a16 a17 a18 a19 a20 a21 a22 a23) (k0_pay26 a0 a1 a2 a3 a4 a5 a6 a7 a8 a9 a10 a11 a12 a13 a14 a15 a16 a17 a18 a19 a20 a21 a22 a23) (k0_pay27 a0 a1 a2 a3 a4 a5 a6 a7 a8 a9 a10 a11 a12 a13 a14 a15 a16 a17 a18 a19 a20 a21 a22 a23) (k0_pay28 a0 a1 a2 a3 a4 a5 a6 a7 a8 a9 a10 a11 a12 a13 a14 a15 a16 a17 a18 a19 a20 a21 a22 a23) (k0_pay29 a0 a1 a2 a3 a4 a5 a6 a7 a8 a9 a10 a11 a12 a13 a14 a15 a16 a17 a18 a19 a20 a21 a22 a23) (k0_pay30 a0 a1 a2 a3 a4 a5 a6 a7 a8 a9 a10 a11 a12 a13 a14 a15 a16 a17 a18 a19 a20 a21 a22 a23) (k0_pay18 (k0_pay21 a0 a1 a2 a3 a4 a5 a6 a7 a8 a9 a10 a11 a12 a13 a14 a15 a16 a17 a18 a19 a20 a21 a22 a23) (View.ld a13 r0_68)) (View.ld a14 r0_69) (View.ld a15 r0_70) (View.ld a16 r0_71) (View.ld a17 r0_72) (View.ld a18 r0_73) (View.ld a19 r0_74) (View.ld a20 r0_75) (View.ld a21 r0_76)) (k0_pay20 (k0_pay31 a0 a1 a2 a3 a4 a5 a6 a7 a8 a9 a10 a11 a12 a13 a14 a15 a16 a17 a18 a19 a20 a21 a22 a23) (View.ld a22 r0_77))) (dot (View.ld a23 r0_1) (k0_pay17 (k0_pay26 a0 a1 a2 a3 a4 a5 a6 a7 a8 a9 a10 a11 a12 a13 a14 a15 a16 a17 a18 a19 a20 a21 a22 a23) (k0_pay27 a0 a1 a2 a3 a4 a5 a6 a7 a8 a9 a10 a11 a12 a13 a14 a15 a16 a17 a18 a19 a20 a21 a22 a23) (k0_pay28 a0 a1 a2 a3 a4 a5 a6 a7 a8 a9 a10 a11 a12 a13 a14 a15 a16 a17 a18 a19 a20 a21 a22 a23) (k0_pay29 a0 a1 a2 a3 a4 a5 a6 a7 a8 a9 a10 a11 a12 a13 a14 a15 a16 a17 a18 a19 a20 a21 a22 a23) (k0_pay30 a0 a1 a2 a3 a4 a5 a6 a7 a8 a9 a10 a11 a12 a13 a14 a15 a16 a17 a18 a19 a20 a21 a22 a23) (k0_pay31 a0 a1 a2 a3 a4 a5 a6 a7 a8 a9 a10 a11 a12 a13 a14 a15 a16 a17 a18 a19 a20 a21 a22 a23) (View.ld a0 r0_56) (k0_pay16 (k0_pay21 a0 a1 a2 a3 a4 a5 a6 a7 a8 a9 a10 a11 a12 a13 a14 a15 a16 a17 a18 a19 a20 a21 a22 a23) (k0_pay22 a0 a1 a2 a3 a4 a5 a6 a7 a8 a9 a10 a11 a12 a13 a14 a15 a16 a17 a18 a19 a20 a21 a22 a23) (k0_pay23 a0 a1 a2 a3 a4 a5 a6 a7 a8 a9 a10 a11 a12 a13 a14 a15 a16 a17 a18 a19 a20 a21 a22 a23) (k0_pay24 a0 a1 a2 a3 a4 a5 a6 a7 a8 a9 a10 a11 a12 a13 a14 a15 a16 a17 a18 a19 a20 a21 a22 a23) (View.ld a13 r0_57) (View.ld a14 r0_58) (View.ld a15 r0_59) (View.ld a16 r0_60)) (View.ld a17 r0_61) (View.ld a18 r0_62) (View.ld a19 r0_63) (View.ld a20 r0_64) (View.ld a21 r0_65) (View.ld a22 r0_66) (View.ld a11 r0_1)))))

theorem row_eq (j : Fin 12) : row a0 a1 a2 a3 a4 a5 a6 a7 a8 a9 a10 a11 a12 a13 a14 a15 a16 a17 a18 a19 a20 a21 a22 a23 j = dot (slab ((system a0 a1 a2 a3 a4 a5 a6 a7 a8 a9 a10 a11 a12 a13 a14 a15 a16 a17 a18 a19 a20 a21 a22 a23).d j) 0) (residual (system a0 a1 a2 a3 a4 a5 a6 a7 a8 a9 a10 a11 a12 a13 a14 a15 a16 a17 a18 a19 a20 a21 a22 a23) (row a0 a1 a2 a3 a4 a5 a6 a7 a8 a9 a10 a11 a12 a13 a14 a15 a16 a17 a18 a19 a20 a21 a22 a23) j) := by
  match j with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl

/-- The reference's block of results is the solution. -/
theorem out_eq : out0_24 a0 a1 a2 a3 a4 a5 a6 a7 a8 a9 a10 a11 a12 a13 a14 a15 a16 a17 a18 a19 a20 a21 a22 a23 = (system a0 a1 a2 a3 a4 a5 a6 a7 a8 a9 a10 a11 a12 a13 a14 a15 a16 a17 a18 a19 a20 a21 a22 a23).solution := by
  funext z
  have hz : (z 1).val < 1536 := (z 1).isLt
  unfold out0_24
  rw [View.canon_unit_zero (funext fun a => by fin_cases a <;> rfl)]
  refine (concatenate_ofFn_apply (t := S6x1536x1536) (s₁ := S6x128x1536) 1 (fun n : Fin 12 => row a0 a1 a2 a3 a4 a5 a6 a7 a8 a9 a10 a11 a12 a13 a14 a15 a16 a17 a18 a19 a20 a21 a22 a23 n)
    concatenates_S6x128x1536_S6x128x1536_S6x128x1536_S6x128x1536_S6x128x1536_S6x128x1536_S6x128x1536_S6x128x1536_S6x128x1536_S6x128x1536_S6x128x1536_S6x128x1536_S6x1536x1536_d1 rfl 128 rfl z
    ⟨(z 1).val / 128, by omega⟩ rfl (ix3 (z 0) ⟨(z 1).val % 128, Nat.mod_lt _ (by decide)⟩ (z 2)) rfl ?_).trans ?_
  · intro b hb
    match b with
    | ⟨0, _⟩ => rfl
    | ⟨1, _⟩ => exact absurd rfl hb
    | ⟨2, _⟩ => rfl
  · exact rows_solved _ _ (row_eq a0 a1 a2 a3 a4 a5 a6 a7 a8 a9 a10 a11 a12 a13 a14 a15 a16 a17 a18 a19 a20 a21 a22 a23) _ (by show (z 1).val / 128 < 12; omega) _ _ _

end Result

end Cert.SolveRefIdeal.Read
-- ==== Proof.SolveRefRun.lean ====
module

public import proofs.«01_k».proof.Proof.SolveRef

/-! # What the solve reference leaves in its result array

At the ideal values: the solution of the system its arguments hold. Its one grid point has every array
for its block. -/

@[expose] public section

set_option maxRecDepth 16384

noncomputable section

namespace Cert.SolveRefIdeal.Arrays

open Cert.SolveRefIdeal Cert.SolveRefIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The result of device `c`. -/
abbrev result (c : Dev nD) : Buf (Elt Ideal) ((c : Thread nD τ).loc main_v0) :=
  (Spec.System.of (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14)) (m ((c : Thread nD τ).loc main_arg15))
    (m ((c : Thread nD τ).loc main_arg16)) (m ((c : Thread nD τ).loc main_arg17)) (m ((c : Thread nD τ).loc main_arg18)) (m ((c : Thread nD τ).loc main_arg19))
    (m ((c : Thread nD τ).loc main_arg20)) (m ((c : Thread nD τ).loc main_arg21)) (m ((c : Thread nD τ).loc main_arg22)) (m ((c : Thread nD τ).loc main_arg23))).solution

/-- A place of a block at block index zero is the same place of the array. -/
theorem same {n0 n1 n2 : ℕ} (z y : (⟨3, ![n0, n1, n2]⟩ : Shape).Idx) (h0 : (z 0).val = 0 * n0 + 1 * (y 0).val)
    (h1 : (z 1).val = 0 * n1 + 1 * (y 1).val) (h2 : (z 2).val = 0 * n2 + 1 * (y 2).val) : z = y := by
  funext a
  match a with
  | ⟨0, _⟩ => exact Fin.ext (h0.trans (by show 0 * n0 + 1 * (y 0).val = (y 0).val; omega))
  | ⟨1, _⟩ => exact Fin.ext (h1.trans (by show 0 * n1 + 1 * (y 1).val = (y 1).val; omega))
  | ⟨2, _⟩ => exact Fin.ext (h2.trans (by show 0 * n2 + 1 * (y 2).val = (y 2).val; omega))

theorem block0 (c : Dev nD) (t : Fin cfg0.N) : iblk m c 0 t = m ((c : Thread nD τ).loc main_arg0) :=
  funext fun y => congrArg (m ((c : Thread nD τ).loc main_arg0)) (same (((cfg0.win 0).blk t).view.emb y) y rfl rfl rfl)
theorem block1 (c : Dev nD) (t : Fin cfg0.N) : iblk m c 1 t = m ((c : Thread nD τ).loc main_arg1) :=
  funext fun y => congrArg (m ((c : Thread nD τ).loc main_arg1)) (same (((cfg0.win 1).blk t).view.emb y) y rfl rfl rfl)
theorem block2 (c : Dev nD) (t : Fin cfg0.N) : iblk m c 2 t = m ((c : Thread nD τ).loc main_arg2) :=
  funext fun y => congrArg (m ((c : Thread nD τ).loc main_arg2)) (same (((cfg0.win 2).blk t).view.emb y) y rfl rfl rfl)
theorem block3 (c : Dev nD) (t : Fin cfg0.N) : iblk m c 3 t = m ((c : Thread nD τ).loc main_arg3) :=
  funext fun y => congrArg (m ((c : Thread nD τ).loc main_arg3)) (same (((cfg0.win 3).blk t).view.emb y) y rfl rfl rfl)
theorem block4 (c : Dev nD) (t : Fin cfg0.N) : iblk m c 4 t = m ((c : Thread nD τ).loc main_arg4) :=
  funext fun y => congrArg (m ((c : Thread nD τ).loc main_arg4)) (same (((cfg0.win 4).blk t).view.emb y) y rfl rfl rfl)
theorem block5 (c : Dev nD) (t : Fin cfg0.N) : iblk m c 5 t = m ((c : Thread nD τ).loc main_arg5) :=
  funext fun y => congrArg (m ((c : Thread nD τ).loc main_arg5)) (same (((cfg0.win 5).blk t).view.emb y) y rfl rfl rfl)
theorem block6 (c : Dev nD) (t : Fin cfg0.N) : iblk m c 6 t = m ((c : Thread nD τ).loc main_arg6) :=
  funext fun y => congrArg (m ((c : Thread nD τ).loc main_arg6)) (same (((cfg0.win 6).blk t).view.emb y) y rfl rfl rfl)
theorem block7 (c : Dev nD) (t : Fin cfg0.N) : iblk m c 7 t = m ((c : Thread nD τ).loc main_arg7) :=
  funext fun y => congrArg (m ((c : Thread nD τ).loc main_arg7)) (same (((cfg0.win 7).blk t).view.emb y) y rfl rfl rfl)
theorem block8 (c : Dev nD) (t : Fin cfg0.N) : iblk m c 8 t = m ((c : Thread nD τ).loc main_arg8) :=
  funext fun y => congrArg (m ((c : Thread nD τ).loc main_arg8)) (same (((cfg0.win 8).blk t).view.emb y) y rfl rfl rfl)
theorem block9 (c : Dev nD) (t : Fin cfg0.N) : iblk m c 9 t = m ((c : Thread nD τ).loc main_arg9) :=
  funext fun y => congrArg (m ((c : Thread nD τ).loc main_arg9)) (same (((cfg0.win 9).blk t).view.emb y) y rfl rfl rfl)
theorem block10 (c : Dev nD) (t : Fin cfg0.N) : iblk m c 10 t = m ((c : Thread nD τ).loc main_arg10) :=
  funext fun y => congrArg (m ((c : Thread nD τ).loc main_arg10)) (same (((cfg0.win 10).blk t).view.emb y) y rfl rfl rfl)
theorem block11 (c : Dev nD) (t : Fin cfg0.N) : iblk m c 11 t = m ((c : Thread nD τ).loc main_arg11) :=
  funext fun y => congrArg (m ((c : Thread nD τ).loc main_arg11)) (same (((cfg0.win 11).blk t).view.emb y) y rfl rfl rfl)
theorem block12 (c : Dev nD) (t : Fin cfg0.N) : iblk m c 12 t = m ((c : Thread nD τ).loc main_arg12) :=
  funext fun y => congrArg (m ((c : Thread nD τ).loc main_arg12)) (same (((cfg0.win 12).blk t).view.emb y) y rfl rfl rfl)
theorem block13 (c : Dev nD) (t : Fin cfg0.N) : iblk m c 13 t = m ((c : Thread nD τ).loc main_arg13) :=
  funext fun y => congrArg (m ((c : Thread nD τ).loc main_arg13)) (same (((cfg0.win 13).blk t).view.emb y) y rfl rfl rfl)
theorem block14 (c : Dev nD) (t : Fin cfg0.N) : iblk m c 14 t = m ((c : Thread nD τ).loc main_arg14) :=
  funext fun y => congrArg (m ((c : Thread nD τ).loc main_arg14)) (same (((cfg0.win 14).blk t).view.emb y) y rfl rfl rfl)
theorem block15 (c : Dev nD) (t : Fin cfg0.N) : iblk m c 15 t = m ((c : Thread nD τ).loc main_arg15) :=
  funext fun y => congrArg (m ((c : Thread nD τ).loc main_arg15)) (same (((cfg0.win 15).blk t).view.emb y) y rfl rfl rfl)
theorem block16 (c : Dev nD) (t : Fin cfg0.N) : iblk m c 16 t = m ((c : Thread nD τ).loc main_arg16) :=
  funext fun y => congrArg (m ((c : Thread nD τ).loc main_arg16)) (same (((cfg0.win 16).blk t).view.emb y) y rfl rfl rfl)
theorem block17 (c : Dev nD) (t : Fin cfg0.N) : iblk m c 17 t = m ((c : Thread nD τ).loc main_arg17) :=
  funext fun y => congrArg (m ((c : Thread nD τ).loc main_arg17)) (same (((cfg0.win 17).blk t).view.emb y) y rfl rfl rfl)
theorem block18 (c : Dev nD) (t : Fin cfg0.N) : iblk m c 18 t = m ((c : Thread nD τ).loc main_arg18) :=
  funext fun y => congrArg (m ((c : Thread nD τ).loc main_arg18)) (same (((cfg0.win 18).blk t).view.emb y) y rfl rfl rfl)
theorem block19 (c : Dev nD) (t : Fin cfg0.N) : iblk m c 19 t = m ((c : Thread nD τ).loc main_arg19) :=
  funext fun y => congrArg (m ((c : Thread nD τ).loc main_arg19)) (same (((cfg0.win 19).blk t).view.emb y) y rfl rfl rfl)
theorem block20 (c : Dev nD) (t : Fin cfg0.N) : iblk m c 20 t = m ((c : Thread nD τ).loc main_arg20) :=
  funext fun y => congrArg (m ((c : Thread nD τ).loc main_arg20)) (same (((cfg0.win 20).blk t).view.emb y) y rfl rfl rfl)
theorem block21 (c : Dev nD) (t : Fin cfg0.N) : iblk m c 21 t = m ((c : Thread nD τ).loc main_arg21) :=
  funext fun y => congrArg (m ((c : Thread nD τ).loc main_arg21)) (same (((cfg0.win 21).blk t).view.emb y) y rfl rfl rfl)
theorem block22 (c : Dev nD) (t : Fin cfg0.N) : iblk m c 22 t = m ((c : Thread nD τ).loc main_arg22) :=
  funext fun y => congrArg (m ((c : Thread nD τ).loc main_arg22)) (same (((cfg0.win 22).blk t).view.emb y) y rfl rfl rfl)
theorem block23 (c : Dev nD) (t : Fin cfg0.N) : iblk m c 23 t = m ((c : Thread nD τ).loc main_arg23) :=
  funext fun y => congrArg (m ((c : Thread nD τ).loc main_arg23)) (same (((cfg0.win 23).blk t).view.emb y) y rfl rfl rfl)

theorem place (t : Fin cfg0.N) (y : S6x1536x1536.Idx) : ((cfg0.win 24).blk t).view.emb y = y := same _ y rfl rfl rfl

/-- What the point writes back is the result. -/
theorem flushed (c : Dev nD) (t : Fin cfg0.N) :
    (dats m 0 c).flushed 24 t = ((cfg0.win 24).blk t).view.read (Elt Ideal) (result m c) := by
  show (cfg0.win 24).cut (grid0.coords t) ((dats m 0 c).after 24 t) = _
  rw [after0_24, Read.out_eq, block0, block1, block2, block3, block4, block5, block6, block7, block8, block9, block10, block11, block12, block13, block14, block15, block16, block17, block18, block19, block20, block21, block22, block23]
  generalize hG : result m c = G
  funext y
  show result m c y = G (((cfg0.win 24).blk t).view.emb y)
  rw [place, hG]

theorem cover (i : S6x1536x1536.Idx) : ∃ t : Fin cfg0.N, (cfg0.win 24).flush t = true ∧ i ∈ ((cfg0.win 24).blk t).view.set :=
  ⟨t0_0, flush0_24 _, by have h := ((cfg0.win 24).blk t0_0).view.emb_mem_set i; rwa [place] at h⟩

theorem final (c : Dev nD) : (dats m 0 c).arrAt 24 cfg0.N = result m c :=
  (dats m 0 c).arrAt_eq_of_cover 24 (result m c) (fun t _ => flushed m c t) cover

theorem stored (r : PUnit × MemSt nD τ sig (Elt Ideal)) (h : Pipeline.FramePost cfgs (dats m) 0 (V m) r) (c : Dev nD) :
    r.2.mem ((c : Thread nD τ).loc main_v0) = result m c :=
  ((h c).1 24).trans (final m c)

theorem kept0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

theorem kept5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

theorem kept6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

theorem kept7 (r : PUnit × MemSt nD τ sig (Elt Ideal)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

theorem kept8 (r : PUnit × MemSt nD τ sig (Elt Ideal)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

theorem kept9 (r : PUnit × MemSt nD τ sig (Elt Ideal)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

theorem kept10 (r : PUnit × MemSt nD τ sig (Elt Ideal)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))

theorem kept11 (r : PUnit × MemSt nD τ sig (Elt Ideal)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))

theorem kept12 (r : PUnit × MemSt nD τ sig (Elt Ideal)) (h : Pipeline.FramePost cfgs (dats m) 0 (V m) r) (c : Dev nD) :
    r.2.mem ((c : Thread nD τ).loc main_arg12) = m ((c : Thread nD τ).loc main_arg12) :=
  ((h c).1 12).trans (((dats m 0 c).arrAt_in 12 rfl _).trans ((A_eq m c 12).trans (V_main_arg12 m c)))

theorem kept13 (r : PUnit × MemSt nD τ sig (Elt Ideal)) (h : Pipeline.FramePost cfgs (dats m) 0 (V m) r) (c : Dev nD) :
    r.2.mem ((c : Thread nD τ).loc main_arg13) = m ((c : Thread nD τ).loc main_arg13) :=
  ((h c).1 13).trans (((dats m 0 c).arrAt_in 13 rfl _).trans ((A_eq m c 13).trans (V_main_arg13 m c)))

theorem kept14 (r : PUnit × MemSt nD τ sig (Elt Ideal)) (h : Pipeline.FramePost cfgs (dats m) 0 (V m) r) (c : Dev nD) :
    r.2.mem ((c : Thread nD τ).loc main_arg14) = m ((c : Thread nD τ).loc main_arg14) :=
  ((h c).1 14).trans (((dats m 0 c).arrAt_in 14 rfl _).trans ((A_eq m c 14).trans (V_main_arg14 m c)))

theorem kept15 (r : PUnit × MemSt nD τ sig (Elt Ideal)) (h : Pipeline.FramePost cfgs (dats m) 0 (V m) r) (c : Dev nD) :
    r.2.mem ((c : Thread nD τ).loc main_arg15) = m ((c : Thread nD τ).loc main_arg15) :=
  ((h c).1 15).trans (((dats m 0 c).arrAt_in 15 rfl _).trans ((A_eq m c 15).trans (V_main_arg15 m c)))

theorem kept16 (r : PUnit × MemSt nD τ sig (Elt Ideal)) (h : Pipeline.FramePost cfgs (dats m) 0 (V m) r) (c : Dev nD) :
    r.2.mem ((c : Thread nD τ).loc main_arg16) = m ((c : Thread nD τ).loc main_arg16) :=
  ((h c).1 16).trans (((dats m 0 c).arrAt_in 16 rfl _).trans ((A_eq m c 16).trans (V_main_arg16 m c)))

theorem kept17 (r : PUnit × MemSt nD τ sig (Elt Ideal)) (h : Pipeline.FramePost cfgs (dats m) 0 (V m) r) (c : Dev nD) :
    r.2.mem ((c : Thread nD τ).loc main_arg17) = m ((c : Thread nD τ).loc main_arg17) :=
  ((h c).1 17).trans (((dats m 0 c).arrAt_in 17 rfl _).trans ((A_eq m c 17).trans (V_main_arg17 m c)))

theorem kept18 (r : PUnit × MemSt nD τ sig (Elt Ideal)) (h : Pipeline.FramePost cfgs (dats m) 0 (V m) r) (c : Dev nD) :
    r.2.mem ((c : Thread nD τ).loc main_arg18) = m ((c : Thread nD τ).loc main_arg18) :=
  ((h c).1 18).trans (((dats m 0 c).arrAt_in 18 rfl _).trans ((A_eq m c 18).trans (V_main_arg18 m c)))

theorem kept19 (r : PUnit × MemSt nD τ sig (Elt Ideal)) (h : Pipeline.FramePost cfgs (dats m) 0 (V m) r) (c : Dev nD) :
    r.2.mem ((c : Thread nD τ).loc main_arg19) = m ((c : Thread nD τ).loc main_arg19) :=
  ((h c).1 19).trans (((dats m 0 c).arrAt_in 19 rfl _).trans ((A_eq m c 19).trans (V_main_arg19 m c)))

theorem kept20 (r : PUnit × MemSt nD τ sig (Elt Ideal)) (h : Pipeline.FramePost cfgs (dats m) 0 (V m) r) (c : Dev nD) :
    r.2.mem ((c : Thread nD τ).loc main_arg20) = m ((c : Thread nD τ).loc main_arg20) :=
  ((h c).1 20).trans (((dats m 0 c).arrAt_in 20 rfl _).trans ((A_eq m c 20).trans (V_main_arg20 m c)))

theorem kept21 (r : PUnit × MemSt nD τ sig (Elt Ideal)) (h : Pipeline.FramePost cfgs (dats m) 0 (V m) r) (c : Dev nD) :
    r.2.mem ((c : Thread nD τ).loc main_arg21) = m ((c : Thread nD τ).loc main_arg21) :=
  ((h c).1 21).trans (((dats m 0 c).arrAt_in 21 rfl _).trans ((A_eq m c 21).trans (V_main_arg21 m c)))

theorem kept22 (r : PUnit × MemSt nD τ sig (Elt Ideal)) (h : Pipeline.FramePost cfgs (dats m) 0 (V m) r) (c : Dev nD) :
    r.2.mem ((c : Thread nD τ).loc main_arg22) = m ((c : Thread nD τ).loc main_arg22) :=
  ((h c).1 22).trans (((dats m 0 c).arrAt_in 22 rfl _).trans ((A_eq m c 22).trans (V_main_arg22 m c)))

theorem kept23 (r : PUnit × MemSt nD τ sig (Elt Ideal)) (h : Pipeline.FramePost cfgs (dats m) 0 (V m) r) (c : Dev nD) :
    r.2.mem ((c : Thread nD τ).loc main_arg23) = m ((c : Thread nD τ).loc main_arg23) :=
  ((h c).1 23).trans (((dats m 0 c).arrAt_in 23 rfl _).trans ((A_eq m c 23).trans (V_main_arg23 m c)))

/-- The run: the result as a function of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23) :=
  (θ_run defs _ _).mono (fun r h c => ⟨stored m r h c,
      kept0 m r h c, kept1 m r h c, kept2 m r h c, kept3 m r h c, kept4 m r h c, kept5 m r h c, kept6 m r h c, kept7 m r h c, kept8 m r h c, kept9 m r h c, kept10 m r h c, kept11 m r h c, kept12 m r h c, kept13 m r h c, kept14 m r h c, kept15 m r h c, kept16 m r h c, kept17 m r h c, kept18 m r h c, kept19 m r h c, kept20 m r h c, kept21 m r h c, kept22 m r h c, kept23 m r h c⟩)
    (run_main m ρ)

end Cert.SolveRefIdeal.Arrays
-- ==== Proof.SolvePre.lean ====
module

public import proofs.«01_k».proof.Proof.SolveSpec
public import proofs.«01_k».proof.Proof.PowerPre
public import proofs.«01_k».proof.Proof.Gen.Pre_finite_system

/-! # What the precondition of the solve claim says

Every number of the system is a real number. -/

@[expose] public section

set_option maxRecDepth 16384

noncomputable section

namespace Cert.Pre_finite_system.Read

open Idealize.ShloMosaic

/-- Two conditions hold where their conjunction does. -/
theorem both (p q : IVec S_ 1) (h : andi p q ix0 = 1#1) : p ix0 = 1#1 ∧ q ix0 = 1#1 := by
  have e : ∀ x y : BitVec 1, x &&& y = 1#1 → x = 1#1 ∧ y = 1#1 := by decide
  exact e _ _ h

/-- The condition of one argument. -/
theorem finite_of {s : Shape} (a : FVec Ideal s .f32) (hb : S_.BroadcastsInDim s (![] : Fin 0 → Fin s.rank)) (dims : List (Fin s.rank))
    (hr : s.ReducesTo dims S_) (h0 : 0 < S_.numel)
    (h : Host.reduce IntOp.andi (cmpf .olt (Host.absf a) (broadcastInDim s ![] hb (constant S_ .f32 0x7F800000#32))) (constantI S_ 1 1#1) hr h0 ix0 = 1#1) :
    Spec.Finite (ι := s.Idx) a := by
  intro y
  have e := Host.reduce_andi_all _ _ _ _ _ h y
  simp only [pointwise] at e
  exact Spec.finite_of_below (a y) e

theorem finite (a0 : FVec Ideal S6x1536x1536 .f32) (a1 a2 a3 a4 a5 a6 a7 a8 a9 a10 a11 a12 : FVec Ideal S6x128x128 .f32)
    (a13 : FVec Ideal S6x1408x128 .f32) (a14 : FVec Ideal S6x1280x128 .f32) (a15 : FVec Ideal S6x1152x128 .f32) (a16 : FVec Ideal S6x1024x128 .f32) (a17 : FVec Ideal S6x896x128 .f32) (a18 : FVec Ideal S6x768x128 .f32)
    (a19 : FVec Ideal S6x640x128 .f32) (a20 : FVec Ideal S6x512x128 .f32) (a21 : FVec Ideal S6x384x128 .f32) (a22 : FVec Ideal S6x256x128 .f32) (a23 : FVec Ideal S6x128x128 .f32)
    (h : (letI := Gen.facts; fn (F := Ideal) a0 a1 a2 a3 a4 a5 a6 a7 a8 a9 a10 a11 a12 a13 a14 a15 a16 a17 a18 a19 a20 a21 a22 a23) = fun _ => 1#1) : (Spec.System.of a0 a1 a2 a3 a4 a5 a6 a7 a8 a9 a10 a11 a12 a13 a14 a15 a16 a17 a18 a19 a20 a21 a22 a23).AllFinite := by
  letI := Gen.facts
  have e := congrFun h ix0
  obtain ⟨e, e23⟩ := both _ _ e
  obtain ⟨e, e22⟩ := both _ _ e
  obtain ⟨e, e21⟩ := both _ _ e
  obtain ⟨e, e20⟩ := both _ _ e
  obtain ⟨e, e19⟩ := both _ _ e
  obtain ⟨e, e18⟩ := both _ _ e
  obtain ⟨e, e17⟩ := both _ _ e
  obtain ⟨e, e16⟩ := both _ _ e
  obtain ⟨e, e15⟩ := both _ _ e
  obtain ⟨e, e14⟩ := both _ _ e
  obtain ⟨e, e13⟩ := both _ _ e
  obtain ⟨e, e12⟩ := both _ _ e
  obtain ⟨e, e11⟩ := both _ _ e
  obtain ⟨e, e10⟩ := both _ _ e
  obtain ⟨e, e9⟩ := both _ _ e
  obtain ⟨e, e8⟩ := both _ _ e
  obtain ⟨e, e7⟩ := both _ _ e
  obtain ⟨e, e6⟩ := both _ _ e
  obtain ⟨e, e5⟩ := both _ _ e
  obtain ⟨e, e4⟩ := both _ _ e
  obtain ⟨e, e3⟩ := both _ _ e
  obtain ⟨e, e2⟩ := both _ _ e
  obtain ⟨e, e1⟩ := both _ _ e
  exact {
    y := finite_of a0 _ _ _ _ e
    d := fun j => match j with
      | ⟨0, _⟩ => finite_of a1 _ _ _ _ e1
      | ⟨1, _⟩ => finite_of a2 _ _ _ _ e2
      | ⟨2, _⟩ => finite_of a3 _ _ _ _ e3
      | ⟨3, _⟩ => finite_of a4 _ _ _ _ e4
      | ⟨4, _⟩ => finite_of a5 _ _ _ _ e5
      | ⟨5, _⟩ => finite_of a6 _ _ _ _ e6
      | ⟨6, _⟩ => finite_of a7 _ _ _ _ e7
      | ⟨7, _⟩ => finite_of a8 _ _ _ _ e8
      | ⟨8, _⟩ => finite_of a9 _ _ _ _ e9
      | ⟨9, _⟩ => finite_of a10 _ _ _ _ e10
      | ⟨10, _⟩ => finite_of a11 _ _ _ _ e11
      | ⟨11, _⟩ => finite_of a12 _ _ _ _ e12
    c := fun i => match i with
      | ⟨0, _⟩ => finite_of a13 _ _ _ _ e13
      | ⟨1, _⟩ => finite_of a14 _ _ _ _ e14
      | ⟨2, _⟩ => finite_of a15 _ _ _ _ e15
      | ⟨3, _⟩ => finite_of a16 _ _ _ _ e16
      | ⟨4, _⟩ => finite_of a17 _ _ _ _ e17
      | ⟨5, _⟩ => finite_of a18 _ _ _ _ e18
      | ⟨6, _⟩ => finite_of a19 _ _ _ _ e19
      | ⟨7, _⟩ => finite_of a20 _ _ _ _ e20
      | ⟨8, _⟩ => finite_of a21 _ _ _ _ e21
      | ⟨9, _⟩ => finite_of a22 _ _ _ _ e22
      | ⟨10, _⟩ => finite_of a23 _ _ _ _ e23
  }

end Cert.Pre_finite_system.Read
-- ==== Proof.lean ====
module

public import proofs.«01_k».proof.Defs
public import proofs.«01_k».proof.Proof.Gen.Rotate.Frame
public import proofs.«01_k».proof.Proof.Gen.Power.Frame
public import proofs.«01_k».proof.Proof.KernelValue
public import proofs.«01_k».proof.Proof.RefRead
public import proofs.«01_k».proof.Proof.Gen.PowerRight.Frame
public import proofs.«01_k».proof.Proof.PowerValue
public import proofs.«01_k».proof.Proof.PowerRef
public import proofs.«01_k».proof.Proof.PowerRightValue
public import proofs.«01_k».proof.Proof.PowerRightRef
public import proofs.«01_k».proof.Proof.PowerPre
public import proofs.«01_k».proof.Proof.SolveFrame
public import proofs.«01_k».proof.Proof.SolveValue
public import proofs.«01_k».proof.Proof.SolveRefRun
public import proofs.«01_k».proof.Proof.SolvePre

@[expose] public section

noncomputable section

namespace Cert.Proof

open Idealize.ShloMosaic Idealize.SL.Sem

/-- Over the extended reals the kernel's results are the reference's, and both leave the arguments. -/
theorem algebraic : Cert.algebraic_RotateIdeal_RotateRefIdeal (hRotateIdeal := Cert.RotateIdeal.Gen.facts)
    (hRotateRefIdeal := Cert.RotateRefIdeal.Gen.facts) := by
  intro m g m' g' _ hag
  refine ⟨RotateIdeal.Arrays.left m, RotateIdeal.Arrays.right m, RotateIdeal.Arrays.codes m, RotateIdeal.Arrays.scales m,
    RotateIdeal.Arrays.run m g, (θ_run _ _ _).mono (fun r h c => ?_) (RotateRefIdeal.Read.run m' g')⟩
  obtain ⟨e0, e1, e2, e3, e4, e5⟩ := hag c
  obtain ⟨r0, r1, r2, r3, rest⟩ := h c
  rw [e0] at r0
  rw [e1] at r1
  rw [e0, e1, e2, e3, e4, e5] at r2 r3
  exact ⟨r0, r1, r2, r3, rest⟩

/-- The same of the left side's power step, where the second-moment matrices are finite. -/
theorem algebraic_power : Cert.algebraic_PowerIdeal_PowerRefIdeal_pre_finite_stat (hPowerIdeal := Cert.PowerIdeal.Gen.facts)
    (hPowerRefIdeal := Cert.PowerRefIdeal.Gen.facts) (hPre_finite_stat := Cert.Pre_finite_stat.Gen.facts) := by
  intro m g m' g' hpre hag
  have hfin := fun c => Pre_finite_stat.Read.finite _ _ (hpre c)
  refine ⟨PowerIdeal.Arrays.powers m, PowerIdeal.Arrays.run m g hfin,
    (θ_run _ _ _).mono (fun r h c => ?_) (PowerRefIdeal.Read.run m' g')⟩
  obtain ⟨e0, e1⟩ := hag c
  obtain ⟨r0, rest⟩ := h c
  rw [e0, e1] at r0
  exact ⟨r0, rest⟩

/-- The same of the right side's power step, where the second-moment matrices are finite. -/
theorem algebraic_power_right : Cert.algebraic_PowerRightIdeal_PowerRightRefIdeal_pre_finite_right (hPowerRightIdeal := Cert.PowerRightIdeal.Gen.facts)
    (hPowerRightRefIdeal := Cert.PowerRightRefIdeal.Gen.facts) (hPre_finite_right := Cert.Pre_finite_right.Gen.facts) := by
  intro m g m' g' hpre hag
  have hfin := fun c => Pre_finite_right.Read.finite _ _ (hpre c)
  refine ⟨PowerRightIdeal.Arrays.powers m, PowerRightIdeal.Arrays.run m g hfin,
    (θ_run _ _ _).mono (fun r h c => ?_) (PowerRightRefIdeal.Read.run m' g')⟩
  obtain ⟨e0, e1⟩ := hag c
  obtain ⟨r0, rest⟩ := h c
  rw [e0, e1] at r0
  exact ⟨r0, rest⟩

/-- The same of the left side's triangular solve, where its arguments are finite. -/
theorem algebraic_solve : Cert.algebraic_SolveIdeal_SolveRefIdeal_pre_finite_system (hSolveIdeal := Cert.SolveIdeal.Gen.facts)
    (hSolveRefIdeal := Cert.SolveRefIdeal.Gen.facts) (hPre_finite_system := Cert.Pre_finite_system.Gen.facts) := by
  intro m g m' g' hpre hag
  have hfin := fun c => Pre_finite_system.Read.finite _ _ _ _ _ _ _ _ _ _ _ _ _ _ _ _ _ _ _ _ _ _ _ _ (hpre c)
  refine ⟨SolveIdeal.Arrays.result m, SolveIdeal.Arrays.run m g hfin,
    (θ_run _ _ _).mono (fun r h c => ?_) (SolveRefIdeal.Arrays.run m' g')⟩
  obtain ⟨e0, e1, e2, e3, e4, e5, e6, e7, e8, e9, e10, e11, e12, e13, e14, e15, e16, e17, e18, e19, e20, e21, e22, e23⟩ := hag c
  obtain ⟨r0, rest⟩ := h c
  refine ⟨r0.trans ?_, rest⟩
  unfold SolveRefIdeal.Arrays.result
  rw [e0, e1, e2, e3, e4, e5, e6, e7, e8, e9, e10, e11, e12, e13, e14, e15, e16, e17, e18, e19, e20, e21, e22, e23]

/-- The solve masks blocks of twelve shapes; each is read by the same rule. -/
theorem preserves_solve : Cert.preserves_Solve_SolveIdeal :=
  ⟨IdealRules.bf16_pack.statement _, IdealRules.bf16_pack.statement _, IdealRules.bf16_pack.statement _,
    IdealRules.bf16_pack.statement _, IdealRules.bf16_pack.statement _, IdealRules.bf16_pack.statement _,
    IdealRules.bf16_pack.statement _, IdealRules.bf16_pack.statement _, IdealRules.bf16_pack.statement _,
    IdealRules.bf16_pack.statement _, IdealRules.bf16_pack.statement _, IdealRules.bf16_pack.statement _⟩

theorem claim : Cert.Claim :=
  ⟨Cert.Rotate.Gen.facts, Cert.RotateIdeal.Gen.facts, Cert.RotateRefIdeal.Gen.facts,
    Cert.Power.Gen.facts, Cert.PowerIdeal.Gen.facts, Cert.PowerRefIdeal.Gen.facts,
    Cert.PowerRight.Gen.facts, Cert.PowerRightIdeal.Gen.facts, Cert.PowerRightRefIdeal.Gen.facts,
    Cert.Solve.Gen.facts, Cert.SolveIdeal.Gen.facts, Cert.SolveRefIdeal.Gen.facts,
    Cert.Pre_finite_stat.Gen.facts, Cert.Pre_finite_right.Gen.facts, Cert.Pre_finite_system.Gen.facts,
    fun m ρ _ => Cert.Rotate.Gen.frame m ρ, fun m ρ _ => Cert.RotateIdeal.Gen.frame m ρ,
    fun m ρ _ => Cert.RotateRefIdeal.Gen.frame m ρ,
    fun m ρ _ => Cert.Power.Gen.frame m ρ, fun m ρ _ => Cert.PowerIdeal.Gen.frame m ρ, fun m ρ _ => Cert.PowerIdeal.Gen.frame m ρ,
    fun m ρ _ => Cert.PowerRefIdeal.Gen.frame m ρ, fun m ρ _ => Cert.PowerRefIdeal.Gen.frame m ρ,
    fun m ρ _ => Cert.PowerRight.Gen.frame m ρ, fun m ρ _ => Cert.PowerRightIdeal.Gen.frame m ρ, fun m ρ _ => Cert.PowerRightIdeal.Gen.frame m ρ,
    fun m ρ _ => Cert.PowerRightRefIdeal.Gen.frame m ρ, fun m ρ _ => Cert.PowerRightRefIdeal.Gen.frame m ρ,
    fun m ρ _ => Cert.Solve.Gen.frame m ρ, fun m ρ _ => Cert.SolveIdeal.Gen.frame m ρ, fun m ρ _ => Cert.SolveIdeal.Gen.frame m ρ,
    fun m ρ _ => Cert.SolveRefIdeal.Gen.frame m ρ, fun m ρ _ => Cert.SolveRefIdeal.Gen.frame m ρ,
    trivial, algebraic, IdealRules.bf16_pack.statement _, algebraic_power, IdealRules.bf16_pack.statement _, algebraic_power_right,
    preserves_solve, algebraic_solve⟩

end Cert.Proof

end
